-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable [hPre_routable : Cert.Pre_routable.Facts] (m : (ℓ : Loc Cert.KernelIdeal.nD Cert.KernelIdeal.τ Cert.KernelIdeal.sig) → Buf (Elt Ideal) ℓ) : Prop :=
  ∀ c : Dev Cert.KernelIdeal.nD,
    (Cert.Pre_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable [hPre_routable : Cert.Pre_routable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_routable [hKernelIdeal : Cert.KernelIdeal.Facts] [hPre_routable : Cert.Pre_routable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_routable [hReferenceIdeal : Cert.ReferenceIdeal.Facts] [hPre_routable : Cert.Pre_routable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_sqrt_dh" .f32 0x3D93CD3A#32 (((Real.sqrt 192)⁻¹ : ℝ) : EReal)
  ∧ IdealRules.named_const.Statement Cert.KernelIdeal.κ "sqrt_two" .f32 0x3FB504F3#32 ((Real.sqrt 2 : ℝ) : EReal)

def algebraic_KernelIdeal_ReferenceIdeal_pre_routable [hKernelIdeal : Cert.KernelIdeal.Facts] [hReferenceIdeal : Cert.ReferenceIdeal.Facts] [hPre_routable : Cert.Pre_routable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_routable : Cert.Pre_routable.Facts),
    quiescent_Kernel (hKernel := hKernel)
    ∧ quiescent_KernelIdeal (hKernelIdeal := hKernelIdeal)
    ∧ quiescent_KernelIdeal_pre_routable (hKernelIdeal := hKernelIdeal) (hPre_routable := hPre_routable)
    ∧ quiescent_ReferenceIdeal (hReferenceIdeal := hReferenceIdeal)
    ∧ quiescent_ReferenceIdeal_pre_routable (hReferenceIdeal := hReferenceIdeal) (hPre_routable := hPre_routable)
    ∧ preserves_Kernel_KernelIdeal
    ∧ algebraic_KernelIdeal_ReferenceIdeal_pre_routable (hKernelIdeal := hKernelIdeal) (hReferenceIdeal := hReferenceIdeal) (hPre_routable := hPre_routable)
-- ==== Pre_routable.lean ====
abbrev S1x2048x768 : Shape := ⟨3, ![1, 2048, 768]⟩
abbrev S16x768 : Shape := ⟨2, ![16, 768]⟩
abbrev S16x4096x768 : Shape := ⟨3, ![16, 4096, 768]⟩
abbrev S16x768x2048 : Shape := ⟨3, ![16, 768, 2048]⟩
abbrev S1x1x768 : Shape := ⟨3, ![1, 1, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S1x768 : Shape := ⟨2, ![1, 768]⟩
abbrev S1 : Shape := ⟨1, ![1]⟩
abbrev S2048x768 : Shape := ⟨2, ![2048, 768]⟩
abbrev S768x16 : Shape := ⟨2, ![768, 16]⟩
abbrev S2048x16 : Shape := ⟨2, ![2048, 16]⟩
abbrev S_ : Shape := ⟨0, ![]⟩
abbrev S2048 : Shape := ⟨1, ![2048]⟩

class Facts : Prop where
  shapeCasts_S1x2048x768_S2048x768 : S1x2048x768.ShapeCasts S2048x768
  transposes_S16x768_S768x16_1_0 : S16x768.Transposes [1, 0] S768x16
  reducesTo_S2048x16_S2048_d1 : S2048x16.ReducesTo [1] S2048
  h_S_ : 0 < S_.numel
  bcast_S_S2048 : S_.BroadcastsInDim S2048 (![] : Fin 0 → Fin S2048.rank)
  dot_S2048x768_S768x16_S2048x16_1_0_0_1_n_n_wf : DotDims.WF S2048x768 S768x16 S2048x16 [1] [0] [0] [1] [] []

variable [Facts]

def dot_S2048x768_S768x16_S2048x16_1_0_0_1_n_n : DotDims S2048x768 S768x16 S2048x16 where
  lhsContracting := [1]
  rhsContracting := [0]
  lhsNonContracting := [0]
  rhsNonContracting := [1]
  lhsBatch := []
  rhsBatch := []
  wf := dot_S2048x768_S768x16_S2048x16_1_0_0_1_n_n_wf
def fn {F : FTy → Type} [FloatOps F] (main_arg0 : FVec F S1x2048x768 .f32) (main_arg1 : FVec F S16x768 .f32) (main_arg2 : FVec F S16x4096x768 .f32) (main_arg3 : FVec F S16x768x2048 .f32) (main_arg4 : FVec F S1x1x768 .f32) (main_arg5 : FVec F S2304x768 .f32) (main_arg6 : FVec F S2304 .f32) (main_arg7 : FVec F S768x768 .f32) (main_arg8 : FVec F S768 .f32) (main_arg9 : FVec F S768 .f32) (main_arg10 : FVec F S768 .f32) (main_arg11 : FVec F S768x768 .f32) (main_arg12 : FVec F S768x768 .f32) (main_arg13 : FVec F S1x768 .f32) (main_arg14 : FVec F S1 .f32) (main_arg15 : FVec F S768x768 .f32) : IVec S2048 1 :=
  let main_v0 : FVec F S2048x768 .f32 := shapeCast S2048x768 main_arg0 shapeCasts_S1x2048x768_S2048x768
  let main_v1 : FVec F S768x16 .f32 := (transpose S768x16 [1, 0] · transposes_S16x768_S768x16_1_0) main_arg1
  let main_v2 : FVec F S2048x16 .f32 := (fun l r => Host.dotGeneral dot_S2048x768_S768x16_S2048x16_1_0_0_1_n_n none l r) main_v0 main_v1
  let main_cst : FVec F S_ .f32 := constant S_ .f32 0xFF800000#32
  let main_v3 : FVec F S2048 .f32 := (fun x v => Host.reduce FloatOps.maximumf x v reducesTo_S2048x16_S2048_d1 h_S_) main_v2 main_cst
  let main_cst_0 : FVec F S_ .f32 := constant S_ .f32 0xEFA18F08#32
  let main_v4 : FVec F S2048 .f32 := broadcastInDim S2048 ![] bcast_S_S2048 main_cst_0
  let main_v5 : IVec S2048 1 := cmpf .ogt main_v3 main_v4
  let main_cst_1 : FVec F S_ .f32 := constant S_ .f32 0x7F800000#32
  let main_v6 : FVec F S2048 .f32 := broadcastInDim S2048 ![] bcast_S_S2048 main_cst_1
  let main_v7 : IVec S2048 1 := cmpf .olt main_v3 main_v6
  let main_v8 : IVec S2048 1 := andi main_v5 main_v7
  main_v8
-- ==== Kernel.lean ====
abbrev S1x2048x768 : Shape := ⟨3, ![1, 2048, 768]⟩
abbrev S16x768 : Shape := ⟨2, ![16, 768]⟩
abbrev S16x4096x768 : Shape := ⟨3, ![16, 4096, 768]⟩
abbrev S16x768x2048 : Shape := ⟨3, ![16, 768, 2048]⟩
abbrev S1x1x768 : Shape := ⟨3, ![1, 1, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S1x768 : Shape := ⟨2, ![1, 768]⟩
abbrev S1 : Shape := ⟨1, ![1]⟩
abbrev S2048x768 : Shape := ⟨2, ![2048, 768]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S16 : Shape := ⟨1, ![16]⟩
abbrev S1x16 : Shape := ⟨2, ![1, 16]⟩
abbrev S256 : Shape := ⟨1, ![256]⟩
abbrev S1x256 : Shape := ⟨2, ![1, 256]⟩
abbrev S16x1 : Shape := ⟨2, ![16, 1]⟩
abbrev S16x256 : Shape := ⟨2, ![16, 256]⟩
abbrev S16x256x1 : Shape := ⟨3, ![16, 256, 1]⟩
abbrev S4096 : Shape := ⟨1, ![4096]⟩
abbrev S4096x1 : Shape := ⟨2, ![4096, 1]⟩
abbrev S4096x768 : Shape := ⟨2, ![4096, 768]⟩
abbrev S1x2304 : Shape := ⟨2, ![1, 2304]⟩
abbrev S1x1 : Shape := ⟨2, ![1, 1]⟩
abbrev S512x768 : Shape := ⟨2, ![512, 768]⟩
abbrev S512x16 : Shape := ⟨2, ![512, 16]⟩
abbrev S256x768 : Shape := ⟨2, ![256, 768]⟩
abbrev S1x4096x768 : Shape := ⟨3, ![1, 4096, 768]⟩
abbrev S1x768x2048 : Shape := ⟨3, ![1, 768, 2048]⟩
abbrev S256x4096 : Shape := ⟨2, ![256, 4096]⟩
abbrev S256x2048 : Shape := ⟨2, ![256, 2048]⟩
abbrev S768x2048 : Shape := ⟨2, ![768, 2048]⟩
abbrev S512x1 : Shape := ⟨2, ![512, 1]⟩
abbrev S512 : Shape := ⟨1, ![512]⟩
abbrev S512x2304 : Shape := ⟨2, ![512, 2304]⟩

abbrev nBuf : Space → Nat
  | .hbm => 212
  | .vmem => 31
  | .smem => 0
  | _ => 0

abbrev hbmTy0_0 (i : Nat) : BufTy := match i % 128 with
  | 0 => ⟨S1x2048x768, .f32⟩
  | 1 => ⟨S16x768, .f32⟩
  | 2 => ⟨S16x4096x768, .f32⟩
  | 3 => ⟨S16x768x2048, .f32⟩
  | 4 => ⟨S1x1x768, .f32⟩
  | 5 => ⟨S2304x768, .f32⟩
  | 6 => ⟨S2304, .f32⟩
  | 7 => ⟨S768x768, .f32⟩
  | 8 => ⟨S768, .f32⟩
  | 9 => ⟨S768, .f32⟩
  | 10 => ⟨S768, .f32⟩
  | 11 => ⟨S768x768, .f32⟩
  | 12 => ⟨S768x768, .f32⟩
  | 13 => ⟨S1x768, .f32⟩
  | 14 => ⟨S1, .f32⟩
  | 15 => ⟨S768x768, .f32⟩
  | 16 => ⟨S2048x768, .f32⟩
  | 17 => ⟨S2048x16, .f32⟩
  | 18 => ⟨S_, .f32⟩
  | 19 => ⟨S2048, .f32⟩
  | 20 => ⟨S_, .f32⟩
  | 21 => ⟨S2048, .f32⟩
  | 22 => ⟨S2048, .f32⟩
  | 23 => ⟨S2048x1, .f32⟩
  | 24 => ⟨S2048x16, .f32⟩
  | 25 => ⟨S2048x16, .f32⟩
  | 26 => ⟨S2048x16, .f32⟩
  | 27 => ⟨S_, .f32⟩
  | 28 => ⟨S2048, .f32⟩
  | 29 => ⟨S2048x1, .f32⟩
  | 30 => ⟨S2048x16, .f32⟩
  | 31 => ⟨S2048x16, .f32⟩
  | 32 => ⟨S2048x16, .i32⟩
  | 33 => ⟨S_, .f32⟩
  | 34 => ⟨S_, .i32⟩
  | 35 => ⟨S2048, .f32⟩
  | 36 => ⟨S2048, .i32⟩
  | 37 => ⟨S_, .f32⟩
  | 38 => ⟨S2048, .f32⟩
  | 39 => ⟨S2048x1, .i32⟩
  | 40 => ⟨S16, .i32⟩
  | 41 => ⟨S1x16, .i32⟩
  | 42 => ⟨S2048x16, .i32⟩
  | 43 => ⟨S2048x16, .i32⟩
  | 44 => ⟨S2048x16, .i1⟩
  | 45 => ⟨S2048x16, .f32⟩
  | 46 => ⟨S_, .f32⟩
  | 47 => ⟨S16, .f32⟩
  | 48 => ⟨S_, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S_, .f32⟩
  | 59 => ⟨S_, .f32⟩
  | 60 => ⟨S_, .f32⟩
  | 61 => ⟨S_, .f32⟩
  | 62 => ⟨S2048, .f32⟩
  | 63 => ⟨S2048, .f32⟩
  | 64 => ⟨S_, .f32⟩
  | 65 => ⟨S2048, .f32⟩
  | 66 => ⟨S2048, .i1⟩
  | 67 => ⟨S_, .f32⟩
  | 68 => ⟨S2048, .f32⟩
  | 69 => ⟨S2048, .f32⟩
  | 70 => ⟨S2048x1, .f32⟩
  | 71 => ⟨S2048x16, .f32⟩
  | 72 => ⟨S2048x16, .f32⟩
  | 73 => ⟨S2048x16, .f32⟩
  | 74 => ⟨S_, .f32⟩
  | 75 => ⟨S2048, .f32⟩
  | 76 => ⟨S2048, .f32⟩
  | 77 => ⟨S2048, .f32⟩
  | 78 => ⟨S2048, .f32⟩
  | 79 => ⟨S2048, .f32⟩
  | 80 => ⟨S_, .f32⟩
  | 81 => ⟨S_, .f32⟩
  | 82 => ⟨S_, .f32⟩
  | 83 => ⟨S_, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S2048, .f32⟩
  | 103 => ⟨S2048, .i32⟩
  | 104 => ⟨S2048, .i32⟩
  | 105 => ⟨S2048, .f32⟩
  | 106 => ⟨S2048, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S2048, .i32⟩
  | 119 => ⟨S16, .i32⟩
  | 120 => ⟨S_, .i32⟩
  | 121 => ⟨S_, .i32⟩
  | 122 => ⟨S16, .i32⟩
  | 123 => ⟨S16, .i32⟩
  | 124 => ⟨S2048, .i32⟩
  | 125 => ⟨S_, .i32⟩
  | 126 => ⟨S2048, .i32⟩
  | 127 => ⟨S2048, .i1⟩
  | _ => ⟨S1x2048x768, .f32⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048x1, .i32⟩
  | 5 => ⟨S2048, .i32⟩
  | 6 => ⟨S2048, .i32⟩
  | 7 => ⟨S_, .i32⟩
  | 8 => ⟨S2048, .i32⟩
  | 9 => ⟨S2048, .i1⟩
  | 10 => ⟨S2048, .f32⟩
  | 11 => ⟨S_, .i32⟩
  | 12 => ⟨S2048, .i32⟩
  | 13 => ⟨S2048, .i32⟩
  | 14 => ⟨S_, .i32⟩
  | 15 => ⟨S_, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S2048, .i32⟩
  | 23 => ⟨S256, .i32⟩
  | 24 => ⟨S1x256, .i32⟩
  | 25 => ⟨S16x1, .i32⟩
  | 26 => ⟨S16x256, .i32⟩
  | 27 => ⟨S16x256, .i32⟩
  | 28 => ⟨S16x256, .i32⟩
  | 29 => ⟨S_, .i32⟩
  | 30 => ⟨S_, .i32⟩
  | 31 => ⟨S_, .i32⟩
  | 32 => ⟨S16x256, .i32⟩
  | 33 => ⟨S16x256, .i32⟩
  | 34 => ⟨S_, .i32⟩
  | 35 => ⟨S16x256, .i32⟩
  | 36 => ⟨S16x256, .i32⟩
  | 37 => ⟨S_, .i32⟩
  | 38 => ⟨S16x256, .i32⟩
  | 39 => ⟨S16x256, .i1⟩
  | 40 => ⟨S_, .i32⟩
  | 41 => ⟨S16x256, .i32⟩
  | 42 => ⟨S16x256, .i32⟩
  | 43 => ⟨S16x256, .i32⟩
  | 44 => ⟨S16x256x1, .i32⟩
  | 45 => ⟨S16x256, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096x768, .f32⟩
  | 56 => ⟨S4096x768, .f32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S2048x1, .i32⟩
  | 65 => ⟨S2048x768, .f32⟩
  | 66 => ⟨S1x768, .f32⟩
  | 67 => ⟨S2048x1, .f32⟩
  | 68 => ⟨S1x2304, .f32⟩
  | 69 => ⟨S1x768, .f32⟩
  | 70 => ⟨S1x768, .f32⟩
  | 71 => ⟨S1x768, .f32⟩
  | 72 => ⟨S1x1, .f32⟩
  | 73 => ⟨S2048x768, .f32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S2048x768, .f32⟩
  | 83 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S512x768, .f32⟩
  | .local _ .vmem, ⟨2, _⟩ => ⟨S16x768, .f32⟩
  | .local _ .vmem, ⟨3, _⟩ => ⟨S512x16, .f32⟩
  | .local _ .vmem, ⟨4, _⟩ => ⟨S512x16, .f32⟩
  | .local _ .vmem, ⟨5, _⟩ => ⟨S256x768, .f32⟩
  | .local _ .vmem, ⟨6, _⟩ => ⟨S256x768, .f32⟩
  | .local _ .vmem, ⟨7, _⟩ => ⟨S1x4096x768, .f32⟩
  | .local _ .vmem, ⟨8, _⟩ => ⟨S1x4096x768, .f32⟩
  | .local _ .vmem, ⟨9, _⟩ => ⟨S1x768x2048, .f32⟩
  | .local _ .vmem, ⟨10, _⟩ => ⟨S1x768x2048, .f32⟩
  | .local _ .vmem, ⟨11, _⟩ => ⟨S256x768, .f32⟩
  | .local _ .vmem, ⟨12, _⟩ => ⟨S256x768, .f32⟩
  | .local _ .vmem, ⟨13, _⟩ => ⟨S512x768, .f32⟩
  | .local _ .vmem, ⟨14, _⟩ => ⟨S512x768, .f32⟩
  | .local _ .vmem, ⟨15, _⟩ => ⟨S512x1, .f32⟩
  | .local _ .vmem, ⟨16, _⟩ => ⟨S512x1, .f32⟩
  | .local _ .vmem, ⟨17, _⟩ => ⟨S1x768, .f32⟩
  | .local _ .vmem, ⟨18, _⟩ => ⟨S2304x768, .f32⟩
  | .local _ .vmem, ⟨19, _⟩ => ⟨S1x2304, .f32⟩
  | .local _ .vmem, ⟨20, _⟩ => ⟨S768x768, .f32⟩
  | .local _ .vmem, ⟨21, _⟩ => ⟨S1x768, .f32⟩
  | .local _ .vmem, ⟨22, _⟩ => ⟨S1x768, .f32⟩
  | .local _ .vmem, ⟨23, _⟩ => ⟨S1x768, .f32⟩
  | .local _ .vmem, ⟨24, _⟩ => ⟨S768x768, .f32⟩
  | .local _ .vmem, ⟨25, _⟩ => ⟨S768x768, .f32⟩
  | .local _ .vmem, ⟨26, _⟩ => ⟨S1x768, .f32⟩
  | .local _ .vmem, ⟨27, _⟩ => ⟨S1x1, .f32⟩
  | .local _ .vmem, ⟨28, _⟩ => ⟨S768x768, .f32⟩
  | .local _ .vmem, ⟨29, _⟩ => ⟨S512x768, .f32⟩
  | .local _ .vmem, ⟨30, _⟩ => ⟨S512x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_cst_0 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_cst_1 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v0_2 : Ref sig .tc := ⟨.hbm, 31, rfl⟩
abbrev main_call0_call0_v0 : Ref sig .tc := ⟨.hbm, 32, rfl⟩
abbrev main_call0_call0_cst : Ref sig .tc := ⟨.hbm, 33, rfl⟩
abbrev main_call0_call0_c : Ref sig .tc := ⟨.hbm, 34, rfl⟩
abbrev main_call0_call0_v1_0 : Ref sig .tc := ⟨.hbm, 35, rfl⟩
abbrev main_call0_v13 : Ref sig .tc := ⟨.hbm, 36, rfl⟩
abbrev main_call0_cst_2 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_cst_3 : Ref sig .tc := ⟨.hbm, 46, rfl⟩
abbrev main_call0_v22 : Ref sig .tc := ⟨.hbm, 47, rfl⟩
abbrev main_call0_cst_4 : Ref sig .tc := ⟨.hbm, 48, rfl⟩
abbrev main_call0_v23 : Ref sig .tc := ⟨.hbm, 49, rfl⟩
abbrev main_call0_cst_5 : Ref sig .tc := ⟨.hbm, 50, rfl⟩
abbrev main_call0_v24 : Ref sig .tc := ⟨.hbm, 51, rfl⟩
abbrev main_call0_v25 : Ref sig .tc := ⟨.hbm, 52, rfl⟩
abbrev main_call0_v26 : Ref sig .tc := ⟨.hbm, 53, rfl⟩
abbrev main_call0_cst_6 : Ref sig .tc := ⟨.hbm, 54, rfl⟩
abbrev main_call0_v27 : Ref sig .tc := ⟨.hbm, 55, rfl⟩
abbrev main_call0_v28 : Ref sig .tc := ⟨.hbm, 56, rfl⟩
abbrev main_call0_cst_7 : Ref sig .tc := ⟨.hbm, 57, rfl⟩
abbrev main_call0_v29 : Ref sig .tc := ⟨.hbm, 58, rfl⟩
abbrev main_call0_cst_8 : Ref sig .tc := ⟨.hbm, 59, rfl⟩
abbrev main_call0_v30 : Ref sig .tc := ⟨.hbm, 60, rfl⟩
abbrev main_call0_cst_9 : Ref sig .tc := ⟨.hbm, 61, rfl⟩
abbrev main_call0_v31 : Ref sig .tc := ⟨.hbm, 62, rfl⟩
abbrev main_call0_v32 : Ref sig .tc := ⟨.hbm, 63, rfl⟩
abbrev main_call0_cst_10 : Ref sig .tc := ⟨.hbm, 64, rfl⟩
abbrev main_call0_v33 : Ref sig .tc := ⟨.hbm, 65, rfl⟩
abbrev main_call0_v34 : Ref sig .tc := ⟨.hbm, 66, rfl⟩
abbrev main_call0_cst_11 : Ref sig .tc := ⟨.hbm, 67, rfl⟩
abbrev main_call0_v35 : Ref sig .tc := ⟨.hbm, 68, rfl⟩
abbrev main_call0_v36 : Ref sig .tc := ⟨.hbm, 69, rfl⟩
abbrev main_call0_v37 : Ref sig .tc := ⟨.hbm, 70, rfl⟩
abbrev main_call0_v38 : Ref sig .tc := ⟨.hbm, 71, rfl⟩
abbrev main_call0_v39 : Ref sig .tc := ⟨.hbm, 72, rfl⟩
abbrev main_call0_v40 : Ref sig .tc := ⟨.hbm, 73, rfl⟩
abbrev main_call0_cst_12 : Ref sig .tc := ⟨.hbm, 74, rfl⟩
abbrev main_call0_v41 : Ref sig .tc := ⟨.hbm, 75, rfl⟩
abbrev main_call0_v42 : Ref sig .tc := ⟨.hbm, 76, rfl⟩
abbrev main_call0_v43 : Ref sig .tc := ⟨.hbm, 77, rfl⟩
abbrev main_call0_v44 : Ref sig .tc := ⟨.hbm, 78, rfl⟩
abbrev main_call0_v45 : Ref sig .tc := ⟨.hbm, 79, rfl⟩
abbrev main_call0_cst_13 : Ref sig .tc := ⟨.hbm, 80, rfl⟩
abbrev main_call0_v46 : Ref sig .tc := ⟨.hbm, 81, rfl⟩
abbrev main_call0_cst_14 : Ref sig .tc := ⟨.hbm, 82, rfl⟩
abbrev main_call0_v47 : Ref sig .tc := ⟨.hbm, 83, rfl⟩
abbrev main_call0_cst_15 : Ref sig .tc := ⟨.hbm, 84, rfl⟩
abbrev main_call0_v48 : Ref sig .tc := ⟨.hbm, 85, rfl⟩
abbrev main_call0_v49 : Ref sig .tc := ⟨.hbm, 86, rfl⟩
abbrev main_call0_cst_16 : Ref sig .tc := ⟨.hbm, 87, rfl⟩
abbrev main_call0_v50 : Ref sig .tc := ⟨.hbm, 88, rfl⟩
abbrev main_call0_v51 : Ref sig .tc := ⟨.hbm, 89, rfl⟩
abbrev main_call0_cst_17 : Ref sig .tc := ⟨.hbm, 90, rfl⟩
abbrev main_call0_v52 : Ref sig .tc := ⟨.hbm, 91, rfl⟩
abbrev main_call0_cst_18 : Ref sig .tc := ⟨.hbm, 92, rfl⟩
abbrev main_call0_v53 : Ref sig .tc := ⟨.hbm, 93, rfl⟩
abbrev main_call0_cst_19 : Ref sig .tc := ⟨.hbm, 94, rfl⟩
abbrev main_call0_v54 : Ref sig .tc := ⟨.hbm, 95, rfl⟩
abbrev main_call0_v55 : Ref sig .tc := ⟨.hbm, 96, rfl⟩
abbrev main_call0_cst_20 : Ref sig .tc := ⟨.hbm, 97, rfl⟩
abbrev main_call0_v56 : Ref sig .tc := ⟨.hbm, 98, rfl⟩
abbrev main_call0_cst_21 : Ref sig .tc := ⟨.hbm, 99, rfl⟩
abbrev main_call0_v57 : Ref sig .tc := ⟨.hbm, 100, rfl⟩
abbrev main_v0_1 : Ref sig .tc := ⟨.hbm, 101, rfl⟩
abbrev main_call0_v59 : Ref sig .tc := ⟨.hbm, 102, rfl⟩
abbrev main_call0_call1_v0 : Ref sig .tc := ⟨.hbm, 103, rfl⟩
abbrev main_call0_call1_v1_0 : Ref sig .tc := ⟨.hbm, 104, rfl⟩
abbrev main_call0_call1_v1_1 : Ref sig .tc := ⟨.hbm, 105, rfl⟩
abbrev main_call0_v60 : Ref sig .tc := ⟨.hbm, 106, rfl⟩
abbrev main_call0_call2_v0 : Ref sig .tc := ⟨.hbm, 107, rfl⟩
abbrev main_call0_call2_v1_0 : Ref sig .tc := ⟨.hbm, 108, rfl⟩
abbrev main_call0_v61 : Ref sig .tc := ⟨.hbm, 109, rfl⟩
abbrev main_call0_c : Ref sig .tc := ⟨.hbm, 110, rfl⟩
abbrev main_call0_v62 : Ref sig .tc := ⟨.hbm, 111, rfl⟩
abbrev main_call0_v63 : Ref sig .tc := ⟨.hbm, 112, rfl⟩
abbrev main_call0_c_22 : Ref sig .tc := ⟨.hbm, 113, rfl⟩
abbrev main_call0_v64 : Ref sig .tc := ⟨.hbm, 114, rfl⟩
abbrev main_call0_v65 : Ref sig .tc := ⟨.hbm, 115, rfl⟩
abbrev main_call0_v66 : Ref sig .tc := ⟨.hbm, 116, rfl⟩
abbrev main_call0_v67 : Ref sig .tc := ⟨.hbm, 117, rfl⟩
abbrev main_call0_v68 : Ref sig .tc := ⟨.hbm, 118, rfl⟩
abbrev main_call0_v69 : Ref sig .tc := ⟨.hbm, 119, rfl⟩
abbrev main_call0_call3_call0_c : Ref sig .tc := ⟨.hbm, 120, rfl⟩
abbrev main_call0_call3_call0_v0 : Ref sig .tc := ⟨.hbm, 121, rfl⟩
abbrev main_call0_v70 : Ref sig .tc := ⟨.hbm, 122, rfl⟩
abbrev main_call0_v71 : Ref sig .tc := ⟨.hbm, 123, rfl⟩
abbrev main_call0_v72 : Ref sig .tc := ⟨.hbm, 124, rfl⟩
abbrev main_call0_c_23 : Ref sig .tc := ⟨.hbm, 125, rfl⟩
abbrev main_call0_v73 : Ref sig .tc := ⟨.hbm, 126, rfl⟩
abbrev main_call0_v74 : Ref sig .tc := ⟨.hbm, 127, rfl⟩
abbrev main_call0_c_24 : Ref sig .tc := ⟨.hbm, 128, rfl⟩
abbrev main_call0_v75 : Ref sig .tc := ⟨.hbm, 129, rfl⟩
abbrev main_call0_v76 : Ref sig .tc := ⟨.hbm, 130, rfl⟩
abbrev main_call0_v77 : Ref sig .tc := ⟨.hbm, 131, rfl⟩
abbrev main_call0_v78 : Ref sig .tc := ⟨.hbm, 132, rfl⟩
abbrev main_call0_v79 : Ref sig .tc := ⟨.hbm, 133, rfl⟩
abbrev main_call0_v80 : Ref sig .tc := ⟨.hbm, 134, rfl⟩
abbrev main_call0_c_25 : Ref sig .tc := ⟨.hbm, 135, rfl⟩
abbrev main_call0_v81 : Ref sig .tc := ⟨.hbm, 136, rfl⟩
abbrev main_call0_v82 : Ref sig .tc := ⟨.hbm, 137, rfl⟩
abbrev main_call0_v83 : Ref sig .tc := ⟨.hbm, 138, rfl⟩
abbrev main_call0_c_26 : Ref sig .tc := ⟨.hbm, 139, rfl⟩
abbrev main_call0_v84 : Ref sig .tc := ⟨.hbm, 140, rfl⟩
abbrev main_call0_v85 : Ref sig .tc := ⟨.hbm, 141, rfl⟩
abbrev main_call0_c_27 : Ref sig .tc := ⟨.hbm, 142, rfl⟩
abbrev main_call0_c_28 : Ref sig .tc := ⟨.hbm, 143, rfl⟩
abbrev main_call0_call4_v0 : Ref sig .tc := ⟨.hbm, 144, rfl⟩
abbrev main_call0_call4_v1 : Ref sig .tc := ⟨.hbm, 145, rfl⟩
abbrev main_call0_call4_v2 : Ref sig .tc := ⟨.hbm, 146, rfl⟩
abbrev main_call0_call4_v3 : Ref sig .tc := ⟨.hbm, 147, rfl⟩
abbrev main_call0_call4_v4 : Ref sig .tc := ⟨.hbm, 148, rfl⟩
abbrev main_call0_v86 : Ref sig .tc := ⟨.hbm, 149, rfl⟩
abbrev main_call0_v87 : Ref sig .tc := ⟨.hbm, 150, rfl⟩
abbrev main_call0_v88 : Ref sig .tc := ⟨.hbm, 151, rfl⟩
abbrev main_call0_v89 : Ref sig .tc := ⟨.hbm, 152, rfl⟩
abbrev main_call0_v90 : Ref sig .tc := ⟨.hbm, 153, rfl⟩
abbrev main_call0_v91 : Ref sig .tc := ⟨.hbm, 154, rfl⟩
abbrev main_call0_v92 : Ref sig .tc := ⟨.hbm, 155, rfl⟩
abbrev main_call0_v93 : Ref sig .tc := ⟨.hbm, 156, rfl⟩
abbrev main_call0_c_29 : Ref sig .tc := ⟨.hbm, 157, rfl⟩
abbrev main_call0_c_30 : Ref sig .tc := ⟨.hbm, 158, rfl⟩
abbrev main_call0_call5_v0 : Ref sig .tc := ⟨.hbm, 159, rfl⟩
abbrev main_call0_call5_v1 : Ref sig .tc := ⟨.hbm, 160, rfl⟩
abbrev main_call0_call5_v2 : Ref sig .tc := ⟨.hbm, 161, rfl⟩
abbrev main_call0_call5_v3 : Ref sig .tc := ⟨.hbm, 162, rfl⟩
abbrev main_call0_call5_v4 : Ref sig .tc := ⟨.hbm, 163, rfl⟩
abbrev main_call0_v94 : Ref sig .tc := ⟨.hbm, 164, rfl⟩
abbrev main_call0_c_31 : Ref sig .tc := ⟨.hbm, 165, rfl⟩
abbrev main_call0_v95 : Ref sig .tc := ⟨.hbm, 166, rfl⟩
abbrev main_call0_v96 : Ref sig .tc := ⟨.hbm, 167, rfl⟩
abbrev main_call0_c_32 : Ref sig .tc := ⟨.hbm, 168, rfl⟩
abbrev main_call0_v97 : Ref sig .tc := ⟨.hbm, 169, rfl⟩
abbrev main_call0_v98 : Ref sig .tc := ⟨.hbm, 170, rfl⟩
abbrev main_call0_v99 : Ref sig .tc := ⟨.hbm, 171, rfl⟩
abbrev main_call0_v100 : Ref sig .tc := ⟨.hbm, 172, rfl⟩
abbrev main_call0_v101 : Ref sig .tc := ⟨.hbm, 173, rfl⟩
abbrev main_call0_v102 : Ref sig .tc := ⟨.hbm, 174, rfl⟩
abbrev main_call0_c_33 : Ref sig .tc := ⟨.hbm, 175, rfl⟩
abbrev main_call0_v103 : Ref sig .tc := ⟨.hbm, 176, rfl⟩
abbrev main_call0_v104 : Ref sig .tc := ⟨.hbm, 177, rfl⟩
abbrev main_call0_c_34 : Ref sig .tc := ⟨.hbm, 178, rfl⟩
abbrev main_call0_v105 : Ref sig .tc := ⟨.hbm, 179, rfl⟩
abbrev main_call0_v106 : Ref sig .tc := ⟨.hbm, 180, rfl⟩
abbrev main_call0_v107 : Ref sig .tc := ⟨.hbm, 181, rfl⟩
abbrev main_call0_v108 : Ref sig .tc := ⟨.hbm, 182, rfl⟩
abbrev main_call0_v109 : Ref sig .tc := ⟨.hbm, 183, rfl⟩
abbrev main_call0_v110 : Ref sig .tc := ⟨.hbm, 184, rfl⟩
abbrev main_call0_c_35 : Ref sig .tc := ⟨.hbm, 185, rfl⟩
abbrev main_call0_v111 : Ref sig .tc := ⟨.hbm, 186, rfl⟩
abbrev main_call0_v112 : Ref sig .tc := ⟨.hbm, 187, rfl⟩
abbrev main_call0_c_36 : Ref sig .tc := ⟨.hbm, 188, rfl⟩
abbrev main_call0_v113 : Ref sig .tc := ⟨.hbm, 189, rfl⟩
abbrev main_call0_v114 : Ref sig .tc := ⟨.hbm, 190, rfl⟩
abbrev main_call0_v115 : Ref sig .tc := ⟨.hbm, 191, rfl⟩
abbrev main_call0_v116 : Ref sig .tc := ⟨.hbm, 192, rfl⟩
abbrev main_call0_v117 : Ref sig .tc := ⟨.hbm, 193, rfl⟩
abbrev main_call0_v118 : Ref sig .tc := ⟨.hbm, 194, rfl⟩
abbrev main_call0_v119 : Ref sig .tc := ⟨.hbm, 195, rfl⟩
abbrev main_call0_v120 : Ref sig .tc := ⟨.hbm, 196, rfl⟩
abbrev main_call0_v121 : Ref sig .tc := ⟨.hbm, 197, rfl⟩
abbrev main_call0_v122 : Ref sig .tc := ⟨.hbm, 198, rfl⟩
abbrev main_call0_v123 : Ref sig .tc := ⟨.hbm, 199, rfl⟩
abbrev main_call0_v124 : Ref sig .tc := ⟨.hbm, 200, rfl⟩
abbrev main_call0_v125 : Ref sig .tc := ⟨.hbm, 201, rfl⟩
abbrev main_call0_c_37 : Ref sig .tc := ⟨.hbm, 202, rfl⟩
abbrev main_call0_v126 : Ref sig .tc := ⟨.hbm, 203, rfl⟩
abbrev main_call0_v127 : Ref sig .tc := ⟨.hbm, 204, rfl⟩
abbrev main_call0_c_38 : Ref sig .tc := ⟨.hbm, 205, rfl⟩
abbrev main_call0_v128 : Ref sig .tc := ⟨.hbm, 206, rfl⟩
abbrev main_call0_v129 : Ref sig .tc := ⟨.hbm, 207, rfl⟩
abbrev main_call0_v130 : Ref sig .tc := ⟨.hbm, 208, rfl⟩
abbrev main_call0_v131 : Ref sig .tc := ⟨.hbm, 209, rfl⟩
abbrev main_call0_v132 : Ref sig .tc := ⟨.hbm, 210, rfl⟩
abbrev main_v0_0 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg13_0 : Ref sig .tc := ⟨.vmem, 28, rfl⟩
abbrev cc2_stg14_0 : Ref sig .tc := ⟨.vmem, 29, rfl⟩
abbrev cc2_stg14_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem12_0 : DmaSem sig := 27
abbrev cc2_sem13_0 : DmaSem sig := 28
abbrev cc2_sem14_0 : DmaSem sig := 29
abbrev cc2_sem14_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x768x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2304x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2304 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x768 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x768 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S768x768 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S768x768 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S768x768 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S512x768 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]
-- ==== KernelIdeal.lean ====
variable {F : FTy → Type} [FloatOps F] [Named F]
def κ : String → Option EReal := fun
  | "inv_sqrt_dh" => some (((Real.sqrt 192)⁻¹ : ℝ) : EReal)
  | "sqrt_two" => some ((Real.sqrt 2 : ℝ) : EReal)
  | _ => none
-- ==== ReferenceIdeal.lean ====
abbrev S1x2048x768 : Shape := ⟨3, ![1, 2048, 768]⟩
abbrev S16x768 : Shape := ⟨2, ![16, 768]⟩
abbrev S16x4096x768 : Shape := ⟨3, ![16, 4096, 768]⟩
abbrev S16x768x2048 : Shape := ⟨3, ![16, 768, 2048]⟩
abbrev S1x1x768 : Shape := ⟨3, ![1, 1, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S1x768 : Shape := ⟨2, ![1, 768]⟩
abbrev S1 : Shape := ⟨1, ![1]⟩
abbrev S2048x768 : Shape := ⟨2, ![2048, 768]⟩
abbrev S768x16 : Shape := ⟨2, ![768, 16]⟩
abbrev S2048x16 : Shape := ⟨2, ![2048, 16]⟩
abbrev S2048x1 : Shape := ⟨2, ![2048, 1]⟩
abbrev S_ : Shape := ⟨0, ![]⟩
abbrev S2048 : Shape := ⟨1, ![2048]⟩
abbrev S2048x1x1 : Shape := ⟨3, ![2048, 1, 1]⟩
abbrev S1x1x16 : Shape := ⟨3, ![1, 1, 16]⟩
abbrev S2048x1x16 : Shape := ⟨3, ![2048, 1, 16]⟩
abbrev S16 : Shape := ⟨1, ![16]⟩
abbrev S1x2048 : Shape := ⟨2, ![1, 2048]⟩
abbrev S16x1 : Shape := ⟨2, ![16, 1]⟩
abbrev S16x2048 : Shape := ⟨2, ![16, 2048]⟩
abbrev S16x256 : Shape := ⟨2, ![16, 256]⟩
abbrev S16x256x1 : Shape := ⟨3, ![16, 256, 1]⟩
abbrev S16x256x768 : Shape := ⟨3, ![16, 256, 768]⟩
abbrev S16x768x4096 : Shape := ⟨3, ![16, 768, 4096]⟩
abbrev S16x256x4096 : Shape := ⟨3, ![16, 256, 4096]⟩
abbrev S16x256x2048 : Shape := ⟨3, ![16, 256, 2048]⟩
abbrev S16x2048x768 : Shape := ⟨3, ![16, 2048, 768]⟩
abbrev S1x16 : Shape := ⟨2, ![1, 16]⟩
abbrev S2048x1x768 : Shape := ⟨3, ![2048, 1, 768]⟩
abbrev S2048x2x768 : Shape := ⟨3, ![2048, 2, 768]⟩
abbrev S2048x2 : Shape := ⟨2, ![2048, 2]⟩
abbrev S2048x2x1 : Shape := ⟨3, ![2048, 2, 1]⟩
abbrev S768x2304 : Shape := ⟨2, ![768, 2304]⟩
abbrev S2048x2x2304 : Shape := ⟨3, ![2048, 2, 2304]⟩
abbrev S1x1x2304 : Shape := ⟨3, ![1, 1, 2304]⟩
abbrev S2048x2x4x192 : Shape := ⟨4, ![2048, 2, 4, 192]⟩
abbrev S2048x4x2x192 : Shape := ⟨4, ![2048, 4, 2, 192]⟩
abbrev S2048x4x192x2 : Shape := ⟨4, ![2048, 4, 192, 2]⟩
abbrev S2048x4x2x2 : Shape := ⟨4, ![2048, 4, 2, 2]⟩
abbrev S2048x4x2 : Shape := ⟨3, ![2048, 4, 2]⟩
abbrev S2048x4x2x1 : Shape := ⟨4, ![2048, 4, 2, 1]⟩
abbrev S768x1 : Shape := ⟨2, ![768, 1]⟩
abbrev S1x1 : Shape := ⟨2, ![1, 1]⟩

abbrev nBuf : Space → Nat
  | .hbm => 414
  | .vmem => 0
  | .smem => 0
  | _ => 0

abbrev hbmTy0_0 (i : Nat) : BufTy := match i % 128 with
  | 0 => ⟨S1x2048x768, .f32⟩
  | 1 => ⟨S16x768, .f32⟩
  | 2 => ⟨S16x4096x768, .f32⟩
  | 3 => ⟨S16x768x2048, .f32⟩
  | 4 => ⟨S1x1x768, .f32⟩
  | 5 => ⟨S2304x768, .f32⟩
  | 6 => ⟨S2304, .f32⟩
  | 7 => ⟨S768x768, .f32⟩
  | 8 => ⟨S768, .f32⟩
  | 9 => ⟨S768, .f32⟩
  | 10 => ⟨S768, .f32⟩
  | 11 => ⟨S768x768, .f32⟩
  | 12 => ⟨S768x768, .f32⟩
  | 13 => ⟨S1x768, .f32⟩
  | 14 => ⟨S1, .f32⟩
  | 15 => ⟨S768x768, .f32⟩
  | 16 => ⟨S2048x768, .f32⟩
  | 17 => ⟨S768x16, .f32⟩
  | 18 => ⟨S2048x16, .f32⟩
  | 19 => ⟨S2048x1, .f32⟩
  | 20 => ⟨S2048x1, .i32⟩
  | 21 => ⟨S_, .f32⟩
  | 22 => ⟨S2048, .f32⟩
  | 23 => ⟨S_, .f32⟩
  | 24 => ⟨S2048, .f32⟩
  | 25 => ⟨S2048, .f32⟩
  | 26 => ⟨S2048x1, .f32⟩
  | 27 => ⟨S2048x1, .f32⟩
  | 28 => ⟨S2048x1, .f32⟩
  | 29 => ⟨S_, .f32⟩
  | 30 => ⟨S2048, .f32⟩
  | 31 => ⟨S2048x1, .f32⟩
  | 32 => ⟨S2048x1, .f32⟩
  | 33 => ⟨S_, .f32⟩
  | 34 => ⟨S2048, .f32⟩
  | 35 => ⟨S_, .f32⟩
  | 36 => ⟨S2048, .f32⟩
  | 37 => ⟨S2048, .f32⟩
  | 38 => ⟨S2048x1, .f32⟩
  | 39 => ⟨S2048x16, .f32⟩
  | 40 => ⟨S2048x16, .f32⟩
  | 41 => ⟨S2048x16, .f32⟩
  | 42 => ⟨S_, .f32⟩
  | 43 => ⟨S2048, .f32⟩
  | 44 => ⟨S2048x1, .f32⟩
  | 45 => ⟨S2048x16, .f32⟩
  | 46 => ⟨S2048x16, .f32⟩
  | 47 => ⟨S2048x1x1, .i32⟩
  | 48 => ⟨S1x1x16, .i32⟩
  | 49 => ⟨S2048x1x16, .i32⟩
  | 50 => ⟨S2048x1x16, .i32⟩
  | 51 => ⟨S2048x1x16, .i1⟩
  | 52 => ⟨S2048x1x16, .f32⟩
  | 53 => ⟨S2048x1x1, .f32⟩
  | 54 => ⟨S2048x1x16, .f32⟩
  | 55 => ⟨S2048x1x16, .f32⟩
  | 56 => ⟨S_, .f32⟩
  | 57 => ⟨S2048x16, .f32⟩
  | 58 => ⟨S_, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S_, .f32⟩
  | 66 => ⟨S16, .f32⟩
  | 67 => ⟨S16, .f32⟩
  | 68 => ⟨S16, .f32⟩
  | 69 => ⟨S_, .f32⟩
  | 70 => ⟨S_, .f32⟩
  | 71 => ⟨S_, .f32⟩
  | 72 => ⟨S_, .f32⟩
  | 73 => ⟨S_, .f32⟩
  | 74 => ⟨S2048, .f32⟩
  | 75 => ⟨S2048, .f32⟩
  | 76 => ⟨S_, .f32⟩
  | 77 => ⟨S2048, .f32⟩
  | 78 => ⟨S2048, .i1⟩
  | 79 => ⟨S_, .f32⟩
  | 80 => ⟨S2048, .f32⟩
  | 81 => ⟨S2048, .f32⟩
  | 82 => ⟨S2048x1, .f32⟩
  | 83 => ⟨S2048x16, .f32⟩
  | 84 => ⟨S2048x16, .f32⟩
  | 85 => ⟨S2048x16, .f32⟩
  | 86 => ⟨S_, .f32⟩
  | 87 => ⟨S2048, .f32⟩
  | 88 => ⟨S2048, .f32⟩
  | 89 => ⟨S2048, .f32⟩
  | 90 => ⟨S2048, .f32⟩
  | 91 => ⟨S2048, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S2048, .i32⟩
  | 102 => ⟨S2048, .f32⟩
  | 103 => ⟨S1x2048, .i32⟩
  | 104 => ⟨S16, .i32⟩
  | 105 => ⟨S16x1, .i32⟩
  | 106 => ⟨S16x2048, .i32⟩
  | 107 => ⟨S16x2048, .i32⟩
  | 108 => ⟨S16x2048, .i1⟩
  | 109 => ⟨S1x2048, .f32⟩
  | 110 => ⟨S_, .f32⟩
  | 111 => ⟨S_, .f32⟩
  | 112 => ⟨S16x2048, .f32⟩
  | 113 => ⟨S16x2048, .f32⟩
  | 114 => ⟨S16x2048, .f32⟩
  | 115 => ⟨S16x256, .f32⟩
  | 116 => ⟨S16x256, .i32⟩
  | 117 => ⟨S_, .f32⟩
  | 118 => ⟨S16x256, .f32⟩
  | 119 => ⟨S16x256, .i1⟩
  | 120 => ⟨S_, .i32⟩
  | 121 => ⟨S16x256, .i32⟩
  | 122 => ⟨S16x256, .i1⟩
  | 123 => ⟨S_, .i32⟩
  | 124 => ⟨S16x256, .i32⟩
  | 125 => ⟨S16x256, .i32⟩
  | 126 => ⟨S16x256, .i32⟩
  | 127 => ⟨S16x256x1, .i32⟩
  | _ => ⟨S1x2048x768, .f32⟩

abbrev hbmTy0_1 (i : Nat) : BufTy := match i % 128 with
  | 0 => ⟨S16x256x768, .f32⟩
  | 1 => ⟨S16x256x768, .f32⟩
  | 2 => ⟨S16x768x4096, .f32⟩
  | 3 => ⟨S16x256x4096, .f32⟩
  | 4 => ⟨S16x256x2048, .f32⟩
  | 5 => ⟨S16x256x2048, .f32⟩
  | 6 => ⟨S16x256x2048, .f32⟩
  | 7 => ⟨S16x256x2048, .f32⟩
  | 8 => ⟨S_, .f32⟩
  | 9 => ⟨S16x256x2048, .f32⟩
  | 10 => ⟨S16x256x2048, .f32⟩
  | 11 => ⟨S_, .f32⟩
  | 12 => ⟨S16x256x2048, .f32⟩
  | 13 => ⟨S16x256x2048, .f32⟩
  | 14 => ⟨S16x256x2048, .f32⟩
  | 15 => ⟨S16x256x2048, .f32⟩
  | 16 => ⟨S16x2048x768, .f32⟩
  | 17 => ⟨S16x256x768, .f32⟩
  | 18 => ⟨S16x256x768, .f32⟩
  | 19 => ⟨S_, .f32⟩
  | 20 => ⟨S2048x768, .f32⟩
  | 21 => ⟨S16x256x1, .i1⟩
  | 22 => ⟨S_, .f32⟩
  | 23 => ⟨S_, .f32⟩
  | 24 => ⟨S16x256x768, .i1⟩
  | 25 => ⟨S16x256x768, .f32⟩
  | 26 => ⟨S16x256x768, .f32⟩
  | 27 => ⟨S_, .i32⟩
  | 28 => ⟨S16x256, .i32⟩
  | 29 => ⟨S16x256, .i1⟩
  | 30 => ⟨S_, .i32⟩
  | 31 => ⟨S16x256, .i32⟩
  | 32 => ⟨S16x256, .i32⟩
  | 33 => ⟨S16x256, .i32⟩
  | 34 => ⟨S16x256x1, .i32⟩
  | 35 => ⟨S2048x768, .f32⟩
  | 36 => ⟨S_, .f32⟩
  | 37 => ⟨S2048, .f32⟩
  | 38 => ⟨S16x256, .f32⟩
  | 39 => ⟨S_, .i32⟩
  | 40 => ⟨S16x256, .i32⟩
  | 41 => ⟨S16x256, .i1⟩
  | 42 => ⟨S_, .i32⟩
  | 43 => ⟨S16x256, .i32⟩
  | 44 => ⟨S16x256, .i32⟩
  | 45 => ⟨S16x256, .i32⟩
  | 46 => ⟨S16x256x1, .i32⟩
  | 47 => ⟨S2048, .f32⟩
  | 48 => ⟨S2048x1, .i32⟩
  | 49 => ⟨S1x16, .i32⟩
  | 50 => ⟨S2048x16, .i32⟩
  | 51 => ⟨S2048x16, .i32⟩
  | 52 => ⟨S2048x16, .i1⟩
  | 53 => ⟨S2048x16, .f32⟩
  | 54 => ⟨S_, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S2048x1x768, .f32⟩
  | 70 => ⟨S2048x1, .f32⟩
  | 71 => ⟨S2048x1x768, .f32⟩
  | 72 => ⟨S2048x2x768, .f32⟩
  | 73 => ⟨S2048x2x768, .f32⟩
  | 74 => ⟨S_, .f32⟩
  | 75 => ⟨S2048x2, .f32⟩
  | 76 => ⟨S2048x2x1, .f32⟩
  | 77 => ⟨S_, .f32⟩
  | 78 => ⟨S2048x2x1, .f32⟩
  | 79 => ⟨S2048x2x1, .f32⟩
  | 80 => ⟨S_, .f32⟩
  | 81 => ⟨S2048x2x1, .f32⟩
  | 82 => ⟨S2048x2x1, .f32⟩
  | 83 => ⟨S2048x2x1, .f32⟩
  | 84 => ⟨S2048x2x768, .f32⟩
  | 85 => ⟨S2048x2x768, .f32⟩
  | 86 => ⟨S1x1x768, .f32⟩
  | 87 => ⟨S2048x2x768, .f32⟩
  | 88 => ⟨S2048x2x768, .f32⟩
  | 89 => ⟨S768x2304, .f32⟩
  | 90 => ⟨S2048x2x2304, .f32⟩
  | 91 => ⟨S1x1x2304, .f32⟩
  | 92 => ⟨S2048x2x2304, .f32⟩
  | 93 => ⟨S2048x2x2304, .f32⟩
  | 94 => ⟨S2048x2x768, .f32⟩
  | 95 => ⟨S2048x2x768, .f32⟩
  | 96 => ⟨S2048x2x768, .f32⟩
  | 97 => ⟨S2048x2x4x192, .f32⟩
  | 98 => ⟨S2048x4x2x192, .f32⟩
  | 99 => ⟨S2048x2x4x192, .f32⟩
  | 100 => ⟨S2048x4x2x192, .f32⟩
  | 101 => ⟨S2048x2x4x192, .f32⟩
  | 102 => ⟨S2048x4x2x192, .f32⟩
  | 103 => ⟨S2048x4x192x2, .f32⟩
  | 104 => ⟨S2048x4x2x2, .f32⟩
  | 105 => ⟨S_, .f32⟩
  | 106 => ⟨S_, .f32⟩
  | 107 => ⟨S2048x4x2x2, .f32⟩
  | 108 => ⟨S2048x4x2x2, .f32⟩
  | 109 => ⟨S_, .f32⟩
  | 110 => ⟨S2048x4x2, .f32⟩
  | 111 => ⟨S_, .f32⟩
  | 112 => ⟨S2048x4x2, .f32⟩
  | 113 => ⟨S2048x4x2, .f32⟩
  | 114 => ⟨S2048x4x2x1, .f32⟩
  | 115 => ⟨S2048x4x2x2, .f32⟩
  | 116 => ⟨S2048x4x2x2, .f32⟩
  | 117 => ⟨S2048x4x2x2, .f32⟩
  | 118 => ⟨S_, .f32⟩
  | 119 => ⟨S2048x4x2, .f32⟩
  | 120 => ⟨S2048x4x2x1, .f32⟩
  | 121 => ⟨S2048x4x2x2, .f32⟩
  | 122 => ⟨S2048x4x2x2, .f32⟩
  | 123 => ⟨S2048x4x2x192, .f32⟩
  | 124 => ⟨S2048x2x4x192, .f32⟩
  | 125 => ⟨S2048x2x768, .f32⟩
  | 126 => ⟨S768x768, .f32⟩
  | 127 => ⟨S2048x2x768, .f32⟩
  | _ => ⟨S1x2048x768, .f32⟩

abbrev hbmTy0_2 (i : Nat) : BufTy := match i % 128 with
  | 0 => ⟨S1x1x768, .f32⟩
  | 1 => ⟨S2048x2x768, .f32⟩
  | 2 => ⟨S2048x2x768, .f32⟩
  | 3 => ⟨S2048x2x768, .f32⟩
  | 4 => ⟨S2048x2x768, .f32⟩
  | 5 => ⟨S_, .f32⟩
  | 6 => ⟨S2048x2, .f32⟩
  | 7 => ⟨S2048x2x1, .f32⟩
  | 8 => ⟨S_, .f32⟩
  | 9 => ⟨S2048x2x1, .f32⟩
  | 10 => ⟨S2048x2x1, .f32⟩
  | 11 => ⟨S_, .f32⟩
  | 12 => ⟨S2048x2x1, .f32⟩
  | 13 => ⟨S2048x2x1, .f32⟩
  | 14 => ⟨S2048x2x1, .f32⟩
  | 15 => ⟨S2048x2x768, .f32⟩
  | 16 => ⟨S2048x2x768, .f32⟩
  | 17 => ⟨S1x1x768, .f32⟩
  | 18 => ⟨S2048x2x768, .f32⟩
  | 19 => ⟨S2048x2x768, .f32⟩
  | 20 => ⟨S768x768, .f32⟩
  | 21 => ⟨S2048x2x768, .f32⟩
  | 22 => ⟨S_, .f32⟩
  | 23 => ⟨S2048x2x768, .f32⟩
  | 24 => ⟨S2048x2x768, .f32⟩
  | 25 => ⟨S2048x2x768, .f32⟩
  | 26 => ⟨S_, .f32⟩
  | 27 => ⟨S_, .f32⟩
  | 28 => ⟨S2048x2x768, .f32⟩
  | 29 => ⟨S2048x2x768, .f32⟩
  | 30 => ⟨S2048x2x768, .f32⟩
  | 31 => ⟨S2048x2x768, .f32⟩
  | 32 => ⟨S768x768, .f32⟩
  | 33 => ⟨S2048x2x768, .f32⟩
  | 34 => ⟨S2048x2x768, .f32⟩
  | 35 => ⟨S2048x2x768, .f32⟩
  | 36 => ⟨S_, .f32⟩
  | 37 => ⟨S2048x2, .f32⟩
  | 38 => ⟨S2048x2x1, .f32⟩
  | 39 => ⟨S_, .f32⟩
  | 40 => ⟨S2048x2x1, .f32⟩
  | 41 => ⟨S2048x2x1, .f32⟩
  | 42 => ⟨S_, .f32⟩
  | 43 => ⟨S2048x2x1, .f32⟩
  | 44 => ⟨S2048x2x1, .f32⟩
  | 45 => ⟨S2048x2x1, .f32⟩
  | 46 => ⟨S2048x2x768, .f32⟩
  | 47 => ⟨S2048x2x768, .f32⟩
  | 48 => ⟨S1x1x768, .f32⟩
  | 49 => ⟨S2048x2x768, .f32⟩
  | 50 => ⟨S2048x2x768, .f32⟩
  | 51 => ⟨S768x2304, .f32⟩
  | 52 => ⟨S2048x2x2304, .f32⟩
  | 53 => ⟨S1x1x2304, .f32⟩
  | 54 => ⟨S2048x2x2304, .f32⟩
  | 55 => ⟨S2048x2x2304, .f32⟩
  | 56 => ⟨S2048x2x768, .f32⟩
  | 57 => ⟨S2048x2x768, .f32⟩
  | 58 => ⟨S2048x2x768, .f32⟩
  | 59 => ⟨S2048x2x4x192, .f32⟩
  | 60 => ⟨S2048x4x2x192, .f32⟩
  | 61 => ⟨S2048x2x4x192, .f32⟩
  | 62 => ⟨S2048x4x2x192, .f32⟩
  | 63 => ⟨S2048x2x4x192, .f32⟩
  | 64 => ⟨S2048x4x2x192, .f32⟩
  | 65 => ⟨S2048x4x192x2, .f32⟩
  | 66 => ⟨S2048x4x2x2, .f32⟩
  | 67 => ⟨S_, .f32⟩
  | 68 => ⟨S_, .f32⟩
  | 69 => ⟨S2048x4x2x2, .f32⟩
  | 70 => ⟨S2048x4x2x2, .f32⟩
  | 71 => ⟨S_, .f32⟩
  | 72 => ⟨S2048x4x2, .f32⟩
  | 73 => ⟨S_, .f32⟩
  | 74 => ⟨S2048x4x2, .f32⟩
  | 75 => ⟨S2048x4x2, .f32⟩
  | 76 => ⟨S2048x4x2x1, .f32⟩
  | 77 => ⟨S2048x4x2x2, .f32⟩
  | 78 => ⟨S2048x4x2x2, .f32⟩
  | 79 => ⟨S2048x4x2x2, .f32⟩
  | 80 => ⟨S_, .f32⟩
  | 81 => ⟨S2048x4x2, .f32⟩
  | 82 => ⟨S2048x4x2x1, .f32⟩
  | 83 => ⟨S2048x4x2x2, .f32⟩
  | 84 => ⟨S2048x4x2x2, .f32⟩
  | 85 => ⟨S2048x4x2x192, .f32⟩
  | 86 => ⟨S2048x2x4x192, .f32⟩
  | 87 => ⟨S2048x2x768, .f32⟩
  | 88 => ⟨S768x768, .f32⟩
  | 89 => ⟨S2048x2x768, .f32⟩
  | 90 => ⟨S1x1x768, .f32⟩
  | 91 => ⟨S2048x2x768, .f32⟩
  | 92 => ⟨S2048x2x768, .f32⟩
  | 93 => ⟨S2048x2x768, .f32⟩
  | 94 => ⟨S2048x2x768, .f32⟩
  | 95 => ⟨S_, .f32⟩
  | 96 => ⟨S2048x2, .f32⟩
  | 97 => ⟨S2048x2x1, .f32⟩
  | 98 => ⟨S_, .f32⟩
  | 99 => ⟨S2048x2x1, .f32⟩
  | 100 => ⟨S2048x2x1, .f32⟩
  | 101 => ⟨S_, .f32⟩
  | 102 => ⟨S2048x2x1, .f32⟩
  | 103 => ⟨S2048x2x1, .f32⟩
  | 104 => ⟨S2048x2x1, .f32⟩
  | 105 => ⟨S2048x2x768, .f32⟩
  | 106 => ⟨S2048x2x768, .f32⟩
  | 107 => ⟨S1x1x768, .f32⟩
  | 108 => ⟨S2048x2x768, .f32⟩
  | 109 => ⟨S2048x2x768, .f32⟩
  | 110 => ⟨S768x768, .f32⟩
  | 111 => ⟨S2048x2x768, .f32⟩
  | 112 => ⟨S_, .f32⟩
  | 113 => ⟨S2048x2x768, .f32⟩
  | 114 => ⟨S2048x2x768, .f32⟩
  | 115 => ⟨S2048x2x768, .f32⟩
  | 116 => ⟨S_, .f32⟩
  | 117 => ⟨S_, .f32⟩
  | 118 => ⟨S2048x2x768, .f32⟩
  | 119 => ⟨S2048x2x768, .f32⟩
  | 120 => ⟨S2048x2x768, .f32⟩
  | 121 => ⟨S2048x2x768, .f32⟩
  | 122 => ⟨S768x768, .f32⟩
  | 123 => ⟨S2048x2x768, .f32⟩
  | 124 => ⟨S2048x2x768, .f32⟩
  | 125 => ⟨S2048x1x768, .f32⟩
  | 126 => ⟨S2048x768, .f32⟩
  | 127 => ⟨S2048x1x768, .f32⟩
  | _ => ⟨S1x2048x768, .f32⟩

abbrev hbmTy0_3 (i : Nat) : BufTy := match i % 128 with
  | 0 => ⟨S2048x1, .f32⟩
  | 1 => ⟨S2048x1x1, .f32⟩
  | 2 => ⟨S2048x1x768, .f32⟩
  | 3 => ⟨S2048x1x768, .f32⟩
  | 4 => ⟨S_, .f32⟩
  | 5 => ⟨S2048x768, .f32⟩
  | 6 => ⟨S768x1, .f32⟩
  | 7 => ⟨S2048x1, .f32⟩
  | 8 => ⟨S1x1, .f32⟩
  | 9 => ⟨S2048x1, .f32⟩
  | 10 => ⟨S2048x1, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x768, .f32⟩
  | 20 => ⟨S2048x768, .f32⟩
  | 21 => ⟨S_, .f32⟩
  | 22 => ⟨S2048x1, .f32⟩
  | 23 => ⟨S2048x1, .f32⟩
  | 24 => ⟨S2048x768, .f32⟩
  | 25 => ⟨S2048x768, .f32⟩
  | 26 => ⟨S2048x768, .f32⟩
  | 27 => ⟨S768x768, .f32⟩
  | 28 => ⟨S2048x768, .f32⟩
  | 29 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_values : Ref sig .tc := ⟨.hbm, 19, rfl⟩
abbrev main_indices : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_cst_6 : Ref sig .tc := ⟨.hbm, 58, rfl⟩
abbrev main_v28 : Ref sig .tc := ⟨.hbm, 59, rfl⟩
abbrev main_cst_7 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_cst_9 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_10 : Ref sig .tc := ⟨.hbm, 69, rfl⟩
abbrev main_v35 : Ref sig .tc := ⟨.hbm, 70, rfl⟩
abbrev main_cst_11 : Ref sig .tc := ⟨.hbm, 71, rfl⟩
abbrev main_v36 : Ref sig .tc := ⟨.hbm, 72, rfl⟩
abbrev main_cst_12 : Ref sig .tc := ⟨.hbm, 73, rfl⟩
abbrev main_v37 : Ref sig .tc := ⟨.hbm, 74, rfl⟩
abbrev main_v38 : Ref sig .tc := ⟨.hbm, 75, rfl⟩
abbrev main_cst_13 : Ref sig .tc := ⟨.hbm, 76, rfl⟩
abbrev main_v39 : Ref sig .tc := ⟨.hbm, 77, rfl⟩
abbrev main_v40 : Ref sig .tc := ⟨.hbm, 78, rfl⟩
abbrev main_cst_14 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_15 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_16 : Ref sig .tc := ⟨.hbm, 92, rfl⟩
abbrev main_v52 : Ref sig .tc := ⟨.hbm, 93, rfl⟩
abbrev main_cst_17 : Ref sig .tc := ⟨.hbm, 94, rfl⟩
abbrev main_v53 : Ref sig .tc := ⟨.hbm, 95, rfl⟩
abbrev main_cst_18 : Ref sig .tc := ⟨.hbm, 96, rfl⟩
abbrev main_v54 : Ref sig .tc := ⟨.hbm, 97, rfl⟩
abbrev main_cst_19 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_20 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v66 : Ref sig .tc := ⟨.hbm, 114, rfl⟩
abbrev main_values_21 : Ref sig .tc := ⟨.hbm, 115, rfl⟩
abbrev main_indices_22 : Ref sig .tc := ⟨.hbm, 116, rfl⟩
abbrev main_cst_23 : Ref sig .tc := ⟨.hbm, 117, rfl⟩
abbrev main_v67 : Ref sig .tc := ⟨.hbm, 118, rfl⟩
abbrev main_v68 : Ref sig .tc := ⟨.hbm, 119, rfl⟩
abbrev main_c : Ref sig .tc := ⟨.hbm, 120, rfl⟩
abbrev main_v69 : Ref sig .tc := ⟨.hbm, 121, rfl⟩
abbrev main_v70 : Ref sig .tc := ⟨.hbm, 122, rfl⟩
abbrev main_c_24 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_call2_v5 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_25 : Ref sig .tc := ⟨.hbm, 147, rfl⟩
abbrev main_v86 : Ref sig .tc := ⟨.hbm, 148, rfl⟩
abbrev main_v87 : Ref sig .tc := ⟨.hbm, 149, rfl⟩
abbrev main_cst_26 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v88 : Ref sig .tc := ⟨.hbm, 154, rfl⟩
abbrev main_c_27 : Ref sig .tc := ⟨.hbm, 155, rfl⟩
abbrev main_v89 : Ref sig .tc := ⟨.hbm, 156, rfl⟩
abbrev main_v90 : Ref sig .tc := ⟨.hbm, 157, rfl⟩
abbrev main_c_28 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_cst_29 : Ref sig .tc := ⟨.hbm, 164, rfl⟩
abbrev main_v96 : Ref sig .tc := ⟨.hbm, 165, rfl⟩
abbrev main_v97 : Ref sig .tc := ⟨.hbm, 166, rfl⟩
abbrev main_c_30 : Ref sig .tc := ⟨.hbm, 167, rfl⟩
abbrev main_v98 : Ref sig .tc := ⟨.hbm, 168, rfl⟩
abbrev main_v99 : Ref sig .tc := ⟨.hbm, 169, rfl⟩
abbrev main_c_31 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_v105 : Ref sig .tc := ⟨.hbm, 181, rfl⟩
abbrev main_cst_32 : Ref sig .tc := ⟨.hbm, 182, rfl⟩
abbrev main_v106 : Ref sig .tc := ⟨.hbm, 183, rfl⟩
abbrev main_cst_33 : Ref sig .tc := ⟨.hbm, 184, rfl⟩
abbrev main_v107 : Ref sig .tc := ⟨.hbm, 185, rfl⟩
abbrev main_v108 : Ref sig .tc := ⟨.hbm, 186, rfl⟩
abbrev main_cst_34 : Ref sig .tc := ⟨.hbm, 187, rfl⟩
abbrev main_v109 : Ref sig .tc := ⟨.hbm, 188, rfl⟩
abbrev main_v110 : Ref sig .tc := ⟨.hbm, 189, rfl⟩
abbrev main_cst_35 : Ref sig .tc := ⟨.hbm, 190, rfl⟩
abbrev main_v111 : Ref sig .tc := ⟨.hbm, 191, rfl⟩
abbrev main_cst_36 : Ref sig .tc := ⟨.hbm, 192, rfl⟩
abbrev main_v112 : Ref sig .tc := ⟨.hbm, 193, rfl⟩
abbrev main_cst_37 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_cst_38 : Ref sig .tc := ⟨.hbm, 202, rfl⟩
abbrev main_v120 : Ref sig .tc := ⟨.hbm, 203, rfl⟩
abbrev main_v121 : Ref sig .tc := ⟨.hbm, 204, rfl⟩
abbrev main_cst_39 : Ref sig .tc := ⟨.hbm, 205, rfl⟩
abbrev main_v122 : Ref sig .tc := ⟨.hbm, 206, rfl⟩
abbrev main_v123 : Ref sig .tc := ⟨.hbm, 207, rfl⟩
abbrev main_cst_40 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_cst_41 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_42 : Ref sig .tc := ⟨.hbm, 237, rfl⟩
abbrev main_v151 : Ref sig .tc := ⟨.hbm, 238, rfl⟩
abbrev main_cst_43 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_cst_44 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_cst_45 : Ref sig .tc := ⟨.hbm, 261, rfl⟩
abbrev main_v172 : Ref sig .tc := ⟨.hbm, 262, rfl⟩
abbrev main_v173 : Ref sig .tc := ⟨.hbm, 263, rfl⟩
abbrev main_cst_46 : Ref sig .tc := ⟨.hbm, 264, rfl⟩
abbrev main_v174 : Ref sig .tc := ⟨.hbm, 265, rfl⟩
abbrev main_v175 : Ref sig .tc := ⟨.hbm, 266, rfl⟩
abbrev main_cst_47 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_cst_48 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_cst_49 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_cst_50 : Ref sig .tc := ⟨.hbm, 292, rfl⟩
abbrev main_v198 : Ref sig .tc := ⟨.hbm, 293, rfl⟩
abbrev main_v199 : Ref sig .tc := ⟨.hbm, 294, rfl⟩
abbrev main_cst_51 : Ref sig .tc := ⟨.hbm, 295, rfl⟩
abbrev main_v200 : Ref sig .tc := ⟨.hbm, 296, rfl⟩
abbrev main_v201 : Ref sig .tc := ⟨.hbm, 297, rfl⟩
abbrev main_cst_52 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_cst_53 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_cst_54 : Ref sig .tc := ⟨.hbm, 327, rfl⟩
abbrev main_v229 : Ref sig .tc := ⟨.hbm, 328, rfl⟩
abbrev main_cst_55 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_cst_56 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_v249 : Ref sig .tc := ⟨.hbm, 350, rfl⟩
abbrev main_cst_57 : Ref sig .tc := ⟨.hbm, 351, rfl⟩
abbrev main_v250 : Ref sig .tc := ⟨.hbm, 352, rfl⟩
abbrev main_v251 : Ref sig .tc := ⟨.hbm, 353, rfl⟩
abbrev main_cst_58 : Ref sig .tc := ⟨.hbm, 354, rfl⟩
abbrev main_v252 : Ref sig .tc := ⟨.hbm, 355, rfl⟩
abbrev main_v253 : Ref sig .tc := ⟨.hbm, 356, rfl⟩
abbrev main_cst_59 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_cst_60 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_cst_61 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_v276 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_cst_62 : Ref sig .tc := ⟨.hbm, 388, rfl⟩
abbrev main_v282 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_v289 : Ref sig .tc := ⟨.hbm, 396, rfl⟩
abbrev main_cst_63 : Ref sig .tc := ⟨.hbm, 397, rfl⟩
abbrev main_v290 : Ref sig .tc := ⟨.hbm, 398, rfl⟩
abbrev main_v291 : Ref sig .tc := ⟨.hbm, 399, rfl⟩
abbrev main_cst_64 : Ref sig .tc := ⟨.hbm, 400, rfl⟩
abbrev main_v292 : Ref sig .tc := ⟨.hbm, 401, rfl⟩
abbrev main_v293 : Ref sig .tc := ⟨.hbm, 402, rfl⟩
abbrev main_v294 : Ref sig .tc := ⟨.hbm, 403, rfl⟩
abbrev main_v295 : Ref sig .tc := ⟨.hbm, 404, rfl⟩
abbrev main_cst_65 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_v301 : Ref sig .tc := ⟨.hbm, 411, rfl⟩
abbrev main_v302 : Ref sig .tc := ⟨.hbm, 412, rfl⟩
abbrev main_v303 : Ref sig .tc := ⟨.hbm, 413, rfl⟩

abbrev nD : Nat := 1
abbrev τ : Topo := Topo.v7x

variable {F : FTy → Type} [FloatOps F]
-- ==== Proof.KRun.lean ====
/- The kernel's run with its results named: the launch of `Proof/Gen/KernelIdeal/Frame.lean`, read at the three result
   buffers as well as at the arguments. -/
module

public import proofs.«01_k».proof.Proof.Gen.KernelIdeal.Frame

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program terminates without a fault, its three results end at the contents the last
    boundary `W7` names, and its arguments end unchanged. -/
theorem run : θ_run defs (onTc (τ := τ) (main (F := F))) ⟨m, fun _ => 0, ρ⟩ (fun r => ∀ c : Dev nD,
      r.2.mem ((c.tc : Thread nD τ).loc main_v0_0) = W7 m ρ c (Proc.devRef .tc main_v0_0)
      ∧ r.2.mem ((c.tc : Thread nD τ).loc main_v0_1) = W7 m ρ c (Proc.devRef .tc main_v0_1)
      ∧ r.2.mem ((c.tc : Thread nD τ).loc main_v0_2) = W7 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v0_0 (by decide)), h c _ (mem_uc main_v0_1 (by decide)), h c _ (mem_uc main_v0_2 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.Val

end
-- ==== Proof.Words.lean ====
/- Small numbers as 32-bit words, and the gathers and scatters that read them as positions. -/
module

public import Idealize.ShloMosaic.Lib.Pointwise
public import Idealize.ShloMosaic.Lib.ValueIdxCore
public import Idealize.ShloMosaic.Lib.Routing.OpsPair
public import Idealize.ShloMosaic.Lib.Routing.OpsSet
public import Idealize.ShloMosaic.Lib.StableHlo.Predicate
public import Idealize.ShloMosaic.Lib.SortFacts

@[expose] public section

namespace Cert.Words

open Idealize.ShloMosaic

theorem toInt_small (a : Nat) (h : a < 2 ^ 31) : (BitVec.ofNat 32 a).toInt = (a : Int) :=
  StableHlo.Predicate.toInt_ofNat_small a h

/-- The signed comparison of two small words is that of the numbers. -/
theorem slt_small (a b : Nat) (ha : a < 2 ^ 31) (hb : b < 2 ^ 31) : (BitVec.ofNat 32 a).slt (BitVec.ofNat 32 b) = decide (a < b) := by
  rw [BitVec.slt_eq_decide, toInt_small a ha, toInt_small b hb]
  simp

theorem cmpi_slt_small (a b : Nat) (ha : a < 2 ^ 31) (hb : b < 2 ^ 31) :
    IntOp.cmpi .slt (BitVec.ofNat 32 a) (BitVec.ofNat 32 b) = BitVec.ofBool (decide (a < b)) :=
  congrArg BitVec.ofBool (slt_small a b ha hb)

/-- Small words are equal exactly when the numbers are. -/
theorem cmpi_eq_small (a b : Nat) (ha : a < 2 ^ 31) (hb : b < 2 ^ 31) :
    IntOp.cmpi .eq (BitVec.ofNat 32 a) (BitVec.ofNat 32 b) = BitVec.ofBool (decide (a = b)) := by
  unfold IntOp.cmpi
  congr 1
  have : BitVec.ofNat 32 a = BitVec.ofNat 32 b ↔ a = b := by
    constructor
    · intro h
      have := congrArg BitVec.toInt h
      rw [toInt_small a ha, toInt_small b hb] at this
      exact_mod_cast this
    · rintro rfl; rfl
  rw [Bool.eq_iff_iff]
  simp [this]

theorem maxsi_small (a b : Nat) (ha : a < 2 ^ 31) (hb : b < 2 ^ 31) :
    IntOp.maxsi (BitVec.ofNat 32 a) (BitVec.ofNat 32 b) = BitVec.ofNat 32 (max a b) := by
  unfold IntOp.maxsi
  rw [slt_small b a hb ha]
  by_cases h : b < a
  · simp [h, max_eq_left h.le]
  · simp [h, max_eq_right (not_lt.mp h)]

theorem minsi_small (a b : Nat) (ha : a < 2 ^ 31) (hb : b < 2 ^ 31) :
    IntOp.minsi (BitVec.ofNat 32 a) (BitVec.ofNat 32 b) = BitVec.ofNat 32 (min a b) := by
  unfold IntOp.minsi
  rw [slt_small a b ha hb]
  by_cases h : a < b
  · simp [h, min_eq_left h.le]
  · simp [h, min_eq_right (not_lt.mp h)]

theorem addi_small (a b : Nat) : IntOp.addi (BitVec.ofNat 32 a) (BitVec.ofNat 32 b) = BitVec.ofNat 32 (a + b) :=
  BitVec.ofNat_add_ofNat _ _

theorem muli_small (a b : Nat) : IntOp.muli (BitVec.ofNat 32 a) (BitVec.ofNat 32 b) = BitVec.ofNat 32 (a * b) := by
  unfold IntOp.muli
  exact (BitVec.ofNat_mul _ _).symm

theorem subi_small (a b : Nat) (h : b ≤ a) : IntOp.subi (BitVec.ofNat 32 a) (BitVec.ofNat 32 b) = BitVec.ofNat 32 (a - b) := by
  unfold IntOp.subi
  rw [show BitVec.ofNat 32 a = BitVec.ofNat 32 (a - b) + BitVec.ofNat 32 b by rw [BitVec.ofNat_add_ofNat, Nat.sub_add_cancel h]]
  exact BitVec.add_sub_cancel _ _

/-- A small word is not negative: an index that would count from the end does not. -/
theorem guard_small (a : Nat) (ha : a < 2 ^ 31) (x : BitVec 32) :
    Scalar.select (IntOp.cmpi .slt (BitVec.ofNat 32 a) 0#32) x (BitVec.ofNat 32 a) = BitVec.ofNat 32 a := by
  rw [cmpi_slt_small a 0 ha (by norm_num)]
  rfl

/-- A truth value as a number. -/
theorem uitofp_decide (p : Prop) [Decidable p] : FloatOps.uitofp (F := Ideal) .f32 (BitVec.ofBool (decide p)) = if p then (1 : EReal) else 0 := by
  show ((((BitVec.ofBool (decide p)).toNat : ℝ)) : EReal) = _
  by_cases h : p <;> simp [h]

/-- A count as a sum of ones. -/
theorem sum_ones {ι : Type} [DecidableEq ι] (p : ι → Prop) [DecidablePred p] (s : Finset ι) :
    (∑ i ∈ s, if p i then (1 : EReal) else 0) = (((s.filter p).card : ℝ) : EReal) := by
  induction s using Finset.induction_on with
  | empty => simp
  | insert a s ha ih =>
    rw [Finset.sum_insert ha, ih, Finset.filter_insert]
    by_cases h : p a
    · rw [if_pos h, if_pos h, Finset.card_insert_of_notMem (fun h' => ha (Finset.mem_filter.mp h').1), Nat.cast_add, Nat.cast_one, EReal.coe_add, add_comm]
      rfl
    · rw [if_neg h, if_neg h, zero_add]

/-- A small number converted to a word. -/
theorem fptosi_small (a : Nat) (ha : a < 2 ^ 31) : Ideal.fptosi 32 (((a : Nat) : ℝ) : EReal) = BitVec.ofNat 32 a := by
  unfold Ideal.fptosi
  rw [Ideal.toIntClamped_coe, if_pos (Nat.cast_nonneg _), Int.floor_natCast]
  have e1 : (((2 ^ (32 - 1) : Nat) : Int)) = 2147483648 := by norm_num
  rw [e1, min_eq_right (by omega), max_eq_right (by omega)]
  exact BitVec.ofInt_natCast _ _

/-- Entries of a list of 2048 taken at the positions of a 16 by 256 table. -/
theorem take_table {α : Type}
    (wf : GatherDims.WF ⟨1, ![2048]⟩ ⟨3, ![16, 256, 1]⟩ ⟨2, ![16, 256]⟩ [] [0] [] [0] [] 2 ![1])
    (x : (⟨1, ![2048]⟩ : Shape).Idx → α) (idx : IVec ⟨3, ![16, 256, 1]⟩ 32) (e : Fin 16) (s : Fin 256) (b : Fin 2048)
    (hb : idx (ix3 e s (0 : Fin 1)) = BitVec.ofNat 32 b.val) :
    Host.gather (ValueIdx.takeDims 2048 16 256 wf) x idx (ix2 e s) = x (ix1 b) := by
  rw [ValueIdx.gather_take_apply (by norm_num)]
  refine congrArg x (congrArg ix1 (Fin.ext ?_))
  have : ValueIdx.takeIdx (ix2 e s) = ix3 e s (0 : Fin 1) := by
    funext a
    match a with
    | ⟨0, _⟩ => rfl
    | ⟨1, _⟩ => rfl
    | ⟨2, _⟩ => rfl
  show min (idx (ValueIdx.takeIdx (ix2 e s))).toInt.toNat (2048 - 1) = b.val
  rw [this, hb, toInt_small _ (by omega)]
  show min ((b.val : Int).toNat) (2048 - 1) = b.val
  omega

/-- The one coordinate of a list's index, as an index. -/
theorem ofFin_ix1 {n : Nat} (k : Fin n) : Shape.Idx.ofFin k = ix1 k := by
  funext a
  match a with
  | ⟨0, _⟩ => rfl

/-- The third of three lists sorted together, read through the order of the sort. -/
theorem sort3_third {n : Nat} {α β γ : Type} (cmp : α × β × γ → α × β × γ → BitVec 1) (x : (⟨1, ![n]⟩ : Shape).Idx → α)
    (y : (⟨1, ![n]⟩ : Shape).Idx → β) (z : (⟨1, ![n]⟩ : Shape).Idx → γ) (i : Fin n) :
    (Host.sort3 ⟨1, ![n]⟩ 0 cmp x y z).2.2 (ix1 i)
      = z (ix1 (sortedFrom (fun k k' => cmp (x (ix1 k), y (ix1 k), z (ix1 k)) (x (ix1 k'), y (ix1 k'), z (ix1 k')) == 1#1) i)) := by
  unfold Host.sort3
  simp [ofFin_ix1]

/-- The second of two lists sorted together, read through the order of the sort. -/
theorem sort2_second {n : Nat} {α β : Type} (cmp : α × β → α × β → BitVec 1) (x : (⟨1, ![n]⟩ : Shape).Idx → α)
    (y : (⟨1, ![n]⟩ : Shape).Idx → β) (i : Fin n) :
    (Host.sort2 ⟨1, ![n]⟩ 0 cmp x y).2 (ix1 i)
      = y (ix1 (sortedFrom (fun k k' => cmp (x (ix1 k), y (ix1 k)) (x (ix1 k'), y (ix1 k')) == 1#1) i)) := by
  unfold Host.sort2
  simp [ofFin_ix1]

end Cert.Words
-- ==== Proof.SortRank.lean ====
/- Where a stable sort puts an element: at the number of elements that come before it. -/
module

public import Idealize.ShloMosaic.Lib.SortPrefix
public import Idealize.ShloMosaic.Lib.Pointwise

@[expose] public section

namespace Cert.Rank

open Idealize.ShloMosaic

variable {n : Nat} {α : Type} [LinearOrder α] (key : Fin n → α)

/-- How many positions have a key below position `k`'s. -/
def below (k : Fin n) : Nat := (Finset.univ.filter fun m => key m < key k).card

/-- A stable sort asks of a later element only whether it goes before an earlier one. -/
theorem stable_congr (R B : Fin n → Fin n → Bool) (h : ∀ a b, a < b → R b a = B b a) :
    sortedFrom R = sortedFrom B := by
  have gen : ∀ l : List (Fin n), l.Pairwise (· < ·) → stableSort R l = stableSort B l := fun l => by
    induction l with
    | nil => intro _; rfl
    | cons a l ih =>
      intro hl
      rw [List.pairwise_cons] at hl
      unfold stableSort
      rw [ih hl.2]
      exact insertBefore_congr R B a _ fun b hb => h a b (hl.1 b ((perm_stableSort B l).mem_iff.mp hb))
  have e : sortPositions n R = sortPositions n B := gen _ (List.pairwise_lt_finRange n)
  funext i
  exact List.get_of_eq e _

variable {key}

/-- Sorting by a key without repetitions lists the keys in order. -/
theorem key_strictMono (hk : Function.Injective key) (i j : Fin n) (hij : i < j) :
    key (sortedFrom (fun a b => decide (key a < key b)) i) < key (sortedFrom (fun a b => decide (key a < key b)) j) := by
  have hB : StrictTotalBefore fun a b : Fin n => decide (key a < key b) :=
    { irrefl := fun a => by simp
      trans := fun a b c h h' => by
        simp only [decide_eq_true_eq] at *
        exact h.trans h'
      total := fun a b h => by
        simp only [decide_eq_true_eq]
        exact lt_or_gt_of_ne fun e => h (hk e) }
  have h := sortedFrom_noInversion _ (fun a b : Fin n => decide (key a < key b)) hB.asymm (fun _ _ h => h) hB.negTrans i j hij
  rw [decide_eq_false_iff_not, not_lt] at h
  exact lt_of_le_of_ne h fun e => hij.ne (sortedFrom_injective _ (hk e))

/-- The element at sorted position `i` has `i` elements before it. -/
theorem below_sortedFrom (hk : Function.Injective key) (R : Fin n → Fin n → Bool)
    (h : ∀ a b, a < b → R b a = decide (key b < key a)) (i : Fin n) : below key (sortedFrom R i) = i.val := by
  rw [stable_congr R (fun a b => decide (key a < key b)) h]
  have e : (Finset.univ.filter fun m => key m < key (sortedFrom (fun a b => decide (key a < key b)) i))
      = (Finset.univ.filter fun j : Fin n => j < i).image (sortedFrom fun a b => decide (key a < key b)) := by
    ext m
    simp only [Finset.mem_filter, Finset.mem_univ, true_and, Finset.mem_image]
    constructor
    · intro hm
      obtain ⟨j, rfl⟩ := sortedFrom_surjective (fun a b => decide (key a < key b)) m
      refine ⟨j, ?_, rfl⟩
      by_contra hj
      rcases eq_or_lt_of_le (not_lt.mp hj) with e | e
      · rw [e] at hm; exact lt_irrefl _ hm
      · exact lt_asymm hm (key_strictMono hk i j e)
    · rintro ⟨j, hj, rfl⟩
      exact key_strictMono hk j i hj
  unfold below
  rw [e, Finset.card_image_of_injective _ (sortedFrom_injective _)]
  have : (Finset.univ.filter fun j : Fin n => j < i) = Finset.Iio i := by ext; simp
  rw [this, Fin.card_Iio]

/-- Two positions with as many keys below them are one. -/
theorem below_injective (hk : Function.Injective key) (R : Fin n → Fin n → Bool)
    (h : ∀ a b, a < b → R b a = decide (key b < key a)) (k : Fin n) (i : Fin n) (e : below key k = i.val) :
    sortedFrom R i = k := by
  obtain ⟨j, rfl⟩ := sortedFrom_surjective R k
  rw [below_sortedFrom hk R h] at e
  rw [Fin.ext e]

/-- Fewer positions than there are have a key below a position's. -/
theorem below_lt (k : Fin n) : below key k < n := by
  have h : (Finset.univ.filter fun m => key m < key k) ⊂ Finset.univ :=
    Finset.filter_ssubset.mpr ⟨k, Finset.mem_univ _, lt_irrefl _⟩
  simpa [below] using Finset.card_lt_card h

/-- The key of "greater value first, on equal values the earlier position". -/
noncomputable def downKey (v : Fin n → EReal) (k : Fin n) : EReal ×ₗ Fin n := toLex (-v k, k)

theorem downKey_injective (v : Fin n → EReal) : Function.Injective (downKey v) := fun a b h => by
  have := congrArg (fun x => (ofLex x).2) h
  exact this

/-- What comes first under `downKey`. -/
theorem downKey_lt (v : Fin n → EReal) (a b : Fin n) : downKey v a < downKey v b ↔ v b < v a ∨ (v a = v b ∧ a < b) := by
  unfold downKey
  rw [Prod.Lex.toLex_lt_toLex]
  simp only [EReal.neg_lt_neg_iff, neg_inj]

/-- The comparator of a descending sort, on a later and an earlier position. -/
theorem ogt_downKey (v : Fin n → EReal) (a b : Fin n) (h : a < b) :
    (Ideal.cmp .ogt (v b) (v a) == 1#1) = decide (downKey v b < downKey v a) := by
  have e : (downKey v b < downKey v a) ↔ v a < v b := by
    rw [downKey_lt]
    exact ⟨fun h' => h'.elim id fun h'' => absurd h''.2 (not_lt.mpr h.le), Or.inl⟩
  simp only [Ideal.cmp, e]
  by_cases hv : v a < v b <;> simp [hv]

/-- The first of the greatest entries. -/
def IsTop (f : Fin n → EReal) (a : Fin n) : Prop := (∀ b, f b ≤ f a) ∧ ∀ b, f b = f a → a ≤ b

/-- There is only one first of the greatest entries. -/
theorem IsTop.unique {f : Fin n → EReal} {a b : Fin n} (ha : IsTop f a) (hb : IsTop f b) : a = b := by
  have e : f a = f b := le_antisymm (hb.1 a) (ha.1 b)
  exact le_antisymm (ha.2 b e.symm) (hb.2 a e)

/-- A descending stable sort puts the first of the greatest entries first. -/
theorem isTop_sorted (f : Fin n → EReal) (i : Fin n) (hi : i.val = 0) (R : Fin n → Fin n → Bool)
    (h : ∀ a b, a < b → R b a = decide (downKey f b < downKey f a)) : IsTop f (sortedFrom R i) := by
  have h0 : below (downKey f) (sortedFrom R i) = 0 := (below_sortedFrom (downKey_injective f) R h i).trans hi
  unfold below at h0
  rw [Finset.card_eq_zero, Finset.filter_eq_empty_iff] at h0
  have h1 : ∀ b, ¬ (f (sortedFrom R i) < f b ∨ (f b = f (sortedFrom R i) ∧ b < sortedFrom R i)) := fun b => by
    rw [← downKey_lt]; exact h0 (Finset.mem_univ b)
  exact ⟨fun b => not_lt.mp fun hb => h1 b (Or.inl hb), fun b hb => not_lt.mp fun hb' => h1 b (Or.inr ⟨hb, hb'⟩)⟩

/-- The greatest entry is the maximum folded from minus infinity. -/
theorem IsTop.fold_max {f : Fin n → EReal} {a : Fin n} (ha : IsTop f a) : Finset.fold max ⊥ f Finset.univ = f a := by
  apply le_antisymm
  · rw [Finset.fold_max_le]
    exact ⟨bot_le, fun b _ => ha.1 b⟩
  · rw [Finset.le_fold_max]
    exact Or.inr ⟨a, Finset.mem_univ _, le_rfl⟩

/-- There is a first of the greatest entries. -/
theorem IsTop.exists (f : Fin n → EReal) (hn : 0 < n) : ∃ a, IsTop f a :=
  ⟨_, isTop_sorted f ⟨0, hn⟩ rfl (fun a b => decide (downKey f a < downKey f b)) fun _ _ _ => rfl⟩

end Cert.Rank
-- ==== Proof.Consts.lean ====
/- The numbers that the programs' float constants denote. -/
module

public import Idealize.ShloMosaic.Lib.Pointwise

@[expose] public section

namespace Cert.Consts

open Idealize.ShloMosaic

/-- The pattern of minus infinity denotes minus infinity. -/
theorem bits_bot : Ideal.ofBits FTy.f32 0xFF800000#32 = ⊥ := by simp [Ideal.ofBits, Ideal.ieee]
/-- The pattern of plus infinity denotes plus infinity. -/
theorem bits_top : Ideal.ofBits FTy.f32 0x7F800000#32 = ⊤ := by simp [Ideal.ofBits, Ideal.ieee]
/-- The pattern of 192. -/
theorem bits_192 : Ideal.ofBits FTy.f32 0x43400000#32 = ((192 : ℝ) : EReal) := by
  simp [Ideal.ofBits, Ideal.ieee, -EReal.coe_mul]; norm_num
/-- The pattern of 2. -/
theorem bits_2 : Ideal.ofBits FTy.f32 0x40000000#32 = ((2 : ℝ) : EReal) := by
  simp [Ideal.ofBits, Ideal.ieee, -EReal.coe_mul]; norm_num
/-- The pattern of 0. -/
theorem bits_0 : Ideal.ofBits FTy.f32 0x00000000#32 = 0 := by simp [Ideal.ofBits, Ideal.ieee]
/-- The pattern of 2048. -/
theorem bits_2048 : Ideal.ofBits FTy.f32 0x45000000#32 = ((2048 : ℝ) : EReal) := by
  simp [Ideal.ofBits, Ideal.ieee, -EReal.coe_mul]; norm_num
/-- The pattern of the reference's mark of an expert's missing token is a number below that of its threshold. -/
theorem bits_mark : Ideal.ofBits FTy.f32 0xF149F2CA#32 < Ideal.ofBits FTy.f32 0xEFA18F08#32 := by
  simp [Ideal.ofBits, Ideal.ieee, -EReal.coe_mul]; norm_num
/-- The pattern of the threshold is a number above minus infinity. -/
theorem bot_lt_threshold : ⊥ < Ideal.ofBits FTy.f32 0xEFA18F08#32 :=
  bot_le.trans_lt bits_mark
/-- The root of the pattern of 192. -/
theorem sqrt_192 : Ideal.sqrt (Ideal.ofBits FTy.f32 0x43400000#32) = ((Real.sqrt 192 : ℝ) : EReal) := by
  rw [bits_192, Ideal.sqrt_coe, if_neg (by norm_num)]
/-- The root of the pattern of 2. -/
theorem sqrt_2 : Ideal.sqrt (Ideal.ofBits FTy.f32 0x40000000#32) = ((Real.sqrt 2 : ℝ) : EReal) := by
  rw [bits_2, Ideal.sqrt_coe, if_neg (by norm_num)]

/-- The greatest of two numbers, folded from minus infinity. -/
theorem fold_max_two (f : Fin 2 → EReal) : Finset.fold max ⊥ f Finset.univ = max (f 0) (f 1) := by
  have h : (Finset.univ : Finset (Fin 2)) = {0, 1} := by decide
  rw [h, Finset.fold_insert (by decide), Finset.fold_singleton, max_bot_right]

end Cert.Consts
-- ==== Proof.TopOne.lean ====
/- Reading a top-one of rows, an arg-max of rows and a top-k of rows. -/
module

public import proofs.«01_k».proof.Proof.SortRank
public import proofs.«01_k».proof.Proof.Consts
public import Idealize.ShloMosaic.Lib.StableHlo.Predicate

@[expose] public section

noncomputable section

namespace Cert.Rank

open Idealize.ShloMosaic

/-- A column of a two-dimensional index replaced. -/
theorem along_two {a b : Nat} (i : Fin a) (j : Fin b) (h : 1 < (⟨2, ![a, b]⟩ : Shape).rank) (k : Fin b) :
    Shape.Idx.along (s := ⟨2, ![a, b]⟩) (ix2 i j) ⟨1, h⟩ k = ix2 i k := by
  funext q
  match q with
  | ⟨0, _⟩ => rfl
  | ⟨1, _⟩ => rfl

/-- The order in which a descending sort takes the entries of a row. -/
def down {n : Nat} (f : Fin n → EReal) : Fin n → Fin n :=
  sortedFrom fun k k' => FloatOps.cmpfTotal (F := Ideal) (φ := .f32) .gt (f k) (f k') == 1#1

/-- The descending order is that of `downKey`. -/
theorem down_rel {n : Nat} (f : Fin n → EReal) (a b : Fin n) (h : a < b) :
    (FloatOps.cmpfTotal (F := Ideal) (φ := .f32) .gt (f b) (f a) == 1#1) = decide (downKey f b < downKey f a) :=
  ogt_downKey f a b h

/-- An entry of a row's descending order, by how many entries come before it. -/
theorem down_of_below {n : Nat} (f : Fin n → EReal) (k i : Fin n) (e : below (downKey f) k = i.val) : down f i = k :=
  below_injective (downKey_injective f) _ (down_rel f) k i e

/-- How many entries come before an entry of a row's descending order. -/
theorem below_down {n : Nat} (f : Fin n → EReal) (i : Fin n) : below (downKey f) (down f i) = i.val :=
  below_sortedFrom (downKey_injective f) _ (down_rel f) i

/-- The descending order starts at the first of the greatest entries. -/
theorem isTop_down {n : Nat} (f : Fin n → EReal) (i : Fin n) (hi : i.val = 0) : IsTop f (down f i) :=
  isTop_sorted f i hi _ (down_rel f)

/-- The index at which a top-k reads the sorted rows. -/
theorem slice_two {β : Type} {a b t : Nat} (h : (⟨2, ![a, b]⟩ : Shape).Slices (fun _ => 0) ⟨2, ![a, t]⟩) (i : Fin a) (j : Fin t)
    (hj : t ≤ b) (y : (⟨2, ![a, b]⟩ : Shape).Idx → β) :
    extractStridedSlice (⟨2, ![a, t]⟩ : Shape) (fun _ => 0) y h (ix2 i j) = y (ix2 i (j.castLE hj)) := by
  refine congrArg y (funext fun q => Fin.ext ?_)
  match q with
  | ⟨0, _⟩ => exact Nat.zero_add _
  | ⟨1, _⟩ => exact Nat.zero_add _

/-- The comparisons of a row's descending sort. -/
theorem down_fun {a b : Nat} (x : FVec Ideal ⟨2, ![a, b]⟩ .f32) (i : Fin a) (j : Fin b) (h : 1 < (⟨2, ![a, b]⟩ : Shape).rank) :
    (fun k k' : Fin b => FloatOps.cmpfTotal (F := Ideal) (φ := .f32) .gt (x (Shape.Idx.along (ix2 i j) ⟨1, h⟩ k))
        (x (Shape.Idx.along (ix2 i j) ⟨1, h⟩ k')) == 1#1)
      = fun k k' => FloatOps.cmpfTotal (F := Ideal) (φ := .f32) .gt (x (ix2 i k)) (x (ix2 i k')) == 1#1 :=
  funext fun k => funext fun k' =>
    congrArg₂ (fun p q => FloatOps.cmpfTotal (F := Ideal) (φ := .f32) .gt (x p) (x q) == 1#1) (along_two i j h k) (along_two i j h k')

/-- A row's top-k values are the row in descending order. -/
theorem topK_val {a b t : Nat} (x : FVec Ideal ⟨2, ![a, b]⟩ .f32) (h : (⟨2, ![a, b]⟩ : Shape).Slices (fun _ => 0) ⟨2, ![a, t]⟩)
    (i : Fin a) (j : Fin t) (hj : t ≤ b) :
    (Host.topK ⟨2, ![a, t]⟩ 1 (FloatOps.cmpfTotal .gt) x h).1 (ix2 i j)
      = x (ix2 i (down (fun e => x (ix2 i e)) (j.castLE hj))) := by
  have h1 : 1 < (⟨2, ![a, b]⟩ : Shape).rank := Nat.one_lt_two
  unfold Host.topK Host.sort2
  dsimp only
  rw [slice_two h i j hj, dif_pos h1]
  have key : ∀ g g' : Fin b → Fin b → Bool, g = g' →
      x (Shape.Idx.along (ix2 i (j.castLE hj)) ⟨1, h1⟩ (sortedFrom g (j.castLE hj))) = x (ix2 i (sortedFrom g' (j.castLE hj))) :=
    fun g g' e => by rw [e]; exact congrArg x (along_two i _ h1 _)
  exact key _ _ (down_fun x i _ h1)

/-- A row's top-k positions are those of the row in descending order. -/
theorem topK_idx {a b t : Nat} (x : FVec Ideal ⟨2, ![a, b]⟩ .f32) (h : (⟨2, ![a, b]⟩ : Shape).Slices (fun _ => 0) ⟨2, ![a, t]⟩)
    (i : Fin a) (j : Fin t) (hj : t ≤ b) :
    (Host.topK ⟨2, ![a, t]⟩ 1 (FloatOps.cmpfTotal .gt) x h).2 (ix2 i j)
      = BitVec.ofNat 32 (down (fun e => x (ix2 i e)) (j.castLE hj)).val := by
  have h1 : 1 < (⟨2, ![a, b]⟩ : Shape).rank := Nat.one_lt_two
  unfold Host.topK Host.sort2
  dsimp only
  rw [slice_two h i j hj, dif_pos h1]
  have key : ∀ g g' : Fin b → Fin b → Bool, g = g' →
      iotaInDim (⟨2, ![a, b]⟩ : Shape) 32 ⟨1, h1⟩ (Shape.Idx.along (ix2 i (j.castLE hj)) ⟨1, h1⟩ (sortedFrom g (j.castLE hj)))
        = BitVec.ofNat 32 (sortedFrom g' (j.castLE hj)).val :=
    fun g g' e => by rw [e]; exact congrArg (iotaInDim (⟨2, ![a, b]⟩ : Shape) 32 ⟨1, h1⟩) (along_two i _ h1 _)
  refine Eq.trans ?_ (key _ _ (down_fun x i (j.castLE hj) h1))
  dsimp only
  exact dif_pos h1

/-- One pair is better than another: a greater value, or the same value and a smaller word. -/
def Better (p q : EReal × BitVec 32) : Prop := q.1 < p.1 ∨ (p.1 = q.1 ∧ p.2.toInt < q.2.toInt)

/-- A body keeps the better of two pairs. -/
def KeepsBetter (f : EReal × BitVec 32 → EReal × BitVec 32 → EReal × BitVec 32) : Prop :=
  ∀ a b, (f a b = a ∧ ¬ Better b a) ∨ (f a b = b ∧ ¬ Better a b)

/-- Not being better is transitive. -/
theorem not_better_trans {p q r : EReal × BitVec 32} (h : ¬ Better p q) (h' : ¬ Better q r) : ¬ Better p r := by
  unfold Better at *
  push Not at *
  refine ⟨h.1.trans h'.1, fun e => ?_⟩
  have e1 : p.1 = q.1 := le_antisymm h.1 (e ▸ h'.1)
  exact (h'.2 (e1 ▸ e)).trans (h.2 e1)

/-- A fold that keeps the better pair ends with one of the pairs, none of them better. -/
theorem fold_better {f : EReal × BitVec 32 → EReal × BitVec 32 → EReal × BitVec 32} (hf : KeepsBetter f)
    (l : List (EReal × BitVec 32)) (p : EReal × BitVec 32) :
    (l.foldl f p = p ∨ l.foldl f p ∈ l) ∧ ¬ Better p (l.foldl f p) ∧ ∀ q ∈ l, ¬ Better q (l.foldl f p) := by
  have irr : ∀ q, ¬ Better q q := fun q h => by
    rcases h with h | h
    · exact lt_irrefl _ h
    · exact lt_irrefl _ h.2
  induction l generalizing p with
  | nil => exact ⟨Or.inl rfl, irr p, fun q hq => by simp at hq⟩
  | cons a l ih =>
    obtain ⟨h1, h2, h3⟩ := ih (f p a)
    rw [List.foldl_cons]
    rcases hf p a with ⟨e, hb⟩ | ⟨e, hb⟩
    · rw [e] at h1 h2 h3 ⊢
      refine ⟨h1.imp_right fun h => List.mem_cons_of_mem _ h, h2, fun q hq => ?_⟩
      rcases List.mem_cons.mp hq with rfl | hq
      · exact not_better_trans hb h2
      · exact h3 q hq
    · rw [e] at h1 h2 h3 ⊢
      refine ⟨Or.inr (h1.elim (fun h => by rw [h]; exact List.mem_cons_self) fun h => List.mem_cons_of_mem _ h),
        not_better_trans hb h2, fun q hq => ?_⟩
      rcases List.mem_cons.mp hq with rfl | hq
      · exact h2
      · exact h3 q hq

/-- A row's arg-max, of a body that keeps the better pair, is the first of its greatest entries. -/
theorem argmax_idx {a b : Nat} (hb : b < 2 ^ 31) {f : EReal × BitVec 32 → EReal × BitVec 32 → EReal × BitVec 32}
    (hf : KeepsBetter f)
    (x : FVec Ideal ⟨2, ![a, b]⟩ .f32) (y : IVec ⟨2, ![a, b]⟩ 32) (hy : ∀ i e, y (ix2 i e) = BitVec.ofNat 32 e.val)
    (u : FVec Ideal ⟨0, ![]⟩ .f32) (hu : ∀ j, u j = ⊥) (v : IVec ⟨0, ![]⟩ 32) (hv : ∀ j, v j = 0#32)
    (h : (⟨2, ![a, b]⟩ : Shape).ReducesTo [1] ⟨1, ![a]⟩) (hs : 0 < (⟨0, ![]⟩ : Shape).numel) (i : Fin a) (e : Fin b)
    (he : IsTop (fun e => x (ix2 i e)) e) :
    (Host.argReduce (F := Ideal) (φ := .f32) f x y u v h hs (ix1 i)).2 = BitVec.ofNat 32 e.val := by
  have hd : ∀ (i' : Fin a) (e : Fin b), h.drop (ix2 i' e) = ix1 i' := fun i' e => by
    funext q
    match q with
    | ⟨0, _⟩ => exact Fin.ext (Shape.ReducesTo.drop_apply_val_of_eq h (ix2 i' e) 0 0 (Nat.one_pos : 0 < 1) rfl)
  have mem : ∀ p, p ∈ Host.argReduceFiber x y h (ix1 i) ↔ ∃ e : Fin b, p = (x (ix2 i e), BitVec.ofNat 32 e.val) := fun p => by
    unfold Host.argReduceFiber
    simp only [List.mem_map, List.mem_filter, List.mem_finRange, true_and, decide_eq_true_eq]
    constructor
    · rintro ⟨n, hn, rfl⟩
      obtain ⟨i', e, hie⟩ : ∃ (i' : Fin a) (e : Fin b), (⟨2, ![a, b]⟩ : Shape).rowMajor.symm n = ix2 i' e := ⟨_, _, eq_ix2 _⟩
      rw [hie, hd] at hn
      have : i' = i := congrFun hn 0
      subst this
      exact ⟨e, by rw [hie, hy]⟩
    · rintro ⟨e, rfl⟩
      exact ⟨(⟨2, ![a, b]⟩ : Shape).rowMajor (ix2 i e), by rw [Equiv.symm_apply_apply, hd], by rw [Equiv.symm_apply_apply, hy]⟩
  have tw : ∀ e : Fin b, (BitVec.ofNat 32 e.val).toInt = e.val := fun e => by
    have := e.isLt
    exact StableHlo.Predicate.toInt_ofNat_small _ (by omega)
  rw [Ideal.argReduce_eq_reduce2, Host.reduce2_eq_foldl_fiber, hu, hv]
  obtain ⟨h1, h2, h3⟩ := fold_better hf (Host.argReduceFiber x y h (ix1 i)) (⊥, 0#32)
  rcases h1 with h1 | h1
  · rw [h1] at h3 ⊢
    have hbot : ∀ e : Fin b, x (ix2 i e) = ⊥ := fun e => by
      have := h3 _ ((mem _).mpr ⟨e, rfl⟩)
      unfold Better at this
      push Not at this
      exact le_bot_iff.mp this.1
    have h0 : e = ⟨0, e.pos⟩ := le_antisymm (he.2 ⟨0, e.pos⟩ (by simp only [hbot])) (Nat.zero_le _)
    rw [h0]
  · obtain ⟨e', he'⟩ := (mem _).mp h1
    rw [he'] at h3 ⊢
    have ht : IsTop (fun e => x (ix2 i e)) e' := by
      have hall : ∀ e'' : Fin b, x (ix2 i e'') ≤ x (ix2 i e') ∧ (x (ix2 i e'') = x (ix2 i e') → (e' : Int) ≤ (e'' : Int)) := fun e'' => by
        have := h3 _ ((mem _).mpr ⟨e'', rfl⟩)
        unfold Better at this
        push Not at this
        simpa only [tw] using this
      exact ⟨fun b => (hall b).1, fun b hb => by exact_mod_cast (hall b).2 hb⟩
    rw [ht.unique he]

end Cert.Rank
-- ==== Proof.Collab.lean ====
/- One token's collaboration in the kernel's form, over rows of 768 numbers: normalisation, the two-state attention with
   four heads taken by masks over the lanes, the feed-forward step, and the gated fusion with the output projection. -/
module

public import Idealize.ShloMosaic.Lib.Pointwise

@[expose] public section

noncomputable section

namespace Cert.Collab

open Idealize.ShloMosaic

/-- A row: one number per lane. -/
abbrev Row := Fin 768 → EReal

/-- The parameters of the collaboration, with the two constants the kernel names (`cs` scales a head's dot products,
    `st` divides the argument of the error function). -/
structure Par where
  med : Row
  wi : Fin 2304 → Row
  bi : Fin 2304 → EReal
  wo : Fin 768 → Row
  bo : Row
  n1 : Row
  n2 : Row
  w1 : Fin 768 → Row
  w2 : Fin 768 → Row
  fw : Row
  fb : EReal
  wop : Fin 768 → Row
  cs : EReal
  st : EReal

/-- The mean of the squares of a row. -/
def msq (s : Row) : EReal := Ideal.div (∑ x, s x * s x) (Ideal.ofBits FTy.f32 1145044992#32)

/-- The root-mean-square normalisation of a row, with a weight per lane. -/
def rms (n s : Row) : Row := fun j => s j * Ideal.rsqrt (msq s + Ideal.ofBits FTy.f32 897988541#32) * n j

/-- A row against the rows of a matrix. -/
def lin {n : Nat} (w : Fin n → Row) (h : Row) (j : Fin n) : EReal := ∑ x, h x * w j x

/-- The gate half of an expert's hidden layer. -/
def eg (w13 : Fin 4096 → Row) (x : Row) (h : Fin 2048) : EReal := ∑ d, (x d + x d) * w13 ⟨h.val, by omega⟩ d
/-- The value half of an expert's hidden layer. -/
def eu (w13 : Fin 4096 → Row) (x : Row) (h : Fin 2048) : EReal := ∑ d, (x d + x d) * w13 ⟨2048 + h.val, by omega⟩ d
/-- One expert's output for a token's row: the row plus the gated feed-forward layer of twice the row. -/
def expert (w13 : Fin 4096 → Row) (w2 : Fin 768 → Fin 2048 → EReal) (x : Row) : Row := fun c =>
  x c + ∑ h, eg w13 x h * Ideal.logistic (eg w13 x h) * eu w13 x h * w2 c h

variable (P : Par)

/-- The query, key and value projection of a state, as one row of 2304 numbers. -/
def qkv (s : Row) (j : Fin 2304) : EReal := lin P.wi (rms P.n1 s) j + P.bi j

/-- The queries of a state. -/
def qp (s : Row) : Row := fun c => qkv P s ⟨c.val, by omega⟩
/-- The keys of a state. -/
def kp (s : Row) : Row := fun c => qkv P s ⟨768 + c, by omega⟩
/-- The values of a state. -/
def vp (s : Row) : Row := fun c => qkv P s ⟨1536 + c, by omega⟩

/-- One in the lanes of head `h`, zero elsewhere. -/
def msk (h : Fin 4) (c : Fin 768) : EReal := if 192 * h.val ≤ c.val ∧ c.val < 192 * h.val + 192 then 1 else 0

/-- The dot product of two rows over the lanes of a head. -/
def hdot (a b : Row) (h : Fin 4) : EReal := ∑ x, a x * b x * msk h x

/-- The exponential of the first of two scores less their maximum. -/
def ex0 (x y : EReal) : EReal := Ideal.exp (x - max x y)
/-- The exponential of the second of two scores less their maximum. -/
def ex1 (x y : EReal) : EReal := Ideal.exp (y - max x y)
/-- The weight of the first of two scores. -/
def wt0 (x y : EReal) : EReal := Ideal.div (ex0 x y) (ex0 x y + ex1 x y)
/-- The weight of the second of two scores. -/
def wt1 (x y : EReal) : EReal := Ideal.div (ex1 x y) (ex0 x y + ex1 x y)

/-- The scaled score of a head. -/
def sc (q k : Row) (h : Fin 4) : EReal := hdot q k h * P.cs

/-- The first three heads' weights, each spread over the head's lanes. -/
def acc3 (w : Fin 4 → EReal) (c : Fin 768) : EReal := w 0 * msk 0 c + w 1 * msk 1 c + w 2 * msk 2 c

/-- All four heads' weights, each spread over the head's lanes. -/
def acc4 (w : Fin 4 → EReal) (c : Fin 768) : EReal := acc3 w c + w 3 * msk 3 c

/-- The weights of the first state's keys for a query, head by head. -/
def aw0 (q k0 k1 : Row) (h : Fin 4) : EReal := wt0 (sc P q k0 h) (sc P q k1 h)
/-- The weights of the second state's keys for a query, head by head. -/
def aw1 (q k0 k1 : Row) (h : Fin 4) : EReal := wt1 (sc P q k0 h) (sc P q k1 h)

/-- The attention of a query over the two states. -/
def att (q k0 k1 v0 v1 : Row) : Row := fun c => acc4 (aw0 P q k0 k1) c * v0 c + acc4 (aw1 P q k0 k1) c * v1 c

/-- The attention of state `s` over the states `a` and `b`. -/
def attOf (s a b : Row) : Row := att P (qp P s) (kp P a) (kp P b) (vp P a) (vp P b)

/-- A state with its projected attention added. -/
def proj (s a b : Row) : Row := fun j => s j + lin P.wo (attOf P s a b) j + P.bo j

/-- The hidden layer of the feed-forward step before its activation. -/
def hid (s : Row) : Row := fun j => lin P.w1 (rms P.n2 s) j

/-- The activation: half the argument times one plus the error function of the argument over the root of two. -/
def gelu (x : EReal) : EReal := Ideal.ofBits FTy.f32 1056964608#32 * x * (1 + Ideal.erf (Ideal.div x P.st))

/-- The activated hidden layer. -/
def act (s : Row) : Row := fun j => gelu P (hid P s j)

/-- A state with its feed-forward step added. -/
def ffn (s : Row) : Row := fun j => s j + lin P.w2 (act P s) j

/-- One round for state `s` against the states `a` and `b`. -/
def stp (s a b : Row) : Row := ffn P (proj P s a b)

/-- The expert's state at the start: its output, or zero where the token was dropped. -/
def start (k : EReal) (e : Row) : Row := fun j => k * e j

/-- The mediator's state after one round. -/
def a0 (s1 : Row) : Row := stp P P.med P.med s1
/-- The expert's state after one round. -/
def a1 (s1 : Row) : Row := stp P s1 P.med s1
/-- The mediator's state after two rounds. -/
def b0 (s1 : Row) : Row := stp P (a0 P s1) (a0 P s1) (a1 P s1)
/-- The expert's state after two rounds. -/
def b1 (s1 : Row) : Row := stp P (a1 P s1) (a0 P s1) (a1 P s1)

/-- The gate, from the gathered expert state. -/
def gate (g : Row) : EReal := Ideal.logistic (∑ x, g x * P.fw x + P.fb)

/-- The gated fusion of a mediator state and a gathered expert state. -/
def fuse (s g : Row) : Row := fun j => gate P g * s j + (1 - gate P g) * g j

/-- The gathered expert state. -/
def gath (k : EReal) (s : Row) : Row := fun j => k * s j

/-- The output row of one token. -/
def outRow (k : EReal) (s1 : Row) : Row := lin P.wop (fuse P (b0 P s1) (gath k (b1 P s1)))

end Cert.Collab
-- ==== Proof.RefStage.lean ====
/- The reference's collaboration, stage by stage: each stage as a function of the states it acts on, and what it is at an
   index; a round of the reference is these stages. -/
module

public import proofs.«01_k».proof.Proof.Gen.ReferenceIdeal.Read
public import proofs.«01_k».proof.Proof.Collab
public import proofs.«01_k».proof.Proof.Consts

@[expose] public section

set_option maxRecDepth 16384

noncomputable section

namespace Cert.ReferenceIdeal.Val

open Cert.ReferenceIdeal Cert.ReferenceIdeal.Gen Cert.Collab
open Idealize.ShloMosaic

/-- The states scaled by the inverse root of their mean square and by a weight per lane. -/
def nrm (S : FVec Ideal S2048x2x768 .f32) (w : FVec Ideal S768 .f32) : FVec Ideal S2048x2x768 .f32 :=
  mulf (mulf S (broadcastInDim S2048x2x768 ![0, 1, 2] bcast_S2048x2x1_S2048x2x768_0_1_2 (Host.rsqrt (addf
    (Host.divf (broadcastInDim S2048x2x1 ![0, 1] bcast_S2048x2_S2048x2x1_0_1
      (Host.reduceAdd (mulf S S) (constant S_ .f32 0x00000000#32) reducesTo_S2048x2x768_S2048x2_d2 h_S_))
      (broadcastInDim S2048x2x1 ![] bcast_S_S2048x2x1 (constant S_ .f32 0x44400000#32)))
    (broadcastInDim S2048x2x1 ![] bcast_S_S2048x2x1 (constant S_ .f32 0x358637BD#32))))))
    (broadcastInDim S2048x2x768 ![0, 1, 2] bcast_S1x1x768_S2048x2x768_0_1_2
      (broadcastInDim S1x1x768 ![2] bcast_S768_S1x1x768_2 w))

/-- Query, key and value of normalised states, side by side. -/
def qkvs (H : FVec Ideal S2048x2x768 .f32) (w : FVec Ideal S2304x768 .f32) (b : FVec Ideal S2304 .f32) :
    FVec Ideal S2048x2x2304 .f32 :=
  addf (Host.dotGeneral dot_S2048x2x768_S768x2304_S2048x2x2304_2_0_01_1_n_n none H
      (transpose S768x2304 [1, 0] w transposes_S2304x768_S768x2304_1_0))
    (broadcastInDim S2048x2x2304 ![0, 1, 2] bcast_S1x1x2304_S2048x2x2304_0_1_2
      (broadcastInDim S1x1x2304 ![2] bcast_S2304_S1x1x2304_2 b))

/-- A third of the projection, cut into heads. -/
def heads (X : FVec Ideal S2048x2x768 .f32) : FVec Ideal S2048x4x2x192 .f32 :=
  transpose S2048x4x2x192 [0, 2, 1, 3] (shapeCast S2048x2x4x192 X shapeCasts_S2048x2x768_S2048x2x4x192)
    transposes_S2048x2x4x192_S2048x4x2x192_0_2_1_3

/-- The queries, by head. -/
def qh (Q : FVec Ideal S2048x2x2304 .f32) : FVec Ideal S2048x4x2x192 .f32 :=
  heads (extractStridedSlice S2048x2x768 ![0, 0, 0] Q slices_S2048x2x2304_S2048x2x768_0_0_0)
/-- The keys, by head. -/
def kh (Q : FVec Ideal S2048x2x2304 .f32) : FVec Ideal S2048x4x2x192 .f32 :=
  heads (extractStridedSlice S2048x2x768 ![0, 0, 768] Q slices_S2048x2x2304_S2048x2x768_0_0_768)
/-- The values, by head. -/
def vh (Q : FVec Ideal S2048x2x2304 .f32) : FVec Ideal S2048x4x2x192 .f32 :=
  heads (extractStridedSlice S2048x2x768 ![0, 0, 1536] Q slices_S2048x2x2304_S2048x2x768_0_0_1536)

/-- The scores: each head's dot products over the root of the head's width. -/
def scores (q k : FVec Ideal S2048x4x2x192 .f32) : FVec Ideal S2048x4x2x2 .f32 :=
  Host.divf (Host.dotGeneral dot_S2048x4x2x192_S2048x4x192x2_S2048x4x2x2_3_2_2_3_01_01 none q
      (transpose S2048x4x192x2 [0, 1, 3, 2] k transposes_S2048x4x2x192_S2048x4x192x2_0_1_3_2))
    (broadcastInDim S2048x4x2x2 ![] bcast_S_S2048x4x2x2 (Host.sqrt (constant S_ .f32 0x43400000#32)))

/-- The exponentials of the scores less their greatest. -/
def exps (Z : FVec Ideal S2048x4x2x2 .f32) : FVec Ideal S2048x4x2x2 .f32 :=
  Host.exp (subf Z (broadcastInDim S2048x4x2x2 ![0, 1, 2, 3] bcast_S2048x4x2x1_S2048x4x2x2_0_1_2_3
    (broadcastInDim S2048x4x2x1 ![0, 1, 2] bcast_S2048x4x2_S2048x4x2x1_0_1_2
      (maximumf (broadcastInDim S2048x4x2 ![] bcast_S_S2048x4x2 (constant S_ .f32 0xFF800000#32))
        (Host.reduce FloatOps.maximumf Z (constant S_ .f32 0xFF800000#32) reducesTo_S2048x4x2x2_S2048x4x2_d3 h_S_)))))

/-- The attention's weights: the exponentials over their sum. -/
def wts (X : FVec Ideal S2048x4x2x2 .f32) : FVec Ideal S2048x4x2x2 .f32 :=
  Host.divf X (broadcastInDim S2048x4x2x2 ![0, 1, 2, 3] bcast_S2048x4x2x1_S2048x4x2x2_0_1_2_3
    (broadcastInDim S2048x4x2x1 ![0, 1, 2] bcast_S2048x4x2_S2048x4x2x1_0_1_2
      (Host.reduceAdd X (constant S_ .f32 0x00000000#32) reducesTo_S2048x4x2x2_S2048x4x2_d3 h_S_)))

/-- The weighted values, the heads side by side again. -/
def mixed (W : FVec Ideal S2048x4x2x2 .f32) (v : FVec Ideal S2048x4x2x192 .f32) : FVec Ideal S2048x2x768 .f32 :=
  shapeCast S2048x2x768 (transpose S2048x2x4x192 [0, 2, 1, 3]
    (Host.dotGeneral dot_S2048x4x2x2_S2048x4x2x192_S2048x4x2x192_3_2_2_3_01_01 none W v)
    transposes_S2048x4x2x192_S2048x2x4x192_0_2_1_3) shapeCasts_S2048x2x4x192_S2048x2x768

/-- The states with their projected attention. -/
def added (S O : FVec Ideal S2048x2x768 .f32) (w : FVec Ideal S768x768 .f32) (b : FVec Ideal S768 .f32) :
    FVec Ideal S2048x2x768 .f32 :=
  addf S (addf (Host.dotGeneral dot_S2048x2x768_S768x768_S2048x2x768_2_0_01_1_n_n none O
      (transpose S768x768 [1, 0] w transposes_S768x768_S768x768_1_0))
    (broadcastInDim S2048x2x768 ![0, 1, 2] bcast_S1x1x768_S2048x2x768_0_1_2
      (broadcastInDim S1x1x768 ![2] bcast_S768_S1x1x768_2 b)))

/-- States against the rows of a square matrix. -/
def mm (H : FVec Ideal S2048x2x768 .f32) (w : FVec Ideal S768x768 .f32) : FVec Ideal S2048x2x768 .f32 :=
  Host.dotGeneral dot_S2048x2x768_S768x768_S2048x2x768_2_0_01_1_n_n none H
    (transpose S768x768 [1, 0] w transposes_S768x768_S768x768_1_0)

/-- The activation, with the complementary error function. -/
def gel (Y : FVec Ideal S2048x2x768 .f32) : FVec Ideal S2048x2x768 .f32 :=
  mulf (mulf (broadcastInDim S2048x2x768 ![] bcast_S_S2048x2x768 (constant S_ .f32 0x3F000000#32)) Y)
    (Host.erfc (Host.divf (Host.negf Y)
      (broadcastInDim S2048x2x768 ![] bcast_S_S2048x2x768 (Host.sqrt (constant S_ .f32 0x40000000#32)))))

/-- The first half of a round: the attention. -/
def half (S : FVec Ideal S2048x2x768 .f32) (x5 : FVec Ideal S2304x768 .f32) (x6 : FVec Ideal S2304 .f32)
    (x7 : FVec Ideal S768x768 .f32) (x8 x9 : FVec Ideal S768 .f32) : FVec Ideal S2048x2x768 .f32 :=
  added S (mixed (wts (exps (scores (qh (qkvs (nrm S x9) x5 x6)) (kh (qkvs (nrm S x9) x5 x6))))) (vh (qkvs (nrm S x9) x5 x6))) x7 x8

/-- The second half of a round: the feed-forward step. -/
def rest (S : FVec Ideal S2048x2x768 .f32) (x10 : FVec Ideal S768 .f32) (x11 x12 : FVec Ideal S768x768 .f32) :
    FVec Ideal S2048x2x768 .f32 :=
  addf S (mm (gel (mm (nrm S x10) x11)) x12)

/-- Row `i` of token `n`. -/
def row (S : FVec Ideal S2048x2x768 .f32) (n : Fin 2048) (i : Fin 2) : Row := fun c => S (ix3 n i c)

/-- The normalisation at a lane. -/
theorem nrm_at (S : FVec Ideal S2048x2x768 .f32) (w : FVec Ideal S768 .f32) (n : Fin 2048) (i : Fin 2) (c : Fin 768) :
    nrm S w (ix3 n i c) = rms (fun c => w (ix1 c)) (row S n i) c := by
  pointwise [nrm, rms, msq, row]

/-- The projection at a lane. -/
theorem qkvs_at (H : FVec Ideal S2048x2x768 .f32) (w : FVec Ideal S2304x768 .f32) (b : FVec Ideal S2304 .f32) (n : Fin 2048)
    (i : Fin 2) (j : Fin 2304) :
    qkvs H w b (ix3 n i j) = lin (fun j c => w (ix2 j c)) (row H n i) j + b (ix1 j) := by
  pointwise [qkvs, lin, row]

/-- The queries at a head's lane. -/
theorem qh_at (Q : FVec Ideal S2048x2x2304 .f32) (n : Fin 2048) (h : Fin 4) (i : Fin 2) (d : Fin 192) :
    qh Q (ix4 n h i d) = Q (ix3 n i ⟨h.val * 192 + d.val, by omega⟩) := by
  pointwise [qh, heads]
/-- The keys at a head's lane. -/
theorem kh_at (Q : FVec Ideal S2048x2x2304 .f32) (n : Fin 2048) (h : Fin 4) (i : Fin 2) (d : Fin 192) :
    kh Q (ix4 n h i d) = Q (ix3 n i ⟨768 + (h.val * 192 + d.val), by omega⟩) := by
  pointwise [kh, heads]
/-- The values at a head's lane. -/
theorem vh_at (Q : FVec Ideal S2048x2x2304 .f32) (n : Fin 2048) (h : Fin 4) (i : Fin 2) (d : Fin 192) :
    vh Q (ix4 n h i d) = Q (ix3 n i ⟨1536 + (h.val * 192 + d.val), by omega⟩) := by
  pointwise [vh, heads]

/-- A score. -/
theorem scores_at (q k : FVec Ideal S2048x4x2x192 .f32) (n : Fin 2048) (h : Fin 4) (i j : Fin 2) :
    scores q k (ix4 n h i j) = Ideal.div (∑ d : Fin 192, q (ix4 n h i d) * k (ix4 n h j d))
      (Ideal.sqrt (Ideal.ofBits FTy.f32 0x43400000#32)) := by
  pointwise [scores]

/-- An exponential of a score less the greater of the two. -/
theorem exps_at (Z : FVec Ideal S2048x4x2x2 .f32) (n : Fin 2048) (h : Fin 4) (i j : Fin 2) :
    exps Z (ix4 n h i j) = Ideal.exp (Z (ix4 n h i j) - max (Z (ix4 n h i 0)) (Z (ix4 n h i 1))) := by
  pointwise [exps]
  rw [Consts.bits_bot, max_eq_right bot_le, Consts.fold_max_two]

/-- A weight. -/
theorem wts_at (X : FVec Ideal S2048x4x2x2 .f32) (n : Fin 2048) (h : Fin 4) (i j : Fin 2) :
    wts X (ix4 n h i j) = Ideal.div (X (ix4 n h i j)) (X (ix4 n h i 0) + X (ix4 n h i 1)) := by
  pointwise [wts]
  rw [Fin.sum_univ_two]

/-- A lane of the weighted values. -/
theorem mixed_at (W : FVec Ideal S2048x4x2x2 .f32) (v : FVec Ideal S2048x4x2x192 .f32) (n : Fin 2048) (i : Fin 2) (c : Fin 768) :
    mixed W v (ix3 n i c) =
      W (ix4 n ⟨c.val / 192, by omega⟩ i 0) * v (ix4 n ⟨c.val / 192, by omega⟩ 0 ⟨c.val % 192, by omega⟩) +
      W (ix4 n ⟨c.val / 192, by omega⟩ i 1) * v (ix4 n ⟨c.val / 192, by omega⟩ 1 ⟨c.val % 192, by omega⟩) := by
  pointwise [mixed]
  rw [Fin.sum_univ_two]

/-- A lane of the states with their projected attention. -/
theorem added_at (S O : FVec Ideal S2048x2x768 .f32) (w : FVec Ideal S768x768 .f32) (b : FVec Ideal S768 .f32) (n : Fin 2048)
    (i : Fin 2) (c : Fin 768) :
    added S O w b (ix3 n i c) = row S n i c + (lin (fun j c => w (ix2 j c)) (row O n i) c + b (ix1 c)) := by
  pointwise [added, lin, row]

/-- A lane of a product with a matrix. -/
theorem mm_at (H : FVec Ideal S2048x2x768 .f32) (w : FVec Ideal S768x768 .f32) (n : Fin 2048) (i : Fin 2) (c : Fin 768) :
    mm H w (ix3 n i c) = lin (fun j c => w (ix2 j c)) (row H n i) c := by
  pointwise [mm, lin, row]

/-- The activation at a lane. -/
theorem gel_at (Y : FVec Ideal S2048x2x768 .f32) (n : Fin 2048) (i : Fin 2) (c : Fin 768) :
    gel Y (ix3 n i c) = Ideal.ofBits FTy.f32 1056964608#32 * Y (ix3 n i c) *
      Ideal.erfc (Ideal.div (-(Y (ix3 n i c))) (Ideal.sqrt (Ideal.ofBits FTy.f32 0x40000000#32))) := by
  pointwise [gel]

end Cert.ReferenceIdeal.Val
-- ==== Proof.RefRound.lean ====
/- A round of the reference, row by row, is a round of the kernel's form: the heads' dot products by masks over the lanes, the
   weights spread over the lanes, the error function in place of its complement. -/
module

public import proofs.«01_k».proof.Proof.RefStage

@[expose] public section

set_option maxRecDepth 16384

noncomputable section

namespace Cert.Collab

open Idealize.ShloMosaic

/-- The mask of a head at a lane written by head and lane within the head. -/
theorem msk_lane (h j : Fin 4) (d : Fin 192) :
    msk h ⟨j.val * 192 + d.val, by omega⟩ = if j = h then 1 else 0 := by
  unfold msk
  by_cases e : j = h
  · subst e; rw [if_pos rfl, if_pos]; constructor <;> dsimp only <;> omega
  · rw [if_neg e, if_neg]
    rintro ⟨h1, h2⟩
    dsimp only at h1 h2
    exact e (Fin.ext (by omega))

/-- A masked sum over all lanes is the sum over the head's lanes. -/
theorem hdot_eq (a b : Row) (h : Fin 4) :
    hdot a b h = ∑ d : Fin 192, a ⟨h.val * 192 + d.val, by omega⟩ * b ⟨h.val * 192 + d.val, by omega⟩ := by
  unfold hdot
  rw [Fin.sum_univ_tiles 4 192 rfl, Finset.sum_eq_single h]
  · exact Finset.sum_congr rfl fun d _ => by rw [msk_lane, if_pos rfl, mul_one]
  · intro j _ e
    exact Finset.sum_eq_zero fun d _ => by rw [msk_lane, if_neg e, mul_zero]
  · intro e; exact absurd (Finset.mem_univ h) e

/-- Spreading the heads' weights over the lanes gives each lane its own head's weight. -/
theorem acc4_eq (w : Fin 4 → EReal) (c : Fin 768) : acc4 w c = w ⟨c.val / 192, by omega⟩ := by
  obtain ⟨h, d, hc, hh⟩ : ∃ (h : Fin 4) (d : Fin 192), c = ⟨h.val * 192 + d.val, by omega⟩ ∧
      (⟨c.val / 192, by omega⟩ : Fin 4) = h :=
    ⟨⟨c.val / 192, by omega⟩, ⟨c.val % 192, by omega⟩, Fin.ext (by dsimp only; omega), rfl⟩
  unfold acc4 acc3
  rw [hh, hc]
  simp only [msk_lane]
  clear hh hc
  fin_cases h <;> simp

/-- The division by the root of 192 is the scaling by its inverse. -/
theorem div_root (x : EReal) : Ideal.div x ((Real.sqrt 192 : ℝ) : EReal) = x * (((Real.sqrt 192)⁻¹ : ℝ) : EReal) := by
  rw [Ideal.div_coe (by positivity), one_div]

/-- The complementary error function of the negated quotient is one plus the error function of the quotient. -/
theorem erfc_root (x : EReal) : Ideal.erfc (Ideal.div (-x) ((Real.sqrt 2 : ℝ) : EReal)) =
    1 + Ideal.erf (Ideal.div x ((Real.sqrt 2 : ℝ) : EReal)) := by
  rw [← Ideal.erfc_neg, Ideal.div_coe (by positivity), Ideal.div_coe (by positivity), EReal.neg_mul]

end Cert.Collab

namespace Cert.ReferenceIdeal.Val

open Cert.ReferenceIdeal Cert.ReferenceIdeal.Gen Cert.Collab
open Idealize.ShloMosaic

variable (x4 : FVec Ideal S1x1x768 .f32) (x5 : FVec Ideal S2304x768 .f32) (x6 : FVec Ideal S2304 .f32)
  (x7 : FVec Ideal S768x768 .f32) (x8 x9 x10 : FVec Ideal S768 .f32) (x11 x12 : FVec Ideal S768x768 .f32)
  (x13 : FVec Ideal S1x768 .f32) (x14 : FVec Ideal S1 .f32) (x15 : FVec Ideal S768x768 .f32)

/-- The parameters, from the reference's arguments, the two constants the exact roots. -/
def rpar : Par where
  med c := x4 (ix3 (0 : Fin 1) (0 : Fin 1) c)
  wi j c := x5 (ix2 j c)
  bi j := x6 (ix1 j)
  wo j c := x7 (ix2 j c)
  bo c := x8 (ix1 c)
  n1 c := x9 (ix1 c)
  n2 c := x10 (ix1 c)
  w1 j c := x11 (ix2 j c)
  w2 j c := x12 (ix2 j c)
  fw c := x13 (ix2 (0 : Fin 1) c)
  fb := x14 (ix1 (0 : Fin 1))
  wop j c := x15 (ix2 j c)
  cs := (((Real.sqrt 192)⁻¹ : ℝ) : EReal)
  st := ((Real.sqrt 2 : ℝ) : EReal)

variable (S : FVec Ideal S2048x2x768 .f32) (n : Fin 2048) (i j : Fin 2)

/-- Query, key and value of a state. -/
theorem qkvs_row (l : Fin 2304) : qkvs (nrm S x9) x5 x6 (ix3 n i l) = qkv (rpar x4 x5 x6 x7 x8 x9 x10 x11 x12 x13 x14 x15) (row S n i) l := by
  rw [qkvs_at]
  have h : row (nrm S x9) n i = rms (fun c => x9 (ix1 c)) (row S n i) := funext fun c => nrm_at S x9 n i c
  rw [h]; rfl

/-- A scaled score of the reference is the masked score. -/
theorem scores_row (h : Fin 4) :
    scores (qh (qkvs (nrm S x9) x5 x6)) (kh (qkvs (nrm S x9) x5 x6)) (ix4 n h i j) =
      sc (rpar x4 x5 x6 x7 x8 x9 x10 x11 x12 x13 x14 x15) (qp (rpar x4 x5 x6 x7 x8 x9 x10 x11 x12 x13 x14 x15) (row S n i)) (kp (rpar x4 x5 x6 x7 x8 x9 x10 x11 x12 x13 x14 x15) (row S n j)) h := by
  rw [scores_at, Consts.sqrt_192, div_root]
  unfold sc
  rw [hdot_eq]
  refine congrArg₂ (· * ·) (Finset.sum_congr rfl fun d _ => ?_) rfl
  rw [qh_at, kh_at, qkvs_row x4 x5 x6 x7 x8 x9 x10 x11 x12 x13 x14 x15, qkvs_row x4 x5 x6 x7 x8 x9 x10 x11 x12 x13 x14 x15]
  rfl

/-- A lane of the reference's attention. -/
theorem mixed_row (c : Fin 768) :
    mixed (wts (exps (scores (qh (qkvs (nrm S x9) x5 x6)) (kh (qkvs (nrm S x9) x5 x6))))) (vh (qkvs (nrm S x9) x5 x6))
      (ix3 n i c) = attOf (rpar x4 x5 x6 x7 x8 x9 x10 x11 x12 x13 x14 x15) (row S n i) (row S n 0) (row S n 1) c := by
  rw [mixed_at, wts_at, wts_at, exps_at, exps_at, vh_at, vh_at]
  simp only [scores_row x4 x5 x6 x7 x8 x9 x10 x11 x12 x13 x14 x15, qkvs_row x4 x5 x6 x7 x8 x9 x10 x11 x12 x13 x14 x15]
  unfold attOf att
  rw [acc4_eq, acc4_eq]
  have e : ∀ k : Nat, (hk : k + c.val < 2304) → (h' : k + (c.val / 192 * 192 + c.val % 192) < 2304) →
      (⟨k + (c.val / 192 * 192 + c.val % 192), h'⟩ : Fin 2304) = ⟨k + c.val, hk⟩ := fun k _ _ => Fin.ext (by dsimp only; omega)
  rw [e 1536 (by omega)]
  rfl

/-- The first half of a round. -/
theorem half_row : row (half S x5 x6 x7 x8 x9) n i = proj (rpar x4 x5 x6 x7 x8 x9 x10 x11 x12 x13 x14 x15) (row S n i) (row S n 0) (row S n 1) := by
  funext c
  show half S x5 x6 x7 x8 x9 (ix3 n i c) = _
  unfold half
  rw [added_at]
  have h : row (mixed (wts (exps (scores (qh (qkvs (nrm S x9) x5 x6)) (kh (qkvs (nrm S x9) x5 x6)))))
      (vh (qkvs (nrm S x9) x5 x6))) n i = attOf (rpar x4 x5 x6 x7 x8 x9 x10 x11 x12 x13 x14 x15) (row S n i) (row S n 0) (row S n 1) :=
    funext fun c => mixed_row x4 x5 x6 x7 x8 x9 x10 x11 x12 x13 x14 x15 S n i c
  rw [h, ← add_assoc]
  rfl

/-- The second half of a round. -/
theorem rest_row : row (rest S x10 x11 x12) n i = ffn (rpar x4 x5 x6 x7 x8 x9 x10 x11 x12 x13 x14 x15) (row S n i) := by
  funext c
  show rest S x10 x11 x12 (ix3 n i c) = _
  unfold rest
  show row S n i c + mm (gel (mm (nrm S x10) x11)) x12 (ix3 n i c) = _
  rw [mm_at]
  have h : row (gel (mm (nrm S x10) x11)) n i = act (rpar x4 x5 x6 x7 x8 x9 x10 x11 x12 x13 x14 x15) (row S n i) := by
    funext c
    show gel (mm (nrm S x10) x11) (ix3 n i c) = _
    have h' : row (nrm S x10) n i = rms (fun c => x10 (ix1 c)) (row S n i) := funext fun c => nrm_at S x10 n i c
    rw [gel_at, mm_at, h', Consts.sqrt_2, erfc_root]
    rfl
  rw [h]
  rfl

/-- One round of the reference on the two states of a token. -/
theorem round_row : row (rest (half S x5 x6 x7 x8 x9) x10 x11 x12) n i = stp (rpar x4 x5 x6 x7 x8 x9 x10 x11 x12 x13 x14 x15) (row S n i) (row S n 0) (row S n 1) := by
  rw [rest_row x4 x5 x6 x7 x8 x9 x10 x11 x12 x13 x14 x15, half_row x4 x5 x6 x7 x8 x9 x10 x11 x12 x13 x14 x15]
  rfl

end Cert.ReferenceIdeal.Val
-- ==== Proof.RefOut.lean ====
/- The reference's output, token by token: it is the collaboration of the token's expert row, in the kernel's form. -/
module

public import proofs.«01_k».proof.Proof.RefRound

@[expose] public section

set_option maxRecDepth 16384

noncomputable section

namespace Cert.ReferenceIdeal.Val

open Cert.ReferenceIdeal Cert.ReferenceIdeal.Gen Cert.ReferenceIdeal.Read Cert.Collab
open Idealize.ShloMosaic

variable (x0 : FVec Ideal S1x2048x768 .f32) (x1 : FVec Ideal S16x768 .f32) (x2 : FVec Ideal S16x4096x768 .f32)
  (x3 : FVec Ideal S16x768x2048 .f32)
  (x4 : FVec Ideal S1x1x768 .f32) (x5 : FVec Ideal S2304x768 .f32) (x6 : FVec Ideal S2304 .f32)
  (x7 : FVec Ideal S768x768 .f32) (x8 x9 x10 : FVec Ideal S768 .f32) (x11 x12 : FVec Ideal S768x768 .f32)
  (x13 : FVec Ideal S1x768 .f32) (x14 : FVec Ideal S1 .f32) (x15 : FVec Ideal S768x768 .f32)
  (n : Fin 2048) (i : Fin 2) (c : Fin 768)

/-- The first round. -/
theorem round1 : val_main_v196 (F := Ideal) x0 x1 x2 x3 x4 x5 x6 x7 x8 x9 x10 x11 x12 = rest (half (val_main_v118 (F := Ideal) x0 x1 x2 x3 x4) x5 x6 x7 x8 x9) x10 x11 x12 := rfl

/-- The second round. -/
theorem round2 : val_main_v274 (F := Ideal) x0 x1 x2 x3 x4 x5 x6 x7 x8 x9 x10 x11 x12 = rest (half (val_main_v196 (F := Ideal) x0 x1 x2 x3 x4 x5 x6 x7 x8 x9 x10 x11 x12) x5 x6 x7 x8 x9) x10 x11 x12 := rfl

/-- The mediator's state at the start. -/
theorem row_v118_0 : row (val_main_v118 (F := Ideal) x0 x1 x2 x3 x4) n 0 = fun c => x4 (ix3 (0 : Fin 1) (0 : Fin 1) c) := by
  funext c
  pointwise [row, val_main_v118, val_main_v117, val_main_v115]

/-- The expert's state at the start. -/
theorem row_v118_1 : row (val_main_v118 (F := Ideal) x0 x1 x2 x3 x4) n 1 = fun c => val_main_v95 (F := Ideal) x0 x1 x2 x3 (ix2 n c) := by
  funext c
  pointwise [row, val_main_v118, val_main_v117, val_main_v115]

/-- The tail: the gated fusion of the two states after the rounds, and the output projection. -/
theorem tail_at : val_main_v303 (F := Ideal) x0 x1 x2 x3 x4 x5 x6 x7 x8 x9 x10 x11 x12 x13 x14 x15 (ix3 (0 : Fin 1) n c) =
    lin (rpar x4 x5 x6 x7 x8 x9 x10 x11 x12 x13 x14 x15).wop
      (fuse (rpar x4 x5 x6 x7 x8 x9 x10 x11 x12 x13 x14 x15) (row (val_main_v274 (F := Ideal) x0 x1 x2 x3 x4 x5 x6 x7 x8 x9 x10 x11 x12) n 0)
        (gath (val_main_v278 (F := Ideal) x0 x1 (ix2 n (0 : Fin 1))) (row (val_main_v274 (F := Ideal) x0 x1 x2 x3 x4 x5 x6 x7 x8 x9 x10 x11 x12) n 1))) c := by
  pointwise [val_main_v275, val_main_v276, val_main_v277, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_cst_62, val_main_cst_63, val_main_cst_64, val_main_cst_65, lin, fuse, gath, gate, rpar, row]
  simp only [Fin.sum_univ_one, Ideal.logistic]

/-- The reference's output at a token: the collaboration of its expert row. -/
theorem out_at : val_main_v303 (F := Ideal) x0 x1 x2 x3 x4 x5 x6 x7 x8 x9 x10 x11 x12 x13 x14 x15 (ix3 (0 : Fin 1) n c) =
    outRow (rpar x4 x5 x6 x7 x8 x9 x10 x11 x12 x13 x14 x15) (val_main_v278 (F := Ideal) x0 x1 (ix2 n (0 : Fin 1))) (fun c => val_main_v95 (F := Ideal) x0 x1 x2 x3 (ix2 n c)) c := by
  rw [tail_at, round2, round_row x4 x5 x6 x7 x8 x9 x10 x11 x12 x13 x14 x15, round_row x4 x5 x6 x7 x8 x9 x10 x11 x12 x13 x14 x15, round1, round_row x4 x5 x6 x7 x8 x9 x10 x11 x12 x13 x14 x15, round_row x4 x5 x6 x7 x8 x9 x10 x11 x12 x13 x14 x15,
    row_v118_0, row_v118_1]
  rfl

/-- The weight of a token's expert state. -/
theorem wgt_at : val_main_v278 (F := Ideal) x0 x1 (ix2 n (0 : Fin 1)) = val_main_v11 (F := Ideal) x0 x1 (ix2 n (0 : Fin 1)) * val_main_v104 (F := Ideal) x0 x1 (ix1 n) := by
  pointwise [val_main_v278, val_main_v116]

end Cert.ReferenceIdeal.Val
-- ==== Proof.RefRouter.lean ====
/- The reference's router: each token's expert, its weight, and what the auxiliary loss counts. -/
module

public import proofs.«01_k».proof.Proof.TopOne
public import proofs.«01_k».proof.Proof.RefOut

@[expose] public section

set_option maxRecDepth 16384

noncomputable section

namespace Cert.ReferenceIdeal.Val

open Cert.ReferenceIdeal Cert.ReferenceIdeal.Gen Cert.ReferenceIdeal.Read Cert.Rank Cert.Consts
open Idealize.ShloMosaic

variable (x0 : FVec Ideal S1x2048x768 .f32) (x1 : FVec Ideal S16x768 .f32) (n : Fin 2048) (e : Fin 16)

/-- A number strictly between the infinities is a real number. -/
theorem finite_real {a : EReal} (h : ⊥ < a ∧ a < ⊤) : ∃ r : ℝ, a = r :=
  ⟨a.toReal, (EReal.coe_toReal h.2.ne h.1.ne').symm⟩

/-- The greatest of one number, folded from minus infinity. -/
theorem fold_max_one (f : Fin 1 → EReal) : Finset.fold max ⊥ f Finset.univ = f 0 := by
  rw [Finset.univ_unique, Finset.fold_singleton, max_bot_right]; rfl

/-- A token's expert: the first of its greatest logits. -/
def pick : Fin 16 := down (fun e => val_main_v2 (F := Ideal) x0 x1 (ix2 n e)) 0

/-- A token's greatest logit. -/
def best : EReal := val_main_v2 (F := Ideal) x0 x1 (ix2 n (pick x0 x1 n))

theorem pick_top : IsTop (fun e => val_main_v2 (F := Ideal) x0 x1 (ix2 n e)) (pick x0 x1 n) := isTop_down _ _ rfl

/-- The word of a token's expert. -/
theorem v57_at : val_main_v57 (F := Ideal) x0 x1 (ix1 n) = BitVec.ofNat 32 (pick x0 x1 n).val := by
  pointwise [val_main_v57]
  exact topK_idx _ _ n 0 (by decide)

/-- The greatest logit, as the router reads it. -/
theorem values_at : val_main_values (F := Ideal) x0 x1 (ix2 n (0 : Fin 1)) = best x0 x1 n := topK_val _ _ n 0 (by decide)

theorem v58_at : val_main_v58 (F := Ideal) x0 x1 (ix1 n) = best x0 x1 n := by
  pointwise [val_main_v58]
  exact values_at x0 x1 n

/-- The weight of the one chosen expert is one. -/
theorem v11_at (h : ⊥ < best x0 x1 n ∧ best x0 x1 n < ⊤) : val_main_v11 (F := Ideal) x0 x1 (ix2 n (0 : Fin 1)) = 1 := by
  pointwise [val_main_v11, val_main_v10, val_main_v9, val_main_v8, val_main_v7, val_main_v6, val_main_v5, val_main_v4, val_main_v3, val_main_cst, val_main_cst_0, val_main_cst_1]
  simp only [Fin.sum_univ_one, values_at, bits_bot, fold_max_one, max_bot_left]
  obtain ⟨r, hr⟩ := finite_real h
  rw [hr, ← EReal.coe_sub, sub_self, Ideal.exp_coe, Real.exp_zero, Ideal.div_coe one_ne_zero]
  norm_num

/-- What an expert is assigned is how many tokens chose it. -/
theorem v31_eq (h : ∀ n, ⊥ < best x0 x1 n ∧ best x0 x1 n < ⊤) : val_main_v31 (F := Ideal) x0 x1 = val_main_v106 (F := Ideal) x0 x1 := by
  funext j
  obtain ⟨e, rfl⟩ : ∃ e, j = ix1 e := ⟨_, eq_ix1 j⟩
  pointwise [val_main_v31, val_main_v27, val_main_v26, val_main_v25, val_main_v24, val_main_v23, val_main_call0_v4, val_main_call0_v3, val_main_call0_v2, val_main_call0_v1, val_main_call0_v0, val_main_v106, val_main_v105, val_main_call4_v4, val_main_call4_v3, val_main_call4_v2, val_main_call4_v1, val_main_call4_v0, val_main_v57, val_main_cst_8, val_main_cst_5, val_main_cst_32]
  simp only [Fin.sum_univ_one, v11_at x0 x1 _ (h _), mul_one, bits_0, zero_add]

end Cert.ReferenceIdeal.Val
-- ==== Proof.Scatters.lean ====
/- The reference's gather of rows into the experts' tables, and where its scatters put a table's entries. -/
module

public import proofs.«01_k».proof.Proof.Words
public import proofs.«01_k».proof.Proof.RefRouter

@[expose] public section

set_option maxRecDepth 16384

noncomputable section

namespace Cert.ReferenceIdeal.Val

open Cert.ReferenceIdeal Cert.ReferenceIdeal.Gen Cert.Words
open Idealize.ShloMosaic

/-- Rows of 2048 taken at the positions of a 16 by 256 table. -/
theorem take_rows (x : FVec Ideal S2048x768 .f32) (idx : IVec S16x256x1 32) (e : Fin 16) (s : Fin 256) (d : Fin 768) (b : Fin 2048)
    (hb : idx (ix3 e s (0 : Fin 1)) = BitVec.ofNat 32 b.val) :
    Host.gather gather_S2048x768_S16x256x1_S16x256x768_2_0_n_n_0_2_1768 x idx (ix3 e s d) = x (ix2 b d) := by
  unfold Host.gather
  refine congrArg x (funext fun a => Fin.ext ?_)
  match a with
  | ⟨0, _⟩ =>
    show GatherDims.start gather_S2048x768_S16x256x1_S16x256x768_2_0_n_n_0_2_1768 (ix3 e s d) idx 0
      + GatherDims.batchCoord gather_S2048x768_S16x256x1_S16x256x768_2_0_n_n_0_2_1768 (ix3 e s d) 0
      + GatherDims.offCoord gather_S2048x768_S16x256x1_S16x256x768_2_0_n_n_0_2_1768 (ix3 e s d) 0 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S2048x768_S16x256x1_S16x256x768_2_0_n_n_0_2_1768.startIndexMap from List.mem_singleton.mpr rfl)]
    have hsi : gather_S2048x768_S16x256x1_S16x256x768_2_0_n_n_0_2_1768.siIdx (ix3 e s d)
        ⟨List.idxOf (0 : Fin 2) gather_S2048x768_S16x256x1_S16x256x768_2_0_n_n_0_2_1768.startIndexMap, List.idxOf_lt_length_iff.2 (List.mem_singleton.mpr rfl)⟩
          = ix3 e s (0 : Fin 1) := by
      funext b
      refine Fin.ext ?_
      match b with
      | ⟨0, _⟩ => rfl
      | ⟨1, _⟩ => rfl
      | ⟨2, _⟩ => rfl
    have hsi' := congrArg idx hsi
    refine (congrArg (fun w : BitVec 32 => min w.toInt.toNat (2048 - 1)) (hsi'.trans hb)).trans ?_
    show min (BitVec.ofNat 32 b.val).toInt.toNat (2048 - 1) = b.val
    rw [toInt_small _ (by omega)]
    show min ((b.val : Int).toNat) (2048 - 1) = b.val
    omega
  | ⟨1, _⟩ =>
    show GatherDims.start gather_S2048x768_S16x256x1_S16x256x768_2_0_n_n_0_2_1768 (ix3 e s d) idx 1
      + GatherDims.batchCoord gather_S2048x768_S16x256x1_S16x256x768_2_0_n_n_0_2_1768 (ix3 e s d) 1
      + GatherDims.offCoord gather_S2048x768_S16x256x1_S16x256x768_2_0_n_n_0_2_1768 (ix3 e s d) 1 = d.val
    rw [GatherDims.batchCoord_eq_zero _ _ _ List.not_mem_nil]
    unfold GatherDims.start
    rw [dif_neg (show ¬ (1 : Fin 2) ∈ gather_S2048x768_S16x256x1_S16x256x768_2_0_n_n_0_2_1768.startIndexMap by decide)]
    exact (Nat.zero_add _).trans rfl

/-- A table's rows land at the rows their positions name. -/
theorem lands_rows (idx : IVec S16x256x1 32) (e : Fin 16) (s : Fin 256) (d' : Fin 768) (b : Fin 2048)
    (hb : idx (ix3 e s (0 : Fin 1)) = BitVec.ofNat 32 b.val) (n : Fin 2048) (d : Fin 768) :
    scatter_S2048x768_S16x256x1_S16x256x768_2_0_0_2.resultIdx? (ix3 e s d') idx = some (ix2 n d) ↔ b = n ∧ d' = d := by
  rw [Routing.resultIdx?_eq_some]
  have h0 : scatter_S2048x768_S16x256x1_S16x256x768_2_0_0_2.start (ix3 e s d') idx 0 = (b.val : Int) := by
    unfold ScatterDims.start
    rw [dif_pos (show (0 : Fin 2) ∈ scatter_S2048x768_S16x256x1_S16x256x768_2_0_0_2.scatterDimsToOperandDims from List.mem_singleton.mpr rfl)]
    have hsi : scatter_S2048x768_S16x256x1_S16x256x768_2_0_0_2.siIdx (ix3 e s d')
        ⟨List.idxOf (0 : Fin 2) scatter_S2048x768_S16x256x1_S16x256x768_2_0_0_2.scatterDimsToOperandDims, List.idxOf_lt_length_iff.2 (List.mem_singleton.mpr rfl)⟩
          = ix3 e s (0 : Fin 1) := by
      funext b
      refine Fin.ext ?_
      match b with
      | ⟨0, _⟩ => rfl
      | ⟨1, _⟩ => rfl
      | ⟨2, _⟩ => rfl
    exact (congrArg BitVec.toInt ((congrArg idx hsi).trans hb)).trans (toInt_small _ (by omega))
  have h1 : scatter_S2048x768_S16x256x1_S16x256x768_2_0_0_2.start (ix3 e s d') idx 1 = 0 := by
    unfold ScatterDims.start
    rw [dif_neg (show ¬ (1 : Fin 2) ∈ scatter_S2048x768_S16x256x1_S16x256x768_2_0_0_2.scatterDimsToOperandDims by decide)]
  have w0 : scatter_S2048x768_S16x256x1_S16x256x768_2_0_0_2.window (ix3 e s d') 0 = 0 := rfl
  have w1 : scatter_S2048x768_S16x256x1_S16x256x768_2_0_0_2.window (ix3 e s d') 1 = d'.val := rfl
  constructor
  · intro h
    have a0 := h 0
    have a1 := h 1
    rw [h0, w0] at a0
    rw [h1, w1] at a1
    have b0 : ((b.val : Int) + ((0 : Nat) : Int)) = (n.val : Int) := a0
    have b1 : ((0 : Int) + ((d'.val : Nat) : Int)) = (d.val : Int) := a1
    exact ⟨Fin.ext (by omega), Fin.ext (by omega)⟩
  · rintro ⟨rfl, rfl⟩ a
    match a with
    | ⟨0, _⟩ => exact (congrArg₂ (fun (x : Int) (y : Nat) => x + (y : Int)) h0 w0).trans (Int.add_zero _)
    | ⟨1, _⟩ => exact (congrArg₂ (fun (x : Int) (y : Nat) => x + (y : Int)) h1 w1).trans (Int.zero_add _)

/-- A table's entries land at the positions they name. -/
theorem lands_ones (idx : IVec S16x256x1 32) (e : Fin 16) (s : Fin 256) (b : Fin 2048)
    (hb : idx (ix3 e s (0 : Fin 1)) = BitVec.ofNat 32 b.val) (n : Fin 2048) :
    scatter_S2048_S16x256x1_S16x256_n_0_0_2.resultIdx? (ix2 e s) idx = some (ix1 n) ↔ b = n := by
  rw [Routing.resultIdx?_eq_some]
  have h0 : scatter_S2048_S16x256x1_S16x256_n_0_0_2.start (ix2 e s) idx 0 = (b.val : Int) := by
    unfold ScatterDims.start
    rw [dif_pos (show (0 : Fin 1) ∈ scatter_S2048_S16x256x1_S16x256_n_0_0_2.scatterDimsToOperandDims from List.mem_singleton.mpr rfl)]
    have hsi : scatter_S2048_S16x256x1_S16x256_n_0_0_2.siIdx (ix2 e s)
        ⟨List.idxOf (0 : Fin 1) scatter_S2048_S16x256x1_S16x256_n_0_0_2.scatterDimsToOperandDims, List.idxOf_lt_length_iff.2 (List.mem_singleton.mpr rfl)⟩
          = ix3 e s (0 : Fin 1) := by
      funext b
      refine Fin.ext ?_
      match b with
      | ⟨0, _⟩ => rfl
      | ⟨1, _⟩ => rfl
      | ⟨2, _⟩ => rfl
    exact (congrArg BitVec.toInt ((congrArg idx hsi).trans hb)).trans (toInt_small _ (by omega))
  have w0 : scatter_S2048_S16x256x1_S16x256_n_0_0_2.window (ix2 e s) 0 = 0 := rfl
  constructor
  · intro h
    have a0 := h 0
    rw [h0, w0] at a0
    have b0 : ((b.val : Int) + ((0 : Nat) : Int)) = (n.val : Int) := a0
    exact Fin.ext (by omega)
  · rintro rfl a
    match a with
    | ⟨0, _⟩ => exact (congrArg₂ (fun (x : Int) (y : Nat) => x + (y : Int)) h0 w0).trans (Int.add_zero _)

end Cert.ReferenceIdeal.Val
-- ==== Proof.Slots.lean ====
/- Where a token stands: among all the tokens sorted by expert, and among its own expert's. -/
module

public import proofs.«01_k».proof.Proof.SortRank

@[expose] public section

noncomputable section

namespace Cert.Rank

open Idealize.ShloMosaic

variable {N E : Nat} (t : Fin N → Fin E) (p : Fin N → EReal)

/-- How many tokens of its own expert come before token `n`: those of a greater score, and those of an equal score at an earlier position. -/
def rnk (n : Fin N) : Nat := (Finset.univ.filter fun m => t m = t n ∧ downKey p m < downKey p n).card

/-- How many tokens go to the experts before expert `e`. -/
def starts (e : Fin E) : Nat := (Finset.univ.filter fun m => t m < e).card

/-- How many tokens go to expert `e`. -/
def load (e : Nat) : Nat := (Finset.univ.filter fun m => (t m).val = e).card

/-- The key of "smaller expert first, then the greater score, then the earlier position". -/
def lexKey (n : Fin N) : Fin E ×ₗ (EReal ×ₗ Fin N) := toLex (t n, downKey p n)

theorem lexKey_injective : Function.Injective (lexKey t p) := fun a b h =>
  downKey_injective p (congrArg (fun x => (ofLex x).2) h)

/-- What comes first under `lexKey`. -/
theorem lexKey_lt (a b : Fin N) : lexKey t p a < lexKey t p b ↔ t a < t b ∨ (t a = t b ∧ downKey p a < downKey p b) := by
  unfold lexKey
  rw [Prod.Lex.toLex_lt_toLex]

/-- A token's place among all the tokens: the tokens of the experts before its own, then those of its own that come before it. -/
theorem below_lexKey (n : Fin N) : below (lexKey t p) n = starts t (t n) + rnk t p n := by
  unfold below starts rnk
  rw [← Finset.card_union_of_disjoint]
  · congr 1
    ext m
    simp [lexKey_lt]
  · rw [Finset.disjoint_left]
    intro m h h'
    simp only [Finset.mem_filter, Finset.mem_univ, true_and] at h h'
    exact absurd h'.1 h.ne

theorem starts_add_rnk_lt (n : Fin N) : starts t (t n) + rnk t p n < N := by
  rw [← below_lexKey]; exact below_lt n

theorem starts_le (e : Fin E) : starts t e ≤ N := by
  have := Finset.card_le_univ (Finset.univ.filter fun m => t m < e)
  simpa [starts] using this

theorem load_le (e : Nat) : load t e ≤ N := by
  have := Finset.card_le_univ (Finset.univ.filter fun m => (t m).val = e)
  simpa [load] using this

/-- The tokens of the first `e` experts, counted expert by expert. -/
theorem sum_load (e : Nat) : ((List.range e).map (load t)).sum = (Finset.univ.filter fun m => (t m).val < e).card := by
  induction e with
  | zero => simp
  | succ e ih =>
    rw [List.range_succ, List.map_append, List.sum_append, ih]
    simp only [List.map_cons, List.map_nil, List.sum_cons, List.sum_nil, add_zero]
    unfold load
    rw [← Finset.card_union_of_disjoint]
    · congr 1
      ext m
      simp only [Finset.mem_union, Finset.mem_filter, Finset.mem_univ, true_and]
      omega
    · rw [Finset.disjoint_left]
      intro m h h'
      simp only [Finset.mem_filter, Finset.mem_univ, true_and] at h h'
      omega

/-- The tokens up to and with expert `e` are those before it and its own. -/
theorem sum_load_succ (e : Fin E) : ((List.range (e.val + 1)).map (load t)).sum = starts t e + load t e.val := by
  have h : starts t e = ((List.range e.val).map (load t)).sum := by
    rw [sum_load]
    rfl
  rw [h, List.range_succ, List.map_append, List.sum_append]
  simp

/-- Among the scores of expert `e`'s tokens, all others marked below, a token of the expert has as many before it as among the expert's own. -/
theorem below_marked (mark : EReal) (hm : ∀ m, mark < p m) (e : Fin E) (v : Fin N → EReal) (hv : ∀ m, v m = if t m = e then p m else mark)
    (n : Fin N) (hn : t n = e) : below (downKey v) n = rnk t p n := by
  unfold below rnk
  congr 1
  ext m
  simp only [Finset.mem_filter, Finset.mem_univ, true_and, downKey_lt, hv, hn, if_true]
  by_cases h : t m = e
  · simp [h]
  · simp only [h, if_false, false_and, iff_false, not_or, not_lt, not_and]
    exact ⟨(hm n).le, fun e' => absurd e' (hm n).ne⟩

/-- The tokens in the order of `lexKey`. -/
def order : Fin N → Fin N := sortedFrom fun a b => decide (lexKey t p a < lexKey t p b)

/-- The token at place `i` of the order has `i` tokens before it. -/
theorem below_order (i : Fin N) : below (lexKey t p) (order t p i) = i.val :=
  below_sortedFrom (lexKey_injective t p) _ (fun _ _ _ => rfl) i

/-- Which token is at place `i`. -/
theorem order_of_below (n i : Fin N) (h : below (lexKey t p) n = i.val) : order t p i = n :=
  below_injective (lexKey_injective t p) _ (fun _ _ _ => rfl) n i h

/-- Any comparison that agrees with `lexKey` on a later and an earlier position sorts to that order. -/
theorem order_of_rel (R : Fin N → Fin N → Bool) (h : ∀ a b, a < b → R b a = decide (lexKey t p b < lexKey t p a)) :
    sortedFrom R = order t p :=
  stable_congr R _ h

/-- Sorting the order itself gives back each token's place. -/
theorem order_inverse (R : Fin N → Fin N → Bool) (h : ∀ a b, a < b → R b a = decide (order t p b < order t p a)) (n i : Fin N)
    (hi : i.val = starts t (t n) + rnk t p n) : sortedFrom R n = i := by
  have hk : Function.Injective (order t p) := sortedFrom_injective _
  have e := below_sortedFrom hk R h n
  rw [← below_lexKey] at hi
  have hi' : order t p i = n := order_of_below t p n i hi.symm
  refine below_injective hk R h i n ?_
  unfold below
  rw [hi']
  have : (Finset.univ.filter fun m => order t p m < n) = (Finset.Iio n).preimage (order t p) hk.injOn := by
    ext m; simp
  rw [this, Finset.card_preimage]
  have all : ∀ x ∈ Finset.Iio n, x ∈ Set.range (order t p) := fun x _ => sortedFrom_surjective _ x
  rw [Finset.filter_true_of_mem all, Fin.card_Iio]

end Cert.Rank
-- ==== Proof.RefSlots.lean ====
/- The reference's dispatch: the tokens in each expert's table, the experts' results on them, and what each token gets back. -/
module

public import proofs.«01_k».proof.Proof.Scatters
public import proofs.«01_k».proof.Proof.Slots

@[expose] public section

set_option maxRecDepth 16384

noncomputable section

namespace Cert.ReferenceIdeal.Val

open Cert.ReferenceIdeal Cert.ReferenceIdeal.Gen Cert.ReferenceIdeal.Read Cert.Rank Cert.Consts Cert.Words Cert.Collab
open Idealize.ShloMosaic

variable (x0 : FVec Ideal S1x2048x768 .f32) (x1 : FVec Ideal S16x768 .f32) (x2 : FVec Ideal S16x4096x768 .f32) (x3 : FVec Ideal S16x768x2048 .f32)
variable (n : Fin 2048) (e : Fin 16) (s : Fin 256) (d : Fin 768)

/-- The scores of an expert's tokens, those of the other tokens marked. -/
theorem marked_at : val_main_v66 (F := Ideal) x0 x1 (ix2 e n) = if pick x0 x1 n = e then best x0 x1 n else Ideal.ofBits .f32 0xF149F2CA#32 := by
  pointwise [val_main_v66, val_main_v65, val_main_call1_v2, val_main_call1_v1, val_main_call1_v0, val_main_v64, val_main_v63, val_main_v62, val_main_v61, val_main_v60, val_main_v59, val_main_cst_20]
  rw [v57_at, cmpi_eq_small _ _ (by omega) (by omega), v58_at]
  by_cases h : pick x0 x1 n = e
  · rw [if_pos h, decide_eq_true (congrArg Fin.val h)]; rfl
  · rw [if_neg h, decide_eq_false fun h' => h (Fin.ext h')]; rfl

/-- The token at each place of an expert's table. -/
def col : Fin 2048 := down (fun n => val_main_v66 (F := Ideal) x0 x1 (ix2 e n)) (s.castLE (by norm_num))

/-- The word of the token at a place of an expert's table. -/
theorem col_word : val_main_indices_22 (F := Ideal) x0 x1 (ix2 e s) = BitVec.ofNat 32 (col x0 x1 e s).val :=
  topK_idx (val_main_v66 (F := Ideal) x0 x1) _ e s (by norm_num)

/-- The score at a place of an expert's table. -/
theorem col_score : val_main_values_21 (F := Ideal) x0 x1 (ix2 e s) = val_main_v66 (F := Ideal) x0 x1 (ix2 e (col x0 x1 e s)) :=
  topK_val (val_main_v66 (F := Ideal) x0 x1) _ e s (by norm_num)

variable (hb : ∀ n, Ideal.ofBits .f32 0xEFA18F08#32 < best x0 x1 n)
include hb

/-- Among an expert's marked scores its own tokens stand by their rank. -/
theorem below_col (hn : pick x0 x1 n = e) : below (downKey fun n => val_main_v66 (F := Ideal) x0 x1 (ix2 e n)) n = rnk (pick x0 x1) (best x0 x1) n :=
  below_marked (pick x0 x1) (best x0 x1) (Ideal.ofBits .f32 0xF149F2CA#32) (fun m => bits_mark.trans (hb m)) e _ (fun m => marked_at x0 x1 m e) n hn

/-- A token of the expert at place `s` of its table has rank `s`. -/
theorem rnk_col (h : pick x0 x1 (col x0 x1 e s) = e) : rnk (pick x0 x1) (best x0 x1) (col x0 x1 e s) = s.val := by
  rw [← below_col x0 x1 _ e hb h]
  exact below_down _ _

/-- A token of rank `s` stands at place `s` of its expert's table. -/
theorem col_rnk (h : rnk (pick x0 x1) (best x0 x1) n = s.val) : col x0 x1 (pick x0 x1 n) s = n :=
  down_of_below _ _ _ ((below_col x0 x1 n _ hb rfl).trans h)

/-- A place of an expert's table counts when its token is the expert's. -/
theorem valid_at : val_main_v68 (F := Ideal) x0 x1 (ix2 e s) = BitVec.ofBool (decide (pick x0 x1 (col x0 x1 e s) = e)) := by
  pointwise [val_main_v68, val_main_v67, val_main_cst_23]
  rw [col_score, marked_at]
  by_cases h : pick x0 x1 (col x0 x1 e s) = e
  · simp [h, Ideal.cmpf_def, Ideal.cmp, hb]
  · simp [h, Ideal.cmpf_def, Ideal.cmp, not_lt.mpr (le_of_lt bits_mark)]

omit hb

/-- The row of the token at a place of an expert's table. -/
theorem taken_at : val_main_v75 (F := Ideal) x0 x1 (ix3 e s d) = x0 (ix3 (0 : Fin 1) (col x0 x1 e s) d) := by
  have hi : val_main_v74 (F := Ideal) x0 x1 (ix3 e s (0 : Fin 1)) = BitVec.ofNat 32 (col x0 x1 e s).val := by
    pointwise [val_main_v74, val_main_v73, val_main_v72, val_main_v71, val_main_v70, val_main_v69, val_main_c, val_main_c_24]
    rw [col_word, guard_small _ (by omega)]
  refine (take_rows (val_main_v0 (F := Ideal) x0) (val_main_v74 (F := Ideal) x0 x1) e s d _ hi).trans ?_
  pointwise [val_main_v0]

/-- The expert's result on the token at a place of its table. -/
theorem result_at : val_main_v85 (F := Ideal) x0 x1 x2 x3 (ix3 e s d)
    = expert (fun j d => x2 (ix3 e j d)) (fun j h => x3 (ix3 e j h)) (fun d => x0 (ix3 (0 : Fin 1) (col x0 x1 e s) d)) d := by
  pointwise [val_main_v85, val_main_v84, val_main_v83, val_main_v82, val_main_v81, val_main_call2_v5, val_main_call2_v4, val_main_call2_v3, val_main_call2_v2, val_main_call2_v1, val_main_call2_v0, val_main_call2_cst, val_main_call2_cst_0, val_main_v80, val_main_v79, val_main_v78, val_main_v77, val_main_v76]
  simp only [taken_at]
  rfl

/-- What an expert's table scatters back from a place: the expert's result where the place counts. -/
theorem sent_at (hb : ∀ n, Ideal.ofBits .f32 0xEFA18F08#32 < best x0 x1 n) : val_main_v88 (F := Ideal) x0 x1 x2 x3 (ix3 e s d)
    = if pick x0 x1 (col x0 x1 e s) = e then
        expert (fun j d => x2 (ix3 e j d)) (fun j h => x3 (ix3 e j h)) (fun d => x0 (ix3 (0 : Fin 1) (col x0 x1 e s) d)) d
      else 0 := by
  pointwise [val_main_v88, val_main_call3_v2, val_main_call3_v1, val_main_call3_v0, val_main_v87, val_main_cst_26]
  rw [valid_at x0 x1 e s hb, result_at]
  by_cases h : pick x0 x1 (col x0 x1 e s) = e
  · rw [if_pos h, decide_eq_true h]; rfl
  · rw [if_neg h, decide_eq_false h]
    exact bits_0

/-- The positions the tables scatter to. -/
theorem goes_at : val_main_v94 (F := Ideal) x0 x1 (ix3 e s (0 : Fin 1)) = BitVec.ofNat 32 (col x0 x1 e s).val := by
  pointwise [val_main_v94, val_main_v93, val_main_v92, val_main_v91, val_main_v90, val_main_v89, val_main_c_27, val_main_c_28]
  rw [col_word, guard_small _ (by omega)]

/-- The positions the masks scatter to. -/
theorem goes_mask_at : val_main_v103 (F := Ideal) x0 x1 (ix3 e s (0 : Fin 1)) = BitVec.ofNat 32 (col x0 x1 e s).val := by
  pointwise [val_main_v103, val_main_v102, val_main_v101, val_main_v100, val_main_v99, val_main_v98, val_main_c_30, val_main_c_31]
  rw [col_word, guard_small _ (by omega)]

/-- The place a token's result comes back from, among places that count. -/
theorem only_place (hb : ∀ n, Ideal.ofBits .f32 0xEFA18F08#32 < best x0 x1 n) (hc : col x0 x1 e s = n) (hv : pick x0 x1 (col x0 x1 e s) = e) :
    e = pick x0 x1 n ∧ s.val = rnk (pick x0 x1) (best x0 x1) n := by
  have h := rnk_col x0 x1 e s hb hv
  rw [hc] at h hv
  exact ⟨hv.symm, h.symm⟩

/-- A number below a bound is the value of a bounded number. -/
theorem as_fin {k N : ℕ} (h : k < N) : ∃ s : Fin N, k = s.val := ⟨⟨k, h⟩, rfl⟩

/-- What a token's expert gives it: the expert's result where fewer than 256 tokens of the expert come before it, else nothing. -/
theorem back_at (hb : ∀ n, Ideal.ofBits .f32 0xEFA18F08#32 < best x0 x1 n) : val_main_v95 (F := Ideal) x0 x1 x2 x3 (ix2 n d)
    = if rnk (pick x0 x1) (best x0 x1) n < 256 then
        expert (fun j d => x2 (ix3 (pick x0 x1 n) j d)) (fun j h => x3 (ix3 (pick x0 x1 n) j h)) (fun d => x0 (ix3 (0 : Fin 1) n d)) d
      else 0 := by
  show val_main_v86 (F := Ideal) (ix2 n d) + ∑ j ∈ Finset.univ.filter (fun j => scatter_S2048x768_S16x256x1_S16x256x768_2_0_0_2.resultIdx? j (val_main_v94 (F := Ideal) x0 x1) = some (ix2 n d)),
    val_main_v88 (F := Ideal) x0 x1 x2 x3 j = _
  have h0 : val_main_v86 (F := Ideal) (ix2 n d) = (0 : EReal) := bits_0
  rw [h0, zero_add]
  by_cases hn : rnk (pick x0 x1) (best x0 x1) n < 256
  · rw [if_pos hn]
    obtain ⟨r, hr⟩ := as_fin hn
    have hc := col_rnk x0 x1 n r hb hr
    rw [Finset.sum_eq_single (ix3 (pick x0 x1 n) r d)]
    · rw [sent_at x0 x1 x2 x3 _ _ _ hb, hc, if_pos rfl]
    · intro j hj hne
      obtain ⟨e, s, d', rfl⟩ : ∃ e s d', j = ix3 e s d' := ⟨_, _, _, eq_ix3 j⟩
      rw [Finset.mem_filter, lands_rows _ e s d' _ (goes_at x0 x1 e s)] at hj
      obtain ⟨-, hj, rfl⟩ := hj
      rw [sent_at x0 x1 x2 x3 _ _ _ hb, if_neg]
      intro hv
      obtain ⟨he, h⟩ := only_place x0 x1 n e s hb hj hv
      rw [hr] at h
      exact hne (by rw [he, Fin.ext h])
    · intro h
      rw [Finset.mem_filter, lands_rows _ _ _ _ _ (goes_at x0 x1 _ r)] at h
      exact absurd ⟨Finset.mem_univ _, hc, rfl⟩ h
  · rw [if_neg hn]
    refine Finset.sum_eq_zero fun j hj => ?_
    obtain ⟨e, s, d', rfl⟩ : ∃ e s d', j = ix3 e s d' := ⟨_, _, _, eq_ix3 j⟩
    rw [Finset.mem_filter, lands_rows _ e s d' _ (goes_at x0 x1 e s)] at hj
    obtain ⟨-, hj, rfl⟩ := hj
    rw [sent_at x0 x1 x2 x3 _ _ _ hb, if_neg]
    intro hv
    obtain ⟨-, h⟩ := only_place x0 x1 n e s hb hj hv
    rw [← h] at hn
    exact hn s.isLt

/-- Whether a token is kept, as a number. -/
theorem keep_at (hb : ∀ n, Ideal.ofBits .f32 0xEFA18F08#32 < best x0 x1 n) :
    val_main_v104 (F := Ideal) x0 x1 (ix1 n) = if rnk (pick x0 x1) (best x0 x1) n < 256 then (1 : EReal) else 0 := by
  show val_main_v96 (F := Ideal) (ix1 n) + ∑ j ∈ Finset.univ.filter (fun j => scatter_S2048_S16x256x1_S16x256_n_0_0_2.resultIdx? j (val_main_v103 (F := Ideal) x0 x1) = some (ix1 n)),
    val_main_v97 (F := Ideal) x0 x1 j = _
  have h0 : val_main_v96 (F := Ideal) (ix1 n) = (0 : EReal) := bits_0
  have hu : ∀ e s, val_main_v97 (F := Ideal) x0 x1 (ix2 e s) = if pick x0 x1 (col x0 x1 e s) = e then (1 : EReal) else 0 := fun e s => by
    pointwise [val_main_v97]
    rw [valid_at x0 x1 e s hb, uitofp_decide]
  rw [h0, zero_add]
  by_cases hn : rnk (pick x0 x1) (best x0 x1) n < 256
  · rw [if_pos hn]
    obtain ⟨r, hr⟩ := as_fin hn
    have hc := col_rnk x0 x1 n r hb hr
    rw [Finset.sum_eq_single (ix2 (pick x0 x1 n) r)]
    · rw [hu, hc, if_pos rfl]
    · intro j hj hne
      obtain ⟨e, s, rfl⟩ : ∃ e s, j = ix2 e s := ⟨_, _, eq_ix2 j⟩
      rw [Finset.mem_filter, lands_ones _ e s _ (goes_mask_at x0 x1 e s)] at hj
      rw [hu, if_neg]
      intro hv
      obtain ⟨he, h⟩ := only_place x0 x1 n e s hb hj.2 hv
      rw [hr] at h
      exact hne (by rw [he, Fin.ext h])
    · intro h
      rw [Finset.mem_filter, lands_ones _ _ _ _ (goes_mask_at x0 x1 _ r)] at h
      exact absurd ⟨Finset.mem_univ _, hc⟩ h
  · rw [if_neg hn]
    refine Finset.sum_eq_zero fun j hj => ?_
    obtain ⟨e, s, rfl⟩ : ∃ e s, j = ix2 e s := ⟨_, _, eq_ix2 j⟩
    rw [Finset.mem_filter, lands_ones _ e s _ (goes_mask_at x0 x1 e s)] at hj
    rw [hu, if_neg]
    intro hv
    obtain ⟨-, h⟩ := only_place x0 x1 n e s hb hj.2 hv
    rw [← h] at hn
    exact hn s.isLt

end Cert.ReferenceIdeal.Val
-- ==== Proof.HostRead.lean ====
/- Reading one buffer after a straight line of host operations that writes each buffer once: the buffer an operation
   writes holds, at the end of the line, that operation's function of what its operands hold at the end of the line. -/
module

public import Idealize.ShloMosaic.Lib.StableHlo.Run

@[expose] public section

noncomputable section

namespace Cert.HostRead

open Idealize.ShloMosaic Idealize.ShloMosaic.StableHlo Idealize.ShloMosaic.TcCoe

variable {τ : Topo} {sig : RefSig} {Val : EltTy → Type}

/-- A line run in two parts: its first `n` operations, then the rest. -/
theorem after_cut (ops : List (HloOp τ sig Val)) (n : Nat) (V : Valuation τ sig Val) :
    after ops V = after (ops.drop n) (after (ops.take n) V) := by
  induction n generalizing ops V with
  | zero => rfl
  | succ n ih =>
    cases ops with
    | nil => rfl
    | cons op ops => exact ih ops (op.result V)

/-- A reference that the operations from the `n`-th on do not write holds at the end what it held before them. -/
theorem kept_from {ops : List (HloOp τ sig Val)} {W : List (Ref sig .tc)} {r : Ref sig .tc}
    (hW : ops.map HloOp.writes = W.map fun r => {Proc.devRef (τ := τ) .tc r}) (n : Nat) (hr : r ∉ W.drop n)
    (V : Valuation τ sig Val) : after ops V (Proc.devRef .tc r) = after (ops.take n) V (Proc.devRef .tc r) := by
  rw [after_cut ops n V]
  refine after_of_writes_sub _ _ (forall_writes_sub_of_map (W := W.drop n) ?_) hr
  rw [List.map_drop, hW, List.map_drop]

/-- What the `n`-th operation leaves in its result reference, which no later operation writes. -/
theorem result_at {ops : List (HloOp τ sig Val)} {W : List (Ref sig .tc)} {y : Ref sig .tc}
    (hW : ops.map HloOp.writes = W.map fun r => {Proc.devRef (τ := τ) .tc r}) (n : Nat) {op : HloOp τ sig Val}
    (hop : ops[n]? = some op) (hy : y ∉ W.drop (n + 1)) (V : Valuation τ sig Val) :
    after ops V (Proc.devRef .tc y) = op.result (after (ops.take n) V) (Proc.devRef .tc y) := by
  rw [kept_from hW (n + 1) hy V]
  rw [after_cut (ops.take (n + 1)) n V, List.take_take, Nat.min_eq_left (Nat.le_succ n), List.take_add_one, hop,
    List.drop_append]
  have hl : n < ops.length := (List.getElem?_eq_some_iff.mp hop).1
  have h1 : (ops.take n).length = n := by simp; omega
  rw [h1, Nat.sub_self, List.drop_of_length_le (by omega)]
  rfl

variable {T Tx Ta Tb Tc Te : BufTy}

/-- A constant's buffer holds the constant. -/
theorem read_nullary {ops : List (HloOp τ sig Val)} {W : List (Ref sig .tc)}
    (hW : ops.map HloOp.writes = W.map fun r => {Proc.devRef (τ := τ) .tc r}) (n : Nat)
    (y : TRef sig T) (v : T.Contents Val) (hop : ops[n]? = some (TRef.nullary y v)) (hy : y.ref ∉ W.drop (n + 1))
    (V : Valuation τ sig Val) : y.ofBuf (after ops V (Proc.devRef .tc y.ref)) = v := by
  rw [result_at hW n hop hy V, nullary_result']; exact TRef.ofBuf_toBuf y v

/-- The result buffer of an operation of one operand. -/
theorem read_unary {ops : List (HloOp τ sig Val)} {W : List (Ref sig .tc)}
    (hW : ops.map HloOp.writes = W.map fun r => {Proc.devRef (τ := τ) .tc r}) (n : Nat)
    (x : TRef sig Tx) (y : TRef sig T) (f : Tx.Contents Val → T.Contents Val)
    (hop : ops[n]? = some (TRef.unary x y f)) (hy : y.ref ∉ W.drop (n + 1)) (hx : x.ref ∉ W.drop n)
    (V : Valuation τ sig Val) :
    y.ofBuf (after ops V (Proc.devRef .tc y.ref)) = f (x.ofBuf (after ops V (Proc.devRef .tc x.ref))) := by
  rw [result_at hW n hop hy V, kept_from hW n hx V, unary_result']; exact TRef.ofBuf_toBuf y _

/-- The result buffer of an operation of two operands. -/
theorem read_binary {ops : List (HloOp τ sig Val)} {W : List (Ref sig .tc)}
    (hW : ops.map HloOp.writes = W.map fun r => {Proc.devRef (τ := τ) .tc r}) (n : Nat)
    (a : TRef sig Ta) (b : TRef sig Tb) (y : TRef sig T) (f : Ta.Contents Val → Tb.Contents Val → T.Contents Val)
    (hop : ops[n]? = some (TRef.binary a b y f)) (hy : y.ref ∉ W.drop (n + 1)) (ha : a.ref ∉ W.drop n)
    (hb : b.ref ∉ W.drop n) (V : Valuation τ sig Val) :
    y.ofBuf (after ops V (Proc.devRef .tc y.ref))
      = f (a.ofBuf (after ops V (Proc.devRef .tc a.ref))) (b.ofBuf (after ops V (Proc.devRef .tc b.ref))) := by
  rw [result_at hW n hop hy V, kept_from hW n ha V, kept_from hW n hb V, binary_result']; exact TRef.ofBuf_toBuf y _

/-- The result buffer of an operation of three operands. -/
theorem read_ternary {ops : List (HloOp τ sig Val)} {W : List (Ref sig .tc)}
    (hW : ops.map HloOp.writes = W.map fun r => {Proc.devRef (τ := τ) .tc r}) (n : Nat)
    (a : TRef sig Ta) (b : TRef sig Tb) (d : TRef sig Tc) (y : TRef sig T)
    (f : Ta.Contents Val → Tb.Contents Val → Tc.Contents Val → T.Contents Val)
    (hop : ops[n]? = some (TRef.ternary a b d y f)) (hy : y.ref ∉ W.drop (n + 1)) (ha : a.ref ∉ W.drop n)
    (hb : b.ref ∉ W.drop n) (hd : d.ref ∉ W.drop n) (V : Valuation τ sig Val) :
    y.ofBuf (after ops V (Proc.devRef .tc y.ref))
      = f (a.ofBuf (after ops V (Proc.devRef .tc a.ref))) (b.ofBuf (after ops V (Proc.devRef .tc b.ref)))
          (d.ofBuf (after ops V (Proc.devRef .tc d.ref))) := by
  rw [result_at hW n hop hy V, kept_from hW n ha V, kept_from hW n hb V, kept_from hW n hd V, ternary_result']
  exact TRef.ofBuf_toBuf y _

/-- The result buffer of an operation of four operands. -/
theorem read_quaternary {ops : List (HloOp τ sig Val)} {W : List (Ref sig .tc)}
    (hW : ops.map HloOp.writes = W.map fun r => {Proc.devRef (τ := τ) .tc r}) (n : Nat)
    (a : TRef sig Ta) (b : TRef sig Tb) (d : TRef sig Tc) (e : TRef sig Te) (y : TRef sig T)
    (f : Ta.Contents Val → Tb.Contents Val → Tc.Contents Val → Te.Contents Val → T.Contents Val)
    (hop : ops[n]? = some (TRef.quaternary a b d e y f)) (hy : y.ref ∉ W.drop (n + 1)) (ha : a.ref ∉ W.drop n)
    (hb : b.ref ∉ W.drop n) (hd : d.ref ∉ W.drop n) (he : e.ref ∉ W.drop n) (V : Valuation τ sig Val) :
    y.ofBuf (after ops V (Proc.devRef .tc y.ref))
      = f (a.ofBuf (after ops V (Proc.devRef .tc a.ref))) (b.ofBuf (after ops V (Proc.devRef .tc b.ref)))
          (d.ofBuf (after ops V (Proc.devRef .tc d.ref))) (e.ofBuf (after ops V (Proc.devRef .tc e.ref))) := by
  rw [result_at hW n hop hy V, kept_from hW n ha V, kept_from hW n hb V, kept_from hW n hd V, kept_from hW n he V,
    quaternary_result']
  exact TRef.ofBuf_toBuf y _

/-- The result buffer of a reshape, at literal references: the operand's contents in the result's shape. -/
theorem read_reshape {ops : List (HloOp τ sig Val)} {W : List (Ref sig .tc)}
    (hW : ops.map HloOp.writes = W.map fun r => {Proc.devRef (τ := τ) .tc r}) (n : Nat)
    (x y : Ref sig .tc) (he : x.ty.elt = y.ty.elt) (hn hx hy)
    (hop : ops[n]? = some (StableHlo.reshape (Val := Val) x y he hn hx hy)) (hY : y ∉ W.drop (n + 1)) (hX : x ∉ W.drop n)
    (V : Valuation τ sig Val) :
    after ops V (Proc.devRef .tc y)
      = fun i => he ▸ shapeCast y.ty.shape (after ops V (Proc.devRef .tc x)) hn i := by
  rw [result_at hW n hop hY V, kept_from hW n hX V, reshape_result']

end Cert.HostRead

end
-- ==== Proof.Host1.lean ====
/- The buffers after the first region and the host operations that follow it, each as its operation's function of the
   others: one equation per operation. -/
module

public import proofs.«01_k».proof.Proof.HostRead
public import proofs.«01_k».proof.Proof.KRun

@[expose] public section

set_option maxRecDepth 16384

noncomputable section

namespace Cert.KernelIdeal.Val

open Cert.KernelIdeal.Gen Cert.HostRead
open Idealize.ShloMosaic Idealize.ShloMosaic.TcCoe Idealize.ShloMosaic.Tactic

variable {F : FTy → Type} [FloatOps F] [Named F]
variable (m : (ℓ : Loc nD τ sig) → Buf (Elt F) ℓ) (ρ : Dev nD → PrngReg) (c : Dev nD)

/-- The references the stretch writes, one per operation, in order. -/
theorem hostOps1_map : (hostOps1 : List (HloOp τ sig (Elt F))).map HloOp.writes = hostOps1_W.map fun r => {Proc.devRef (τ := τ) .tc r} := rfl

/-- What `main_call0_cst` holds after the stretch. -/
def h1_cst : (⟨S_, .f32⟩ : BufTy).Contents (Elt F) := W3 m ρ c (Proc.devRef .tc main_call0_cst)
/-- What `main_call0_v1` holds after the stretch. -/
def h1_v1 : (⟨S2048x16, .f32⟩ : BufTy).Contents (Elt F) := W3 m ρ c (Proc.devRef .tc main_call0_v1)
/-- What `main_call0_v2` holds after the stretch. -/
def h1_v2 : (⟨S2048, .f32⟩ : BufTy).Contents (Elt F) := W3 m ρ c (Proc.devRef .tc main_call0_v2)
/-- What `main_call0_cst_0` holds after the stretch. -/
def h1_cst_0 : (⟨S_, .f32⟩ : BufTy).Contents (Elt F) := W3 m ρ c (Proc.devRef .tc main_call0_cst_0)
/-- What `main_call0_v3` holds after the stretch. -/
def h1_v3 : (⟨S2048, .f32⟩ : BufTy).Contents (Elt F) := W3 m ρ c (Proc.devRef .tc main_call0_v3)
/-- What `main_call0_v4` holds after the stretch. -/
def h1_v4 : (⟨S2048, .f32⟩ : BufTy).Contents (Elt F) := W3 m ρ c (Proc.devRef .tc main_call0_v4)
/-- What `main_call0_v5` holds after the stretch. -/
def h1_v5 : (⟨S2048x1, .f32⟩ : BufTy).Contents (Elt F) := W3 m ρ c (Proc.devRef .tc main_call0_v5)
/-- What `main_call0_v6` holds after the stretch. -/
def h1_v6 : (⟨S2048x16, .f32⟩ : BufTy).Contents (Elt F) := W3 m ρ c (Proc.devRef .tc main_call0_v6)
/-- What `main_call0_v7` holds after the stretch. -/
def h1_v7 : (⟨S2048x16, .f32⟩ : BufTy).Contents (Elt F) := W3 m ρ c (Proc.devRef .tc main_call0_v7)
/-- What `main_call0_v8` holds after the stretch. -/
def h1_v8 : (⟨S2048x16, .f32⟩ : BufTy).Contents (Elt F) := W3 m ρ c (Proc.devRef .tc main_call0_v8)
/-- What `main_call0_cst_1` holds after the stretch. -/
def h1_cst_1 : (⟨S_, .f32⟩ : BufTy).Contents (Elt F) := W3 m ρ c (Proc.devRef .tc main_call0_cst_1)
/-- What `main_call0_v9` holds after the stretch. -/
def h1_v9 : (⟨S2048, .f32⟩ : BufTy).Contents (Elt F) := W3 m ρ c (Proc.devRef .tc main_call0_v9)
/-- What `main_call0_v10` holds after the stretch. -/
def h1_v10 : (⟨S2048x1, .f32⟩ : BufTy).Contents (Elt F) := W3 m ρ c (Proc.devRef .tc main_call0_v10)
/-- What `main_call0_v11` holds after the stretch. -/
def h1_v11 : (⟨S2048x16, .f32⟩ : BufTy).Contents (Elt F) := W3 m ρ c (Proc.devRef .tc main_call0_v11)
/-- What `main_v0_2` holds after the stretch. -/
def h1_main_v0_2 : (⟨S2048x16, .f32⟩ : BufTy).Contents (Elt F) := W3 m ρ c (Proc.devRef .tc main_v0_2)
/-- What `main_call0_call0_v0` holds after the stretch. -/
def h1_call0_v0 : (⟨S2048x16, .i32⟩ : BufTy).Contents (Elt F) := W3 m ρ c (Proc.devRef .tc main_call0_call0_v0)
/-- What `main_call0_call0_cst` holds after the stretch. -/
def h1_call0_cst : (⟨S_, .f32⟩ : BufTy).Contents (Elt F) := W3 m ρ c (Proc.devRef .tc main_call0_call0_cst)
/-- What `main_call0_call0_c` holds after the stretch. -/
def h1_call0_c : (⟨S_, .i32⟩ : BufTy).Contents (Elt F) := W3 m ρ c (Proc.devRef .tc main_call0_call0_c)
/-- What `main_call0_call0_v1_0` holds after the stretch. -/
def h1_call0_v1_0 : (⟨S2048, .f32⟩ : BufTy).Contents (Elt F) := W3 m ρ c (Proc.devRef .tc main_call0_call0_v1_0)
/-- What `main_call0_v13` holds after the stretch. -/
def h1_v13 : (⟨S2048, .i32⟩ : BufTy).Contents (Elt F) := W3 m ρ c (Proc.devRef .tc main_call0_v13)
/-- What `main_call0_cst_2` holds after the stretch. -/
def h1_cst_2 : (⟨S_, .f32⟩ : BufTy).Contents (Elt F) := W3 m ρ c (Proc.devRef .tc main_call0_cst_2)
/-- What `main_call0_v14` holds after the stretch. -/
def h1_v14 : (⟨S2048, .f32⟩ : BufTy).Contents (Elt F) := W3 m ρ c (Proc.devRef .tc main_call0_v14)
/-- What `main_call0_v15` holds after the stretch. -/
def h1_v15 : (⟨S2048x1, .i32⟩ : BufTy).Contents (Elt F) := W3 m ρ c (Proc.devRef .tc main_call0_v15)
/-- What `main_call0_v16` holds after the stretch. -/
def h1_v16 : (⟨S16, .i32⟩ : BufTy).Contents (Elt F) := W3 m ρ c (Proc.devRef .tc main_call0_v16)
/-- What `main_call0_v17` holds after the stretch. -/
def h1_v17 : (⟨S1x16, .i32⟩ : BufTy).Contents (Elt F) := W3 m ρ c (Proc.devRef .tc main_call0_v17)
/-- What `main_call0_v18` holds after the stretch. -/
def h1_v18 : (⟨S2048x16, .i32⟩ : BufTy).Contents (Elt F) := W3 m ρ c (Proc.devRef .tc main_call0_v18)
/-- What `main_call0_v19` holds after the stretch. -/
def h1_v19 : (⟨S2048x16, .i32⟩ : BufTy).Contents (Elt F) := W3 m ρ c (Proc.devRef .tc main_call0_v19)
/-- What `main_call0_v20` holds after the stretch. -/
def h1_v20 : (⟨S2048x16, .i1⟩ : BufTy).Contents (Elt F) := W3 m ρ c (Proc.devRef .tc main_call0_v20)
/-- What `main_call0_v21` holds after the stretch. -/
def h1_v21 : (⟨S2048x16, .f32⟩ : BufTy).Contents (Elt F) := W3 m ρ c (Proc.devRef .tc main_call0_v21)
/-- What `main_call0_cst_3` holds after the stretch. -/
def h1_cst_3 : (⟨S_, .f32⟩ : BufTy).Contents (Elt F) := W3 m ρ c (Proc.devRef .tc main_call0_cst_3)
/-- What `main_call0_v22` holds after the stretch. -/
def h1_v22 : (⟨S16, .f32⟩ : BufTy).Contents (Elt F) := W3 m ρ c (Proc.devRef .tc main_call0_v22)
/-- What `main_call0_cst_4` holds after the stretch. -/
def h1_cst_4 : (⟨S_, .f32⟩ : BufTy).Contents (Elt F) := W3 m ρ c (Proc.devRef .tc main_call0_cst_4)
/-- What `main_call0_v23` holds after the stretch. -/
def h1_v23 : (⟨S16, .f32⟩ : BufTy).Contents (Elt F) := W3 m ρ c (Proc.devRef .tc main_call0_v23)
/-- What `main_call0_cst_5` holds after the stretch. -/
def h1_cst_5 : (⟨S_, .f32⟩ : BufTy).Contents (Elt F) := W3 m ρ c (Proc.devRef .tc main_call0_cst_5)
/-- What `main_call0_v24` holds after the stretch. -/
def h1_v24 : (⟨S16, .f32⟩ : BufTy).Contents (Elt F) := W3 m ρ c (Proc.devRef .tc main_call0_v24)
/-- What `main_call0_v25` holds after the stretch. -/
def h1_v25 : (⟨S16, .f32⟩ : BufTy).Contents (Elt F) := W3 m ρ c (Proc.devRef .tc main_call0_v25)
/-- What `main_call0_v26` holds after the stretch. -/
def h1_v26 : (⟨S16, .f32⟩ : BufTy).Contents (Elt F) := W3 m ρ c (Proc.devRef .tc main_call0_v26)
/-- What `main_call0_cst_6` holds after the stretch. -/
def h1_cst_6 : (⟨S_, .f32⟩ : BufTy).Contents (Elt F) := W3 m ρ c (Proc.devRef .tc main_call0_cst_6)
/-- What `main_call0_v27` holds after the stretch. -/
def h1_v27 : (⟨S16, .f32⟩ : BufTy).Contents (Elt F) := W3 m ρ c (Proc.devRef .tc main_call0_v27)
/-- What `main_call0_v28` holds after the stretch. -/
def h1_v28 : (⟨S16, .f32⟩ : BufTy).Contents (Elt F) := W3 m ρ c (Proc.devRef .tc main_call0_v28)
/-- What `main_call0_cst_7` holds after the stretch. -/
def h1_cst_7 : (⟨S_, .f32⟩ : BufTy).Contents (Elt F) := W3 m ρ c (Proc.devRef .tc main_call0_cst_7)
/-- What `main_call0_v29` holds after the stretch. -/
def h1_v29 : (⟨S_, .f32⟩ : BufTy).Contents (Elt F) := W3 m ρ c (Proc.devRef .tc main_call0_v29)
/-- What `main_call0_cst_8` holds after the stretch. -/
def h1_cst_8 : (⟨S_, .f32⟩ : BufTy).Contents (Elt F) := W3 m ρ c (Proc.devRef .tc main_call0_cst_8)
/-- What `main_call0_v30` holds after the stretch. -/
def h1_v30 : (⟨S_, .f32⟩ : BufTy).Contents (Elt F) := W3 m ρ c (Proc.devRef .tc main_call0_v30)
/-- What `main_call0_cst_9` holds after the stretch. -/
def h1_cst_9 : (⟨S_, .f32⟩ : BufTy).Contents (Elt F) := W3 m ρ c (Proc.devRef .tc main_call0_cst_9)
/-- What `main_call0_v31` holds after the stretch. -/
def h1_v31 : (⟨S2048, .f32⟩ : BufTy).Contents (Elt F) := W3 m ρ c (Proc.devRef .tc main_call0_v31)
/-- What `main_call0_v32` holds after the stretch. -/
def h1_v32 : (⟨S2048, .f32⟩ : BufTy).Contents (Elt F) := W3 m ρ c (Proc.devRef .tc main_call0_v32)
/-- What `main_call0_cst_10` holds after the stretch. -/
def h1_cst_10 : (⟨S_, .f32⟩ : BufTy).Contents (Elt F) := W3 m ρ c (Proc.devRef .tc main_call0_cst_10)
/-- What `main_call0_v33` holds after the stretch. -/
def h1_v33 : (⟨S2048, .f32⟩ : BufTy).Contents (Elt F) := W3 m ρ c (Proc.devRef .tc main_call0_v33)
/-- What `main_call0_v34` holds after the stretch. -/
def h1_v34 : (⟨S2048, .i1⟩ : BufTy).Contents (Elt F) := W3 m ρ c (Proc.devRef .tc main_call0_v34)
/-- What `main_call0_cst_11` holds after the stretch. -/
def h1_cst_11 : (⟨S_, .f32⟩ : BufTy).Contents (Elt F) := W3 m ρ c (Proc.devRef .tc main_call0_cst_11)
/-- What `main_call0_v35` holds after the stretch. -/
def h1_v35 : (⟨S2048, .f32⟩ : BufTy).Contents (Elt F) := W3 m ρ c (Proc.devRef .tc main_call0_v35)
/-- What `main_call0_v36` holds after the stretch. -/
def h1_v36 : (⟨S2048, .f32⟩ : BufTy).Contents (Elt F) := W3 m ρ c (Proc.devRef .tc main_call0_v36)
/-- What `main_call0_v37` holds after the stretch. -/
def h1_v37 : (⟨S2048x1, .f32⟩ : BufTy).Contents (Elt F) := W3 m ρ c (Proc.devRef .tc main_call0_v37)
/-- What `main_call0_v38` holds after the stretch. -/
def h1_v38 : (⟨S2048x16, .f32⟩ : BufTy).Contents (Elt F) := W3 m ρ c (Proc.devRef .tc main_call0_v38)
/-- What `main_call0_v39` holds after the stretch. -/
def h1_v39 : (⟨S2048x16, .f32⟩ : BufTy).Contents (Elt F) := W3 m ρ c (Proc.devRef .tc main_call0_v39)
/-- What `main_call0_v40` holds after the stretch. -/
def h1_v40 : (⟨S2048x16, .f32⟩ : BufTy).Contents (Elt F) := W3 m ρ c (Proc.devRef .tc main_call0_v40)
/-- What `main_call0_cst_12` holds after the stretch. -/
def h1_cst_12 : (⟨S_, .f32⟩ : BufTy).Contents (Elt F) := W3 m ρ c (Proc.devRef .tc main_call0_cst_12)
/-- What `main_call0_v41` holds after the stretch. -/
def h1_v41 : (⟨S2048, .f32⟩ : BufTy).Contents (Elt F) := W3 m ρ c (Proc.devRef .tc main_call0_v41)
/-- What `main_call0_v42` holds after the stretch. -/
def h1_v42 : (⟨S2048, .f32⟩ : BufTy).Contents (Elt F) := W3 m ρ c (Proc.devRef .tc main_call0_v42)
/-- What `main_call0_v43` holds after the stretch. -/
def h1_v43 : (⟨S2048, .f32⟩ : BufTy).Contents (Elt F) := W3 m ρ c (Proc.devRef .tc main_call0_v43)
/-- What `main_call0_v44` holds after the stretch. -/
def h1_v44 : (⟨S2048, .f32⟩ : BufTy).Contents (Elt F) := W3 m ρ c (Proc.devRef .tc main_call0_v44)
/-- What `main_call0_v45` holds after the stretch. -/
def h1_v45 : (⟨S2048, .f32⟩ : BufTy).Contents (Elt F) := W3 m ρ c (Proc.devRef .tc main_call0_v45)
/-- What `main_call0_cst_13` holds after the stretch. -/
def h1_cst_13 : (⟨S_, .f32⟩ : BufTy).Contents (Elt F) := W3 m ρ c (Proc.devRef .tc main_call0_cst_13)
/-- What `main_call0_v46` holds after the stretch. -/
def h1_v46 : (⟨S_, .f32⟩ : BufTy).Contents (Elt F) := W3 m ρ c (Proc.devRef .tc main_call0_v46)
/-- What `main_call0_cst_14` holds after the stretch. -/
def h1_cst_14 : (⟨S_, .f32⟩ : BufTy).Contents (Elt F) := W3 m ρ c (Proc.devRef .tc main_call0_cst_14)
/-- What `main_call0_v47` holds after the stretch. -/
def h1_v47 : (⟨S_, .f32⟩ : BufTy).Contents (Elt F) := W3 m ρ c (Proc.devRef .tc main_call0_v47)
/-- What `main_call0_cst_15` holds after the stretch. -/
def h1_cst_15 : (⟨S_, .f32⟩ : BufTy).Contents (Elt F) := W3 m ρ c (Proc.devRef .tc main_call0_cst_15)
/-- What `main_call0_v48` holds after the stretch. -/
def h1_v48 : (⟨S16, .f32⟩ : BufTy).Contents (Elt F) := W3 m ρ c (Proc.devRef .tc main_call0_v48)
/-- What `main_call0_v49` holds after the stretch. -/
def h1_v49 : (⟨S16, .f32⟩ : BufTy).Contents (Elt F) := W3 m ρ c (Proc.devRef .tc main_call0_v49)
/-- What `main_call0_cst_16` holds after the stretch. -/
def h1_cst_16 : (⟨S_, .f32⟩ : BufTy).Contents (Elt F) := W3 m ρ c (Proc.devRef .tc main_call0_cst_16)
/-- What `main_call0_v50` holds after the stretch. -/
def h1_v50 : (⟨S16, .f32⟩ : BufTy).Contents (Elt F) := W3 m ρ c (Proc.devRef .tc main_call0_v50)
/-- What `main_call0_v51` holds after the stretch. -/
def h1_v51 : (⟨S16, .f32⟩ : BufTy).Contents (Elt F) := W3 m ρ c (Proc.devRef .tc main_call0_v51)
/-- What `main_call0_cst_17` holds after the stretch. -/
def h1_cst_17 : (⟨S_, .f32⟩ : BufTy).Contents (Elt F) := W3 m ρ c (Proc.devRef .tc main_call0_cst_17)
/-- What `main_call0_v52` holds after the stretch. -/
def h1_v52 : (⟨S_, .f32⟩ : BufTy).Contents (Elt F) := W3 m ρ c (Proc.devRef .tc main_call0_v52)
/-- What `main_call0_cst_18` holds after the stretch. -/
def h1_cst_18 : (⟨S_, .f32⟩ : BufTy).Contents (Elt F) := W3 m ρ c (Proc.devRef .tc main_call0_cst_18)
/-- What `main_call0_v53` holds after the stretch. -/
def h1_v53 : (⟨S_, .f32⟩ : BufTy).Contents (Elt F) := W3 m ρ c (Proc.devRef .tc main_call0_v53)
/-- What `main_call0_cst_19` holds after the stretch. -/
def h1_cst_19 : (⟨S_, .f32⟩ : BufTy).Contents (Elt F) := W3 m ρ c (Proc.devRef .tc main_call0_cst_19)
/-- What `main_call0_v54` holds after the stretch. -/
def h1_v54 : (⟨S_, .f32⟩ : BufTy).Contents (Elt F) := W3 m ρ c (Proc.devRef .tc main_call0_v54)
/-- What `main_call0_v55` holds after the stretch. -/
def h1_v55 : (⟨S_, .f32⟩ : BufTy).Contents (Elt F) := W3 m ρ c (Proc.devRef .tc main_call0_v55)
/-- What `main_call0_cst_20` holds after the stretch. -/
def h1_cst_20 : (⟨S_, .f32⟩ : BufTy).Contents (Elt F) := W3 m ρ c (Proc.devRef .tc main_call0_cst_20)
/-- What `main_call0_v56` holds after the stretch. -/
def h1_v56 : (⟨S_, .f32⟩ : BufTy).Contents (Elt F) := W3 m ρ c (Proc.devRef .tc main_call0_v56)
/-- What `main_call0_cst_21` holds after the stretch. -/
def h1_cst_21 : (⟨S_, .f32⟩ : BufTy).Contents (Elt F) := W3 m ρ c (Proc.devRef .tc main_call0_cst_21)
/-- What `main_call0_v57` holds after the stretch. -/
def h1_v57 : (⟨S_, .f32⟩ : BufTy).Contents (Elt F) := W3 m ρ c (Proc.devRef .tc main_call0_v57)
/-- What `main_v0_1` holds after the stretch. -/
def h1_main_v0_1 : (⟨S_, .f32⟩ : BufTy).Contents (Elt F) := W3 m ρ c (Proc.devRef .tc main_v0_1)
/-- What `main_call0_v59` holds after the stretch. -/
def h1_v59 : (⟨S2048, .f32⟩ : BufTy).Contents (Elt F) := W3 m ρ c (Proc.devRef .tc main_call0_v59)
/-- What `main_call0_call1_v0` holds after the stretch. -/
def h1_call1_v0 : (⟨S2048, .i32⟩ : BufTy).Contents (Elt F) := W3 m ρ c (Proc.devRef .tc main_call0_call1_v0)
/-- What `main_call0_call1_v1_0` holds after the stretch. -/
def h1_call1_v1_0 : (⟨S2048, .i32⟩ : BufTy).Contents (Elt F) := W3 m ρ c (Proc.devRef .tc main_call0_call1_v1_0)
/-- What `main_call0_call1_v1_1` holds after the stretch. -/
def h1_call1_v1_1 : (⟨S2048, .f32⟩ : BufTy).Contents (Elt F) := W3 m ρ c (Proc.devRef .tc main_call0_call1_v1_1)
/-- What `main_call0_v60` holds after the stretch. -/
def h1_v60 : (⟨S2048, .i32⟩ : BufTy).Contents (Elt F) := W3 m ρ c (Proc.devRef .tc main_call0_v60)
/-- What `main_call0_call2_v0` holds after the stretch. -/
def h1_call2_v0 : (⟨S2048, .i32⟩ : BufTy).Contents (Elt F) := W3 m ρ c (Proc.devRef .tc main_call0_call2_v0)
/-- What `main_call0_call2_v1_0` holds after the stretch. -/
def h1_call2_v1_0 : (⟨S2048, .i32⟩ : BufTy).Contents (Elt F) := W3 m ρ c (Proc.devRef .tc main_call0_call2_v1_0)
/-- What `main_call0_v61` holds after the stretch. -/
def h1_v61 : (⟨S2048, .i32⟩ : BufTy).Contents (Elt F) := W3 m ρ c (Proc.devRef .tc main_call0_v61)
/-- What `main_call0_c` holds after the stretch. -/
def h1_c : (⟨S_, .i32⟩ : BufTy).Contents (Elt F) := W3 m ρ c (Proc.devRef .tc main_call0_c)
/-- What `main_call0_v62` holds after the stretch. -/
def h1_v62 : (⟨S2048, .i32⟩ : BufTy).Contents (Elt F) := W3 m ρ c (Proc.devRef .tc main_call0_v62)
/-- What `main_call0_v63` holds after the stretch. -/
def h1_v63 : (⟨S2048, .i1⟩ : BufTy).Contents (Elt F) := W3 m ρ c (Proc.devRef .tc main_call0_v63)
/-- What `main_call0_c_22` holds after the stretch. -/
def h1_c_22 : (⟨S_, .i32⟩ : BufTy).Contents (Elt F) := W3 m ρ c (Proc.devRef .tc main_call0_c_22)
/-- What `main_call0_v64` holds after the stretch. -/
def h1_v64 : (⟨S2048, .i32⟩ : BufTy).Contents (Elt F) := W3 m ρ c (Proc.devRef .tc main_call0_v64)
/-- What `main_call0_v65` holds after the stretch. -/
def h1_v65 : (⟨S2048, .i32⟩ : BufTy).Contents (Elt F) := W3 m ρ c (Proc.devRef .tc main_call0_v65)
/-- What `main_call0_v66` holds after the stretch. -/
def h1_v66 : (⟨S2048, .i32⟩ : BufTy).Contents (Elt F) := W3 m ρ c (Proc.devRef .tc main_call0_v66)
/-- What `main_call0_v67` holds after the stretch. -/
def h1_v67 : (⟨S2048x1, .i32⟩ : BufTy).Contents (Elt F) := W3 m ρ c (Proc.devRef .tc main_call0_v67)
/-- What `main_call0_v68` holds after the stretch. -/
def h1_v68 : (⟨S2048, .i32⟩ : BufTy).Contents (Elt F) := W3 m ρ c (Proc.devRef .tc main_call0_v68)
/-- What `main_call0_v69` holds after the stretch. -/
def h1_v69 : (⟨S16, .i32⟩ : BufTy).Contents (Elt F) := W3 m ρ c (Proc.devRef .tc main_call0_v69)
/-- What `main_call0_call3_call0_c` holds after the stretch. -/
def h1_call3_call0_c : (⟨S_, .i32⟩ : BufTy).Contents (Elt F) := W3 m ρ c (Proc.devRef .tc main_call0_call3_call0_c)
/-- What `main_call0_call3_call0_v0` holds after the stretch. -/
def h1_call3_call0_v0 : (⟨S_, .i32⟩ : BufTy).Contents (Elt F) := W3 m ρ c (Proc.devRef .tc main_call0_call3_call0_v0)
/-- What `main_call0_v70` holds after the stretch. -/
def h1_v70 : (⟨S16, .i32⟩ : BufTy).Contents (Elt F) := W3 m ρ c (Proc.devRef .tc main_call0_v70)
/-- What `main_call0_v71` holds after the stretch. -/
def h1_v71 : (⟨S16, .i32⟩ : BufTy).Contents (Elt F) := W3 m ρ c (Proc.devRef .tc main_call0_v71)
/-- What `main_call0_v72` holds after the stretch. -/
def h1_v72 : (⟨S2048, .i32⟩ : BufTy).Contents (Elt F) := W3 m ρ c (Proc.devRef .tc main_call0_v72)
/-- What `main_call0_c_23` holds after the stretch. -/
def h1_c_23 : (⟨S_, .i32⟩ : BufTy).Contents (Elt F) := W3 m ρ c (Proc.devRef .tc main_call0_c_23)
/-- What `main_call0_v73` holds after the stretch. -/
def h1_v73 : (⟨S2048, .i32⟩ : BufTy).Contents (Elt F) := W3 m ρ c (Proc.devRef .tc main_call0_v73)
/-- What `main_call0_v74` holds after the stretch. -/
def h1_v74 : (⟨S2048, .i1⟩ : BufTy).Contents (Elt F) := W3 m ρ c (Proc.devRef .tc main_call0_v74)
/-- What `main_call0_c_24` holds after the stretch. -/
def h1_c_24 : (⟨S_, .i32⟩ : BufTy).Contents (Elt F) := W3 m ρ c (Proc.devRef .tc main_call0_c_24)
/-- What `main_call0_v75` holds after the stretch. -/
def h1_v75 : (⟨S2048, .i32⟩ : BufTy).Contents (Elt F) := W3 m ρ c (Proc.devRef .tc main_call0_v75)
/-- What `main_call0_v76` holds after the stretch. -/
def h1_v76 : (⟨S2048, .i32⟩ : BufTy).Contents (Elt F) := W3 m ρ c (Proc.devRef .tc main_call0_v76)
/-- What `main_call0_v77` holds after the stretch. -/
def h1_v77 : (⟨S2048, .i32⟩ : BufTy).Contents (Elt F) := W3 m ρ c (Proc.devRef .tc main_call0_v77)
/-- What `main_call0_v78` holds after the stretch. -/
def h1_v78 : (⟨S2048x1, .i32⟩ : BufTy).Contents (Elt F) := W3 m ρ c (Proc.devRef .tc main_call0_v78)
/-- What `main_call0_v79` holds after the stretch. -/
def h1_v79 : (⟨S2048, .i32⟩ : BufTy).Contents (Elt F) := W3 m ρ c (Proc.devRef .tc main_call0_v79)
/-- What `main_call0_v80` holds after the stretch. -/
def h1_v80 : (⟨S2048, .i32⟩ : BufTy).Contents (Elt F) := W3 m ρ c (Proc.devRef .tc main_call0_v80)
/-- What `main_call0_c_25` holds after the stretch. -/
def h1_c_25 : (⟨S_, .i32⟩ : BufTy).Contents (Elt F) := W3 m ρ c (Proc.devRef .tc main_call0_c_25)
/-- What `main_call0_v81` holds after the stretch. -/
def h1_v81 : (⟨S2048, .i32⟩ : BufTy).Contents (Elt F) := W3 m ρ c (Proc.devRef .tc main_call0_v81)
/-- What `main_call0_v82` holds after the stretch. -/
def h1_v82 : (⟨S2048, .i1⟩ : BufTy).Contents (Elt F) := W3 m ρ c (Proc.devRef .tc main_call0_v82)
/-- What `main_call0_v83` holds after the stretch. -/
def h1_v83 : (⟨S2048, .f32⟩ : BufTy).Contents (Elt F) := W3 m ρ c (Proc.devRef .tc main_call0_v83)
/-- What `main_call0_c_26` holds after the stretch. -/
def h1_c_26 : (⟨S_, .i32⟩ : BufTy).Contents (Elt F) := W3 m ρ c (Proc.devRef .tc main_call0_c_26)
/-- What `main_call0_v84` holds after the stretch. -/
def h1_v84 : (⟨S2048, .i32⟩ : BufTy).Contents (Elt F) := W3 m ρ c (Proc.devRef .tc main_call0_v84)
/-- What `main_call0_v85` holds after the stretch. -/
def h1_v85 : (⟨S2048, .i32⟩ : BufTy).Contents (Elt F) := W3 m ρ c (Proc.devRef .tc main_call0_v85)
/-- What `main_call0_c_27` holds after the stretch. -/
def h1_c_27 : (⟨S_, .i32⟩ : BufTy).Contents (Elt F) := W3 m ρ c (Proc.devRef .tc main_call0_c_27)
/-- What `main_call0_c_28` holds after the stretch. -/
def h1_c_28 : (⟨S_, .i32⟩ : BufTy).Contents (Elt F) := W3 m ρ c (Proc.devRef .tc main_call0_c_28)
/-- What `main_call0_call4_v0` holds after the stretch. -/
def h1_call4_v0 : (⟨S_, .i32⟩ : BufTy).Contents (Elt F) := W3 m ρ c (Proc.devRef .tc main_call0_call4_v0)
/-- What `main_call0_call4_v1` holds after the stretch. -/
def h1_call4_v1 : (⟨S2048, .i32⟩ : BufTy).Contents (Elt F) := W3 m ρ c (Proc.devRef .tc main_call0_call4_v1)
/-- What `main_call0_call4_v2` holds after the stretch. -/
def h1_call4_v2 : (⟨S2048, .i32⟩ : BufTy).Contents (Elt F) := W3 m ρ c (Proc.devRef .tc main_call0_call4_v2)
/-- What `main_call0_call4_v3` holds after the stretch. -/
def h1_call4_v3 : (⟨S_, .i32⟩ : BufTy).Contents (Elt F) := W3 m ρ c (Proc.devRef .tc main_call0_call4_v3)
/-- What `main_call0_call4_v4` holds after the stretch. -/
def h1_call4_v4 : (⟨S2048, .i32⟩ : BufTy).Contents (Elt F) := W3 m ρ c (Proc.devRef .tc main_call0_call4_v4)
/-- What `main_call0_v86` holds after the stretch. -/
def h1_v86 : (⟨S2048, .i32⟩ : BufTy).Contents (Elt F) := W3 m ρ c (Proc.devRef .tc main_call0_v86)
/-- What `main_call0_v87` holds after the stretch. -/
def h1_v87 : (⟨S2048, .i32⟩ : BufTy).Contents (Elt F) := W3 m ρ c (Proc.devRef .tc main_call0_v87)
/-- What `main_call0_v88` holds after the stretch. -/
def h1_v88 : (⟨S256, .i32⟩ : BufTy).Contents (Elt F) := W3 m ρ c (Proc.devRef .tc main_call0_v88)
/-- What `main_call0_v89` holds after the stretch. -/
def h1_v89 : (⟨S1x256, .i32⟩ : BufTy).Contents (Elt F) := W3 m ρ c (Proc.devRef .tc main_call0_v89)
/-- What `main_call0_v90` holds after the stretch. -/
def h1_v90 : (⟨S16x1, .i32⟩ : BufTy).Contents (Elt F) := W3 m ρ c (Proc.devRef .tc main_call0_v90)
/-- What `main_call0_v91` holds after the stretch. -/
def h1_v91 : (⟨S16x256, .i32⟩ : BufTy).Contents (Elt F) := W3 m ρ c (Proc.devRef .tc main_call0_v91)
/-- What `main_call0_v92` holds after the stretch. -/
def h1_v92 : (⟨S16x256, .i32⟩ : BufTy).Contents (Elt F) := W3 m ρ c (Proc.devRef .tc main_call0_v92)
/-- What `main_call0_v93` holds after the stretch. -/
def h1_v93 : (⟨S16x256, .i32⟩ : BufTy).Contents (Elt F) := W3 m ρ c (Proc.devRef .tc main_call0_v93)
/-- What `main_call0_c_29` holds after the stretch. -/
def h1_c_29 : (⟨S_, .i32⟩ : BufTy).Contents (Elt F) := W3 m ρ c (Proc.devRef .tc main_call0_c_29)
/-- What `main_call0_c_30` holds after the stretch. -/
def h1_c_30 : (⟨S_, .i32⟩ : BufTy).Contents (Elt F) := W3 m ρ c (Proc.devRef .tc main_call0_c_30)
/-- What `main_call0_call5_v0` holds after the stretch. -/
def h1_call5_v0 : (⟨S_, .i32⟩ : BufTy).Contents (Elt F) := W3 m ρ c (Proc.devRef .tc main_call0_call5_v0)
/-- What `main_call0_call5_v1` holds after the stretch. -/
def h1_call5_v1 : (⟨S16x256, .i32⟩ : BufTy).Contents (Elt F) := W3 m ρ c (Proc.devRef .tc main_call0_call5_v1)
/-- What `main_call0_call5_v2` holds after the stretch. -/
def h1_call5_v2 : (⟨S16x256, .i32⟩ : BufTy).Contents (Elt F) := W3 m ρ c (Proc.devRef .tc main_call0_call5_v2)
/-- What `main_call0_call5_v3` holds after the stretch. -/
def h1_call5_v3 : (⟨S_, .i32⟩ : BufTy).Contents (Elt F) := W3 m ρ c (Proc.devRef .tc main_call0_call5_v3)
/-- What `main_call0_call5_v4` holds after the stretch. -/
def h1_call5_v4 : (⟨S16x256, .i32⟩ : BufTy).Contents (Elt F) := W3 m ρ c (Proc.devRef .tc main_call0_call5_v4)
/-- What `main_call0_v94` holds after the stretch. -/
def h1_v94 : (⟨S16x256, .i32⟩ : BufTy).Contents (Elt F) := W3 m ρ c (Proc.devRef .tc main_call0_v94)
/-- What `main_call0_c_31` holds after the stretch. -/
def h1_c_31 : (⟨S_, .i32⟩ : BufTy).Contents (Elt F) := W3 m ρ c (Proc.devRef .tc main_call0_c_31)
/-- What `main_call0_v95` holds after the stretch. -/
def h1_v95 : (⟨S16x256, .i32⟩ : BufTy).Contents (Elt F) := W3 m ρ c (Proc.devRef .tc main_call0_v95)
/-- What `main_call0_v96` holds after the stretch. -/
def h1_v96 : (⟨S16x256, .i1⟩ : BufTy).Contents (Elt F) := W3 m ρ c (Proc.devRef .tc main_call0_v96)
/-- What `main_call0_c_32` holds after the stretch. -/
def h1_c_32 : (⟨S_, .i32⟩ : BufTy).Contents (Elt F) := W3 m ρ c (Proc.devRef .tc main_call0_c_32)
/-- What `main_call0_v97` holds after the stretch. -/
def h1_v97 : (⟨S16x256, .i32⟩ : BufTy).Contents (Elt F) := W3 m ρ c (Proc.devRef .tc main_call0_v97)
/-- What `main_call0_v98` holds after the stretch. -/
def h1_v98 : (⟨S16x256, .i32⟩ : BufTy).Contents (Elt F) := W3 m ρ c (Proc.devRef .tc main_call0_v98)
/-- What `main_call0_v99` holds after the stretch. -/
def h1_v99 : (⟨S16x256, .i32⟩ : BufTy).Contents (Elt F) := W3 m ρ c (Proc.devRef .tc main_call0_v99)
/-- What `main_call0_v100` holds after the stretch. -/
def h1_v100 : (⟨S16x256x1, .i32⟩ : BufTy).Contents (Elt F) := W3 m ρ c (Proc.devRef .tc main_call0_v100)
/-- What `main_call0_v101` holds after the stretch. -/
def h1_v101 : (⟨S16x256, .i32⟩ : BufTy).Contents (Elt F) := W3 m ρ c (Proc.devRef .tc main_call0_v101)
/-- What `main_call0_v102` holds after the stretch. -/
def h1_v102 : (⟨S4096, .i32⟩ : BufTy).Contents (Elt F) := W3 m ρ c (Proc.devRef .tc main_call0_v102)
/-- What `main_call0_c_33` holds after the stretch. -/
def h1_c_33 : (⟨S_, .i32⟩ : BufTy).Contents (Elt F) := W3 m ρ c (Proc.devRef .tc main_call0_c_33)
/-- What `main_call0_v103` holds after the stretch. -/
def h1_v103 : (⟨S4096, .i32⟩ : BufTy).Contents (Elt F) := W3 m ρ c (Proc.devRef .tc main_call0_v103)
/-- What `main_call0_v104` holds after the stretch. -/
def h1_v104 : (⟨S4096, .i1⟩ : BufTy).Contents (Elt F) := W3 m ρ c (Proc.devRef .tc main_call0_v104)
/-- What `main_call0_c_34` holds after the stretch. -/
def h1_c_34 : (⟨S_, .i32⟩ : BufTy).Contents (Elt F) := W3 m ρ c (Proc.devRef .tc main_call0_c_34)
/-- What `main_call0_v105` holds after the stretch. -/
def h1_v105 : (⟨S4096, .i32⟩ : BufTy).Contents (Elt F) := W3 m ρ c (Proc.devRef .tc main_call0_v105)
/-- What `main_call0_v106` holds after the stretch. -/
def h1_v106 : (⟨S4096, .i32⟩ : BufTy).Contents (Elt F) := W3 m ρ c (Proc.devRef .tc main_call0_v106)
/-- What `main_call0_v107` holds after the stretch. -/
def h1_v107 : (⟨S4096, .i32⟩ : BufTy).Contents (Elt F) := W3 m ρ c (Proc.devRef .tc main_call0_v107)
/-- What `main_call0_v108` holds after the stretch. -/
def h1_v108 : (⟨S4096x1, .i32⟩ : BufTy).Contents (Elt F) := W3 m ρ c (Proc.devRef .tc main_call0_v108)
/-- What `main_call0_v0` holds after the stretch. -/
def h1_v0 : (⟨S2048x768, .f32⟩ : BufTy).Contents (Elt F) := W3 m ρ c (Proc.devRef .tc main_call0_v0)
/-- What `main_call0_v109` holds after the stretch. -/
def h1_v109 : (⟨S4096x768, .f32⟩ : BufTy).Contents (Elt F) := W3 m ρ c (Proc.devRef .tc main_call0_v109)

/-- Operation 0 of the stretch. -/
theorem h1_cst_eq : h1_cst m ρ c = (constant S_ .f32 0xFF800000#32) :=
  read_nullary hostOps1_map 0 (.of main_call0_cst : StableHlo.TRef sig ⟨S_, .f32⟩) (constant S_ .f32 0xFF800000#32) rfl (by decide +kernel) (W2 m ρ c)
/-- Operation 1 of the stretch. -/
theorem h1_v2_eq : h1_v2 m ρ c = (fun x v => Host.reduce FloatOps.maximumf x v reducesTo_S2048x16_S2048_d1 h_S_) (h1_v1 m ρ c) (h1_cst m ρ c) :=
  read_binary hostOps1_map 1 (.of main_call0_v1 : StableHlo.TRef sig ⟨S2048x16, .f32⟩) (.of main_call0_cst : StableHlo.TRef sig ⟨S_, .f32⟩) (.of main_call0_v2 : StableHlo.TRef sig ⟨S2048, .f32⟩) (fun x v => Host.reduce FloatOps.maximumf x v reducesTo_S2048x16_S2048_d1 h_S_) rfl (by decide +kernel) (by decide +kernel) (by decide +kernel) (W2 m ρ c)
/-- Operation 2 of the stretch. -/
theorem h1_cst_0_eq : h1_cst_0 m ρ c = (constant S_ .f32 0xFF800000#32) :=
  read_nullary hostOps1_map 2 (.of main_call0_cst_0 : StableHlo.TRef sig ⟨S_, .f32⟩) (constant S_ .f32 0xFF800000#32) rfl (by decide +kernel) (W2 m ρ c)
/-- Operation 3 of the stretch. -/
theorem h1_v3_eq : h1_v3 m ρ c = (broadcastInDim S2048 ![] bcast_S_S2048) (h1_cst_0 m ρ c) :=
  read_unary hostOps1_map 3 (.of main_call0_cst_0 : StableHlo.TRef sig ⟨S_, .f32⟩) (.of main_call0_v3 : StableHlo.TRef sig ⟨S2048, .f32⟩) (broadcastInDim S2048 ![] bcast_S_S2048) rfl (by decide +kernel) (by decide +kernel) (W2 m ρ c)
/-- Operation 4 of the stretch. -/
theorem h1_v4_eq : h1_v4 m ρ c = maximumf (h1_v3 m ρ c) (h1_v2 m ρ c) :=
  read_binary hostOps1_map 4 (.of main_call0_v3 : StableHlo.TRef sig ⟨S2048, .f32⟩) (.of main_call0_v2 : StableHlo.TRef sig ⟨S2048, .f32⟩) (.of main_call0_v4 : StableHlo.TRef sig ⟨S2048, .f32⟩) (maximumf) rfl (by decide +kernel) (by decide +kernel) (by decide +kernel) (W2 m ρ c)
/-- Operation 5 of the stretch. -/
theorem h1_v5_eq : h1_v5 m ρ c = (broadcastInDim S2048x1 ![0] bcast_S2048_S2048x1_0) (h1_v4 m ρ c) :=
  read_unary hostOps1_map 5 (.of main_call0_v4 : StableHlo.TRef sig ⟨S2048, .f32⟩) (.of main_call0_v5 : StableHlo.TRef sig ⟨S2048x1, .f32⟩) (broadcastInDim S2048x1 ![0] bcast_S2048_S2048x1_0) rfl (by decide +kernel) (by decide +kernel) (W2 m ρ c)
/-- Operation 6 of the stretch. -/
theorem h1_v6_eq : h1_v6 m ρ c = (broadcastInDim S2048x16 ![0, 1] bcast_S2048x1_S2048x16_0_1) (h1_v5 m ρ c) :=
  read_unary hostOps1_map 6 (.of main_call0_v5 : StableHlo.TRef sig ⟨S2048x1, .f32⟩) (.of main_call0_v6 : StableHlo.TRef sig ⟨S2048x16, .f32⟩) (broadcastInDim S2048x16 ![0, 1] bcast_S2048x1_S2048x16_0_1) rfl (by decide +kernel) (by decide +kernel) (W2 m ρ c)
/-- Operation 7 of the stretch. -/
theorem h1_v7_eq : h1_v7 m ρ c = subf (h1_v1 m ρ c) (h1_v6 m ρ c) :=
  read_binary hostOps1_map 7 (.of main_call0_v1 : StableHlo.TRef sig ⟨S2048x16, .f32⟩) (.of main_call0_v6 : StableHlo.TRef sig ⟨S2048x16, .f32⟩) (.of main_call0_v7 : StableHlo.TRef sig ⟨S2048x16, .f32⟩) (subf) rfl (by decide +kernel) (by decide +kernel) (by decide +kernel) (W2 m ρ c)
/-- Operation 8 of the stretch. -/
theorem h1_v8_eq : h1_v8 m ρ c = Host.exp (h1_v7 m ρ c) :=
  read_unary hostOps1_map 8 (.of main_call0_v7 : StableHlo.TRef sig ⟨S2048x16, .f32⟩) (.of main_call0_v8 : StableHlo.TRef sig ⟨S2048x16, .f32⟩) (Host.exp) rfl (by decide +kernel) (by decide +kernel) (W2 m ρ c)
/-- Operation 9 of the stretch. -/
theorem h1_cst_1_eq : h1_cst_1 m ρ c = (constant S_ .f32 0x00000000#32) :=
  read_nullary hostOps1_map 9 (.of main_call0_cst_1 : StableHlo.TRef sig ⟨S_, .f32⟩) (constant S_ .f32 0x00000000#32) rfl (by decide +kernel) (W2 m ρ c)
/-- Operation 10 of the stretch. -/
theorem h1_v9_eq : h1_v9 m ρ c = (fun x v => Host.reduceAdd x v reducesTo_S2048x16_S2048_d1 h_S_) (h1_v8 m ρ c) (h1_cst_1 m ρ c) :=
  read_binary hostOps1_map 10 (.of main_call0_v8 : StableHlo.TRef sig ⟨S2048x16, .f32⟩) (.of main_call0_cst_1 : StableHlo.TRef sig ⟨S_, .f32⟩) (.of main_call0_v9 : StableHlo.TRef sig ⟨S2048, .f32⟩) (fun x v => Host.reduceAdd x v reducesTo_S2048x16_S2048_d1 h_S_) rfl (by decide +kernel) (by decide +kernel) (by decide +kernel) (W2 m ρ c)
/-- Operation 11 of the stretch. -/
theorem h1_v10_eq : h1_v10 m ρ c = (broadcastInDim S2048x1 ![0] bcast_S2048_S2048x1_0) (h1_v9 m ρ c) :=
  read_unary hostOps1_map 11 (.of main_call0_v9 : StableHlo.TRef sig ⟨S2048, .f32⟩) (.of main_call0_v10 : StableHlo.TRef sig ⟨S2048x1, .f32⟩) (broadcastInDim S2048x1 ![0] bcast_S2048_S2048x1_0) rfl (by decide +kernel) (by decide +kernel) (W2 m ρ c)
/-- Operation 12 of the stretch. -/
theorem h1_v11_eq : h1_v11 m ρ c = (broadcastInDim S2048x16 ![0, 1] bcast_S2048x1_S2048x16_0_1) (h1_v10 m ρ c) :=
  read_unary hostOps1_map 12 (.of main_call0_v10 : StableHlo.TRef sig ⟨S2048x1, .f32⟩) (.of main_call0_v11 : StableHlo.TRef sig ⟨S2048x16, .f32⟩) (broadcastInDim S2048x16 ![0, 1] bcast_S2048x1_S2048x16_0_1) rfl (by decide +kernel) (by decide +kernel) (W2 m ρ c)
/-- Operation 13 of the stretch. -/
theorem h1_main_v0_2_eq : h1_main_v0_2 m ρ c = Host.divf (h1_v8 m ρ c) (h1_v11 m ρ c) :=
  read_binary hostOps1_map 13 (.of main_call0_v8 : StableHlo.TRef sig ⟨S2048x16, .f32⟩) (.of main_call0_v11 : StableHlo.TRef sig ⟨S2048x16, .f32⟩) (.of main_v0_2 : StableHlo.TRef sig ⟨S2048x16, .f32⟩) (Host.divf) rfl (by decide +kernel) (by decide +kernel) (by decide +kernel) (W2 m ρ c)
/-- Operation 14 of the stretch. -/
theorem h1_call0_v0_eq : h1_call0_v0 m ρ c = (iotaInDim S2048x16 32 1) :=
  read_nullary hostOps1_map 14 (.of main_call0_call0_v0 : StableHlo.TRef sig ⟨S2048x16, .i32⟩) (iotaInDim S2048x16 32 1) rfl (by decide +kernel) (W2 m ρ c)
/-- Operation 15 of the stretch. -/
theorem h1_call0_cst_eq : h1_call0_cst m ρ c = (constant S_ .f32 0xFF800000#32) :=
  read_nullary hostOps1_map 15 (.of main_call0_call0_cst : StableHlo.TRef sig ⟨S_, .f32⟩) (constant S_ .f32 0xFF800000#32) rfl (by decide +kernel) (W2 m ρ c)
/-- Operation 16 of the stretch. -/
theorem h1_call0_c_eq : h1_call0_c m ρ c = (constantI S_ 32 0#32) :=
  read_nullary hostOps1_map 16 (.of main_call0_call0_c : StableHlo.TRef sig ⟨S_, .i32⟩) (constantI S_ 32 0#32) rfl (by decide +kernel) (W2 m ρ c)
/-- Operation 17 of the stretch. -/
theorem h1_call0_v1_0_eq : h1_call0_v1_0 m ρ c = (fun x y u v j => (Host.argReduce reducer_argmax_f32_i32 x y u v reducesTo_S2048x16_S2048_d1 h_S_ j).1) (h1_v1 m ρ c) (h1_call0_v0 m ρ c) (h1_call0_cst m ρ c) (h1_call0_c m ρ c) :=
  read_quaternary hostOps1_map 17 (.of main_call0_v1 : StableHlo.TRef sig ⟨S2048x16, .f32⟩) (.of main_call0_call0_v0 : StableHlo.TRef sig ⟨S2048x16, .i32⟩) (.of main_call0_call0_cst : StableHlo.TRef sig ⟨S_, .f32⟩) (.of main_call0_call0_c : StableHlo.TRef sig ⟨S_, .i32⟩) (.of main_call0_call0_v1_0 : StableHlo.TRef sig ⟨S2048, .f32⟩) (fun x y u v j => (Host.argReduce reducer_argmax_f32_i32 x y u v reducesTo_S2048x16_S2048_d1 h_S_ j).1) rfl (by decide +kernel) (by decide +kernel) (by decide +kernel) (by decide +kernel) (by decide +kernel) (W2 m ρ c)
/-- Operation 18 of the stretch. -/
theorem h1_v13_eq : h1_v13 m ρ c = (fun x y u v j => (Host.argReduce reducer_argmax_f32_i32 x y u v reducesTo_S2048x16_S2048_d1 h_S_ j).2) (h1_v1 m ρ c) (h1_call0_v0 m ρ c) (h1_call0_cst m ρ c) (h1_call0_c m ρ c) :=
  read_quaternary hostOps1_map 18 (.of main_call0_v1 : StableHlo.TRef sig ⟨S2048x16, .f32⟩) (.of main_call0_call0_v0 : StableHlo.TRef sig ⟨S2048x16, .i32⟩) (.of main_call0_call0_cst : StableHlo.TRef sig ⟨S_, .f32⟩) (.of main_call0_call0_c : StableHlo.TRef sig ⟨S_, .i32⟩) (.of main_call0_v13 : StableHlo.TRef sig ⟨S2048, .i32⟩) (fun x y u v j => (Host.argReduce reducer_argmax_f32_i32 x y u v reducesTo_S2048x16_S2048_d1 h_S_ j).2) rfl (by decide +kernel) (by decide +kernel) (by decide +kernel) (by decide +kernel) (by decide +kernel) (W2 m ρ c)
/-- Operation 19 of the stretch. -/
theorem h1_cst_2_eq : h1_cst_2 m ρ c = (constant S_ .f32 0xFF800000#32) :=
  read_nullary hostOps1_map 19 (.of main_call0_cst_2 : StableHlo.TRef sig ⟨S_, .f32⟩) (constant S_ .f32 0xFF800000#32) rfl (by decide +kernel) (W2 m ρ c)
/-- Operation 20 of the stretch. -/
theorem h1_v14_eq : h1_v14 m ρ c = (fun x v => Host.reduce FloatOps.maximumf x v reducesTo_S2048x16_S2048_d1 h_S_) (h1_v1 m ρ c) (h1_cst_2 m ρ c) :=
  read_binary hostOps1_map 20 (.of main_call0_v1 : StableHlo.TRef sig ⟨S2048x16, .f32⟩) (.of main_call0_cst_2 : StableHlo.TRef sig ⟨S_, .f32⟩) (.of main_call0_v14 : StableHlo.TRef sig ⟨S2048, .f32⟩) (fun x v => Host.reduce FloatOps.maximumf x v reducesTo_S2048x16_S2048_d1 h_S_) rfl (by decide +kernel) (by decide +kernel) (by decide +kernel) (W2 m ρ c)
/-- Operation 21 of the stretch. -/
theorem h1_v15_eq : h1_v15 m ρ c = (broadcastInDim S2048x1 ![0] bcast_S2048_S2048x1_0) (h1_v13 m ρ c) :=
  read_unary hostOps1_map 21 (.of main_call0_v13 : StableHlo.TRef sig ⟨S2048, .i32⟩) (.of main_call0_v15 : StableHlo.TRef sig ⟨S2048x1, .i32⟩) (broadcastInDim S2048x1 ![0] bcast_S2048_S2048x1_0) rfl (by decide +kernel) (by decide +kernel) (W2 m ρ c)
/-- Operation 22 of the stretch. -/
theorem h1_v16_eq : h1_v16 m ρ c = (iotaInDim S16 32 0) :=
  read_nullary hostOps1_map 22 (.of main_call0_v16 : StableHlo.TRef sig ⟨S16, .i32⟩) (iotaInDim S16 32 0) rfl (by decide +kernel) (W2 m ρ c)
/-- Operation 23 of the stretch. -/
theorem h1_v17_eq : h1_v17 m ρ c = (broadcastInDim S1x16 ![1] bcast_S16_S1x16_1) (h1_v16 m ρ c) :=
  read_unary hostOps1_map 23 (.of main_call0_v16 : StableHlo.TRef sig ⟨S16, .i32⟩) (.of main_call0_v17 : StableHlo.TRef sig ⟨S1x16, .i32⟩) (broadcastInDim S1x16 ![1] bcast_S16_S1x16_1) rfl (by decide +kernel) (by decide +kernel) (W2 m ρ c)
/-- Operation 24 of the stretch. -/
theorem h1_v18_eq : h1_v18 m ρ c = (broadcastInDim S2048x16 ![0, 1] bcast_S2048x1_S2048x16_0_1) (h1_v15 m ρ c) :=
  read_unary hostOps1_map 24 (.of main_call0_v15 : StableHlo.TRef sig ⟨S2048x1, .i32⟩) (.of main_call0_v18 : StableHlo.TRef sig ⟨S2048x16, .i32⟩) (broadcastInDim S2048x16 ![0, 1] bcast_S2048x1_S2048x16_0_1) rfl (by decide +kernel) (by decide +kernel) (W2 m ρ c)
/-- Operation 25 of the stretch. -/
theorem h1_v19_eq : h1_v19 m ρ c = (broadcastInDim S2048x16 ![0, 1] bcast_S1x16_S2048x16_0_1) (h1_v17 m ρ c) :=
  read_unary hostOps1_map 25 (.of main_call0_v17 : StableHlo.TRef sig ⟨S1x16, .i32⟩) (.of main_call0_v19 : StableHlo.TRef sig ⟨S2048x16, .i32⟩) (broadcastInDim S2048x16 ![0, 1] bcast_S1x16_S2048x16_0_1) rfl (by decide +kernel) (by decide +kernel) (W2 m ρ c)
/-- Operation 26 of the stretch. -/
theorem h1_v20_eq : h1_v20 m ρ c = (cmpi .eq) (h1_v18 m ρ c) (h1_v19 m ρ c) :=
  read_binary hostOps1_map 26 (.of main_call0_v18 : StableHlo.TRef sig ⟨S2048x16, .i32⟩) (.of main_call0_v19 : StableHlo.TRef sig ⟨S2048x16, .i32⟩) (.of main_call0_v20 : StableHlo.TRef sig ⟨S2048x16, .i1⟩) (cmpi .eq) rfl (by decide +kernel) (by decide +kernel) (by decide +kernel) (W2 m ρ c)
/-- Operation 27 of the stretch. -/
theorem h1_v21_eq : h1_v21 m ρ c = (uitofp .f32) (h1_v20 m ρ c) :=
  read_unary hostOps1_map 27 (.of main_call0_v20 : StableHlo.TRef sig ⟨S2048x16, .i1⟩) (.of main_call0_v21 : StableHlo.TRef sig ⟨S2048x16, .f32⟩) (uitofp .f32) rfl (by decide +kernel) (by decide +kernel) (W2 m ρ c)
/-- Operation 28 of the stretch. -/
theorem h1_cst_3_eq : h1_cst_3 m ρ c = (constant S_ .f32 0x00000000#32) :=
  read_nullary hostOps1_map 28 (.of main_call0_cst_3 : StableHlo.TRef sig ⟨S_, .f32⟩) (constant S_ .f32 0x00000000#32) rfl (by decide +kernel) (W2 m ρ c)
/-- Operation 29 of the stretch. -/
theorem h1_v22_eq : h1_v22 m ρ c = (fun x v => Host.reduceAdd x v reducesTo_S2048x16_S16_d0 h_S_) (h1_v21 m ρ c) (h1_cst_3 m ρ c) :=
  read_binary hostOps1_map 29 (.of main_call0_v21 : StableHlo.TRef sig ⟨S2048x16, .f32⟩) (.of main_call0_cst_3 : StableHlo.TRef sig ⟨S_, .f32⟩) (.of main_call0_v22 : StableHlo.TRef sig ⟨S16, .f32⟩) (fun x v => Host.reduceAdd x v reducesTo_S2048x16_S16_d0 h_S_) rfl (by decide +kernel) (by decide +kernel) (by decide +kernel) (W2 m ρ c)
/-- Operation 30 of the stretch. -/
theorem h1_cst_4_eq : h1_cst_4 m ρ c = (constant S_ .f32 0x00000000#32) :=
  read_nullary hostOps1_map 30 (.of main_call0_cst_4 : StableHlo.TRef sig ⟨S_, .f32⟩) (constant S_ .f32 0x00000000#32) rfl (by decide +kernel) (W2 m ρ c)
/-- Operation 31 of the stretch. -/
theorem h1_v23_eq : h1_v23 m ρ c = (fun x v => Host.reduceAdd x v reducesTo_S2048x16_S16_d0 h_S_) (h1_main_v0_2 m ρ c) (h1_cst_4 m ρ c) :=
  read_binary hostOps1_map 31 (.of main_v0_2 : StableHlo.TRef sig ⟨S2048x16, .f32⟩) (.of main_call0_cst_4 : StableHlo.TRef sig ⟨S_, .f32⟩) (.of main_call0_v23 : StableHlo.TRef sig ⟨S16, .f32⟩) (fun x v => Host.reduceAdd x v reducesTo_S2048x16_S16_d0 h_S_) rfl (by decide +kernel) (by decide +kernel) (by decide +kernel) (W2 m ρ c)
/-- Operation 32 of the stretch. -/
theorem h1_cst_5_eq : h1_cst_5 m ρ c = (constant S_ .f32 0x45000000#32) :=
  read_nullary hostOps1_map 32 (.of main_call0_cst_5 : StableHlo.TRef sig ⟨S_, .f32⟩) (constant S_ .f32 0x45000000#32) rfl (by decide +kernel) (W2 m ρ c)
/-- Operation 33 of the stretch. -/
theorem h1_v24_eq : h1_v24 m ρ c = (broadcastInDim S16 ![] bcast_S_S16) (h1_cst_5 m ρ c) :=
  read_unary hostOps1_map 33 (.of main_call0_cst_5 : StableHlo.TRef sig ⟨S_, .f32⟩) (.of main_call0_v24 : StableHlo.TRef sig ⟨S16, .f32⟩) (broadcastInDim S16 ![] bcast_S_S16) rfl (by decide +kernel) (by decide +kernel) (W2 m ρ c)
/-- Operation 34 of the stretch. -/
theorem h1_v25_eq : h1_v25 m ρ c = Host.divf (h1_v23 m ρ c) (h1_v24 m ρ c) :=
  read_binary hostOps1_map 34 (.of main_call0_v23 : StableHlo.TRef sig ⟨S16, .f32⟩) (.of main_call0_v24 : StableHlo.TRef sig ⟨S16, .f32⟩) (.of main_call0_v25 : StableHlo.TRef sig ⟨S16, .f32⟩) (Host.divf) rfl (by decide +kernel) (by decide +kernel) (by decide +kernel) (W2 m ρ c)
/-- Operation 35 of the stretch. -/
theorem h1_v26_eq : h1_v26 m ρ c = mulf (h1_v25 m ρ c) (h1_v22 m ρ c) :=
  read_binary hostOps1_map 35 (.of main_call0_v25 : StableHlo.TRef sig ⟨S16, .f32⟩) (.of main_call0_v22 : StableHlo.TRef sig ⟨S16, .f32⟩) (.of main_call0_v26 : StableHlo.TRef sig ⟨S16, .f32⟩) (mulf) rfl (by decide +kernel) (by decide +kernel) (by decide +kernel) (W2 m ρ c)
/-- Operation 36 of the stretch. -/
theorem h1_cst_6_eq : h1_cst_6 m ρ c = (constant S_ .f32 0x45000000#32) :=
  read_nullary hostOps1_map 36 (.of main_call0_cst_6 : StableHlo.TRef sig ⟨S_, .f32⟩) (constant S_ .f32 0x45000000#32) rfl (by decide +kernel) (W2 m ρ c)
/-- Operation 37 of the stretch. -/
theorem h1_v27_eq : h1_v27 m ρ c = (broadcastInDim S16 ![] bcast_S_S16) (h1_cst_6 m ρ c) :=
  read_unary hostOps1_map 37 (.of main_call0_cst_6 : StableHlo.TRef sig ⟨S_, .f32⟩) (.of main_call0_v27 : StableHlo.TRef sig ⟨S16, .f32⟩) (broadcastInDim S16 ![] bcast_S_S16) rfl (by decide +kernel) (by decide +kernel) (W2 m ρ c)
/-- Operation 38 of the stretch. -/
theorem h1_v28_eq : h1_v28 m ρ c = Host.divf (h1_v26 m ρ c) (h1_v27 m ρ c) :=
  read_binary hostOps1_map 38 (.of main_call0_v26 : StableHlo.TRef sig ⟨S16, .f32⟩) (.of main_call0_v27 : StableHlo.TRef sig ⟨S16, .f32⟩) (.of main_call0_v28 : StableHlo.TRef sig ⟨S16, .f32⟩) (Host.divf) rfl (by decide +kernel) (by decide +kernel) (by decide +kernel) (W2 m ρ c)
/-- Operation 39 of the stretch. -/
theorem h1_cst_7_eq : h1_cst_7 m ρ c = (constant S_ .f32 0x00000000#32) :=
  read_nullary hostOps1_map 39 (.of main_call0_cst_7 : StableHlo.TRef sig ⟨S_, .f32⟩) (constant S_ .f32 0x00000000#32) rfl (by decide +kernel) (W2 m ρ c)
/-- Operation 40 of the stretch. -/
theorem h1_v29_eq : h1_v29 m ρ c = (fun x v => Host.reduceAdd x v reducesTo_S16_S_d0 h_S_) (h1_v28 m ρ c) (h1_cst_7 m ρ c) :=
  read_binary hostOps1_map 40 (.of main_call0_v28 : StableHlo.TRef sig ⟨S16, .f32⟩) (.of main_call0_cst_7 : StableHlo.TRef sig ⟨S_, .f32⟩) (.of main_call0_v29 : StableHlo.TRef sig ⟨S_, .f32⟩) (fun x v => Host.reduceAdd x v reducesTo_S16_S_d0 h_S_) rfl (by decide +kernel) (by decide +kernel) (by decide +kernel) (W2 m ρ c)
/-- Operation 41 of the stretch. -/
theorem h1_cst_8_eq : h1_cst_8 m ρ c = (constant S_ .f32 0x41800000#32) :=
  read_nullary hostOps1_map 41 (.of main_call0_cst_8 : StableHlo.TRef sig ⟨S_, .f32⟩) (constant S_ .f32 0x41800000#32) rfl (by decide +kernel) (W2 m ρ c)
/-- Operation 42 of the stretch. -/
theorem h1_v30_eq : h1_v30 m ρ c = mulf (h1_v29 m ρ c) (h1_cst_8 m ρ c) :=
  read_binary hostOps1_map 42 (.of main_call0_v29 : StableHlo.TRef sig ⟨S_, .f32⟩) (.of main_call0_cst_8 : StableHlo.TRef sig ⟨S_, .f32⟩) (.of main_call0_v30 : StableHlo.TRef sig ⟨S_, .f32⟩) (mulf) rfl (by decide +kernel) (by decide +kernel) (by decide +kernel) (W2 m ρ c)
/-- Operation 43 of the stretch. -/
theorem h1_cst_9_eq : h1_cst_9 m ρ c = (constant S_ .f32 0xFF800000#32) :=
  read_nullary hostOps1_map 43 (.of main_call0_cst_9 : StableHlo.TRef sig ⟨S_, .f32⟩) (constant S_ .f32 0xFF800000#32) rfl (by decide +kernel) (W2 m ρ c)
/-- Operation 44 of the stretch. -/
theorem h1_v31_eq : h1_v31 m ρ c = (fun x v => Host.reduce FloatOps.maximumf x v reducesTo_S2048x16_S2048_d1 h_S_) (h1_v1 m ρ c) (h1_cst_9 m ρ c) :=
  read_binary hostOps1_map 44 (.of main_call0_v1 : StableHlo.TRef sig ⟨S2048x16, .f32⟩) (.of main_call0_cst_9 : StableHlo.TRef sig ⟨S_, .f32⟩) (.of main_call0_v31 : StableHlo.TRef sig ⟨S2048, .f32⟩) (fun x v => Host.reduce FloatOps.maximumf x v reducesTo_S2048x16_S2048_d1 h_S_) rfl (by decide +kernel) (by decide +kernel) (by decide +kernel) (W2 m ρ c)
/-- Operation 45 of the stretch. -/
theorem h1_v32_eq : h1_v32 m ρ c = Host.absf (h1_v31 m ρ c) :=
  read_unary hostOps1_map 45 (.of main_call0_v31 : StableHlo.TRef sig ⟨S2048, .f32⟩) (.of main_call0_v32 : StableHlo.TRef sig ⟨S2048, .f32⟩) (Host.absf) rfl (by decide +kernel) (by decide +kernel) (W2 m ρ c)
/-- Operation 46 of the stretch. -/
theorem h1_cst_10_eq : h1_cst_10 m ρ c = (constant S_ .f32 0x7F800000#32) :=
  read_nullary hostOps1_map 46 (.of main_call0_cst_10 : StableHlo.TRef sig ⟨S_, .f32⟩) (constant S_ .f32 0x7F800000#32) rfl (by decide +kernel) (W2 m ρ c)
/-- Operation 47 of the stretch. -/
theorem h1_v33_eq : h1_v33 m ρ c = (broadcastInDim S2048 ![] bcast_S_S2048) (h1_cst_10 m ρ c) :=
  read_unary hostOps1_map 47 (.of main_call0_cst_10 : StableHlo.TRef sig ⟨S_, .f32⟩) (.of main_call0_v33 : StableHlo.TRef sig ⟨S2048, .f32⟩) (broadcastInDim S2048 ![] bcast_S_S2048) rfl (by decide +kernel) (by decide +kernel) (W2 m ρ c)
/-- Operation 48 of the stretch. -/
theorem h1_v34_eq : h1_v34 m ρ c = (cmpf .olt) (h1_v32 m ρ c) (h1_v33 m ρ c) :=
  read_binary hostOps1_map 48 (.of main_call0_v32 : StableHlo.TRef sig ⟨S2048, .f32⟩) (.of main_call0_v33 : StableHlo.TRef sig ⟨S2048, .f32⟩) (.of main_call0_v34 : StableHlo.TRef sig ⟨S2048, .i1⟩) (cmpf .olt) rfl (by decide +kernel) (by decide +kernel) (by decide +kernel) (W2 m ρ c)
/-- Operation 49 of the stretch. -/
theorem h1_cst_11_eq : h1_cst_11 m ρ c = (constant S_ .f32 0x00000000#32) :=
  read_nullary hostOps1_map 49 (.of main_call0_cst_11 : StableHlo.TRef sig ⟨S_, .f32⟩) (constant S_ .f32 0x00000000#32) rfl (by decide +kernel) (W2 m ρ c)
/-- Operation 50 of the stretch. -/
theorem h1_v35_eq : h1_v35 m ρ c = (broadcastInDim S2048 ![] bcast_S_S2048) (h1_cst_11 m ρ c) :=
  read_unary hostOps1_map 50 (.of main_call0_cst_11 : StableHlo.TRef sig ⟨S_, .f32⟩) (.of main_call0_v35 : StableHlo.TRef sig ⟨S2048, .f32⟩) (broadcastInDim S2048 ![] bcast_S_S2048) rfl (by decide +kernel) (by decide +kernel) (W2 m ρ c)
/-- Operation 51 of the stretch. -/
theorem h1_v36_eq : h1_v36 m ρ c = select (h1_v34 m ρ c) (h1_v31 m ρ c) (h1_v35 m ρ c) :=
  read_ternary hostOps1_map 51 (.of main_call0_v34 : StableHlo.TRef sig ⟨S2048, .i1⟩) (.of main_call0_v31 : StableHlo.TRef sig ⟨S2048, .f32⟩) (.of main_call0_v35 : StableHlo.TRef sig ⟨S2048, .f32⟩) (.of main_call0_v36 : StableHlo.TRef sig ⟨S2048, .f32⟩) (select) rfl (by decide +kernel) (by decide +kernel) (by decide +kernel) (by decide +kernel) (W2 m ρ c)
/-- Operation 52 of the stretch. -/
theorem h1_v37_eq : h1_v37 m ρ c = (broadcastInDim S2048x1 ![0] bcast_S2048_S2048x1_0) (h1_v36 m ρ c) :=
  read_unary hostOps1_map 52 (.of main_call0_v36 : StableHlo.TRef sig ⟨S2048, .f32⟩) (.of main_call0_v37 : StableHlo.TRef sig ⟨S2048x1, .f32⟩) (broadcastInDim S2048x1 ![0] bcast_S2048_S2048x1_0) rfl (by decide +kernel) (by decide +kernel) (W2 m ρ c)
/-- Operation 53 of the stretch. -/
theorem h1_v38_eq : h1_v38 m ρ c = (broadcastInDim S2048x16 ![0, 1] bcast_S2048x1_S2048x16_0_1) (h1_v37 m ρ c) :=
  read_unary hostOps1_map 53 (.of main_call0_v37 : StableHlo.TRef sig ⟨S2048x1, .f32⟩) (.of main_call0_v38 : StableHlo.TRef sig ⟨S2048x16, .f32⟩) (broadcastInDim S2048x16 ![0, 1] bcast_S2048x1_S2048x16_0_1) rfl (by decide +kernel) (by decide +kernel) (W2 m ρ c)
/-- Operation 54 of the stretch. -/
theorem h1_v39_eq : h1_v39 m ρ c = subf (h1_v1 m ρ c) (h1_v38 m ρ c) :=
  read_binary hostOps1_map 54 (.of main_call0_v1 : StableHlo.TRef sig ⟨S2048x16, .f32⟩) (.of main_call0_v38 : StableHlo.TRef sig ⟨S2048x16, .f32⟩) (.of main_call0_v39 : StableHlo.TRef sig ⟨S2048x16, .f32⟩) (subf) rfl (by decide +kernel) (by decide +kernel) (by decide +kernel) (W2 m ρ c)
/-- Operation 55 of the stretch. -/
theorem h1_v40_eq : h1_v40 m ρ c = Host.exp (h1_v39 m ρ c) :=
  read_unary hostOps1_map 55 (.of main_call0_v39 : StableHlo.TRef sig ⟨S2048x16, .f32⟩) (.of main_call0_v40 : StableHlo.TRef sig ⟨S2048x16, .f32⟩) (Host.exp) rfl (by decide +kernel) (by decide +kernel) (W2 m ρ c)
/-- Operation 56 of the stretch. -/
theorem h1_cst_12_eq : h1_cst_12 m ρ c = (constant S_ .f32 0x00000000#32) :=
  read_nullary hostOps1_map 56 (.of main_call0_cst_12 : StableHlo.TRef sig ⟨S_, .f32⟩) (constant S_ .f32 0x00000000#32) rfl (by decide +kernel) (W2 m ρ c)
/-- Operation 57 of the stretch. -/
theorem h1_v41_eq : h1_v41 m ρ c = (fun x v => Host.reduceAdd x v reducesTo_S2048x16_S2048_d1 h_S_) (h1_v40 m ρ c) (h1_cst_12 m ρ c) :=
  read_binary hostOps1_map 57 (.of main_call0_v40 : StableHlo.TRef sig ⟨S2048x16, .f32⟩) (.of main_call0_cst_12 : StableHlo.TRef sig ⟨S_, .f32⟩) (.of main_call0_v41 : StableHlo.TRef sig ⟨S2048, .f32⟩) (fun x v => Host.reduceAdd x v reducesTo_S2048x16_S2048_d1 h_S_) rfl (by decide +kernel) (by decide +kernel) (by decide +kernel) (W2 m ρ c)
/-- Operation 58 of the stretch. -/
theorem h1_v42_eq : h1_v42 m ρ c = Host.absf (h1_v41 m ρ c) :=
  read_unary hostOps1_map 58 (.of main_call0_v41 : StableHlo.TRef sig ⟨S2048, .f32⟩) (.of main_call0_v42 : StableHlo.TRef sig ⟨S2048, .f32⟩) (Host.absf) rfl (by decide +kernel) (by decide +kernel) (W2 m ρ c)
/-- Operation 59 of the stretch. -/
theorem h1_v43_eq : h1_v43 m ρ c = Host.log (h1_v42 m ρ c) :=
  read_unary hostOps1_map 59 (.of main_call0_v42 : StableHlo.TRef sig ⟨S2048, .f32⟩) (.of main_call0_v43 : StableHlo.TRef sig ⟨S2048, .f32⟩) (Host.log) rfl (by decide +kernel) (by decide +kernel) (W2 m ρ c)
/-- Operation 60 of the stretch. -/
theorem h1_v44_eq : h1_v44 m ρ c = addf (h1_v43 m ρ c) (h1_v36 m ρ c) :=
  read_binary hostOps1_map 60 (.of main_call0_v43 : StableHlo.TRef sig ⟨S2048, .f32⟩) (.of main_call0_v36 : StableHlo.TRef sig ⟨S2048, .f32⟩) (.of main_call0_v44 : StableHlo.TRef sig ⟨S2048, .f32⟩) (addf) rfl (by decide +kernel) (by decide +kernel) (by decide +kernel) (W2 m ρ c)
/-- Operation 61 of the stretch. -/
theorem h1_v45_eq : h1_v45 m ρ c = mulf (h1_v44 m ρ c) (h1_v44 m ρ c) :=
  read_binary hostOps1_map 61 (.of main_call0_v44 : StableHlo.TRef sig ⟨S2048, .f32⟩) (.of main_call0_v44 : StableHlo.TRef sig ⟨S2048, .f32⟩) (.of main_call0_v45 : StableHlo.TRef sig ⟨S2048, .f32⟩) (mulf) rfl (by decide +kernel) (by decide +kernel) (by decide +kernel) (W2 m ρ c)
/-- Operation 62 of the stretch. -/
theorem h1_cst_13_eq : h1_cst_13 m ρ c = (constant S_ .f32 0x00000000#32) :=
  read_nullary hostOps1_map 62 (.of main_call0_cst_13 : StableHlo.TRef sig ⟨S_, .f32⟩) (constant S_ .f32 0x00000000#32) rfl (by decide +kernel) (W2 m ρ c)
/-- Operation 63 of the stretch. -/
theorem h1_v46_eq : h1_v46 m ρ c = (fun x v => Host.reduceAdd x v reducesTo_S2048_S_d0 h_S_) (h1_v45 m ρ c) (h1_cst_13 m ρ c) :=
  read_binary hostOps1_map 63 (.of main_call0_v45 : StableHlo.TRef sig ⟨S2048, .f32⟩) (.of main_call0_cst_13 : StableHlo.TRef sig ⟨S_, .f32⟩) (.of main_call0_v46 : StableHlo.TRef sig ⟨S_, .f32⟩) (fun x v => Host.reduceAdd x v reducesTo_S2048_S_d0 h_S_) rfl (by decide +kernel) (by decide +kernel) (by decide +kernel) (W2 m ρ c)
/-- Operation 64 of the stretch. -/
theorem h1_cst_14_eq : h1_cst_14 m ρ c = (constant S_ .f32 0x45000000#32) :=
  read_nullary hostOps1_map 64 (.of main_call0_cst_14 : StableHlo.TRef sig ⟨S_, .f32⟩) (constant S_ .f32 0x45000000#32) rfl (by decide +kernel) (W2 m ρ c)
/-- Operation 65 of the stretch. -/
theorem h1_v47_eq : h1_v47 m ρ c = Host.divf (h1_v46 m ρ c) (h1_cst_14 m ρ c) :=
  read_binary hostOps1_map 65 (.of main_call0_v46 : StableHlo.TRef sig ⟨S_, .f32⟩) (.of main_call0_cst_14 : StableHlo.TRef sig ⟨S_, .f32⟩) (.of main_call0_v47 : StableHlo.TRef sig ⟨S_, .f32⟩) (Host.divf) rfl (by decide +kernel) (by decide +kernel) (by decide +kernel) (W2 m ρ c)
/-- Operation 66 of the stretch. -/
theorem h1_cst_15_eq : h1_cst_15 m ρ c = (constant S_ .f32 0x43800000#32) :=
  read_nullary hostOps1_map 66 (.of main_call0_cst_15 : StableHlo.TRef sig ⟨S_, .f32⟩) (constant S_ .f32 0x43800000#32) rfl (by decide +kernel) (W2 m ρ c)
/-- Operation 67 of the stretch. -/
theorem h1_v48_eq : h1_v48 m ρ c = (broadcastInDim S16 ![] bcast_S_S16) (h1_cst_15 m ρ c) :=
  read_unary hostOps1_map 67 (.of main_call0_cst_15 : StableHlo.TRef sig ⟨S_, .f32⟩) (.of main_call0_v48 : StableHlo.TRef sig ⟨S16, .f32⟩) (broadcastInDim S16 ![] bcast_S_S16) rfl (by decide +kernel) (by decide +kernel) (W2 m ρ c)
/-- Operation 68 of the stretch. -/
theorem h1_v49_eq : h1_v49 m ρ c = subf (h1_v22 m ρ c) (h1_v48 m ρ c) :=
  read_binary hostOps1_map 68 (.of main_call0_v22 : StableHlo.TRef sig ⟨S16, .f32⟩) (.of main_call0_v48 : StableHlo.TRef sig ⟨S16, .f32⟩) (.of main_call0_v49 : StableHlo.TRef sig ⟨S16, .f32⟩) (subf) rfl (by decide +kernel) (by decide +kernel) (by decide +kernel) (W2 m ρ c)
/-- Operation 69 of the stretch. -/
theorem h1_cst_16_eq : h1_cst_16 m ρ c = (constant S_ .f32 0x00000000#32) :=
  read_nullary hostOps1_map 69 (.of main_call0_cst_16 : StableHlo.TRef sig ⟨S_, .f32⟩) (constant S_ .f32 0x00000000#32) rfl (by decide +kernel) (W2 m ρ c)
/-- Operation 70 of the stretch. -/
theorem h1_v50_eq : h1_v50 m ρ c = (broadcastInDim S16 ![] bcast_S_S16) (h1_cst_16 m ρ c) :=
  read_unary hostOps1_map 70 (.of main_call0_cst_16 : StableHlo.TRef sig ⟨S_, .f32⟩) (.of main_call0_v50 : StableHlo.TRef sig ⟨S16, .f32⟩) (broadcastInDim S16 ![] bcast_S_S16) rfl (by decide +kernel) (by decide +kernel) (W2 m ρ c)
/-- Operation 71 of the stretch. -/
theorem h1_v51_eq : h1_v51 m ρ c = maximumf (h1_v49 m ρ c) (h1_v50 m ρ c) :=
  read_binary hostOps1_map 71 (.of main_call0_v49 : StableHlo.TRef sig ⟨S16, .f32⟩) (.of main_call0_v50 : StableHlo.TRef sig ⟨S16, .f32⟩) (.of main_call0_v51 : StableHlo.TRef sig ⟨S16, .f32⟩) (maximumf) rfl (by decide +kernel) (by decide +kernel) (by decide +kernel) (W2 m ρ c)
/-- Operation 72 of the stretch. -/
theorem h1_cst_17_eq : h1_cst_17 m ρ c = (constant S_ .f32 0x00000000#32) :=
  read_nullary hostOps1_map 72 (.of main_call0_cst_17 : StableHlo.TRef sig ⟨S_, .f32⟩) (constant S_ .f32 0x00000000#32) rfl (by decide +kernel) (W2 m ρ c)
/-- Operation 73 of the stretch. -/
theorem h1_v52_eq : h1_v52 m ρ c = (fun x v => Host.reduceAdd x v reducesTo_S16_S_d0 h_S_) (h1_v51 m ρ c) (h1_cst_17 m ρ c) :=
  read_binary hostOps1_map 73 (.of main_call0_v51 : StableHlo.TRef sig ⟨S16, .f32⟩) (.of main_call0_cst_17 : StableHlo.TRef sig ⟨S_, .f32⟩) (.of main_call0_v52 : StableHlo.TRef sig ⟨S_, .f32⟩) (fun x v => Host.reduceAdd x v reducesTo_S16_S_d0 h_S_) rfl (by decide +kernel) (by decide +kernel) (by decide +kernel) (W2 m ρ c)
/-- Operation 74 of the stretch. -/
theorem h1_cst_18_eq : h1_cst_18 m ρ c = (constant S_ .f32 0x3C23D70A#32) :=
  read_nullary hostOps1_map 74 (.of main_call0_cst_18 : StableHlo.TRef sig ⟨S_, .f32⟩) (constant S_ .f32 0x3C23D70A#32) rfl (by decide +kernel) (W2 m ρ c)
/-- Operation 75 of the stretch. -/
theorem h1_v53_eq : h1_v53 m ρ c = mulf (h1_cst_18 m ρ c) (h1_v30 m ρ c) :=
  read_binary hostOps1_map 75 (.of main_call0_cst_18 : StableHlo.TRef sig ⟨S_, .f32⟩) (.of main_call0_v30 : StableHlo.TRef sig ⟨S_, .f32⟩) (.of main_call0_v53 : StableHlo.TRef sig ⟨S_, .f32⟩) (mulf) rfl (by decide +kernel) (by decide +kernel) (by decide +kernel) (W2 m ρ c)
/-- Operation 76 of the stretch. -/
theorem h1_cst_19_eq : h1_cst_19 m ρ c = (constant S_ .f32 0x3A83126F#32) :=
  read_nullary hostOps1_map 76 (.of main_call0_cst_19 : StableHlo.TRef sig ⟨S_, .f32⟩) (constant S_ .f32 0x3A83126F#32) rfl (by decide +kernel) (W2 m ρ c)
/-- Operation 77 of the stretch. -/
theorem h1_v54_eq : h1_v54 m ρ c = mulf (h1_cst_19 m ρ c) (h1_v47 m ρ c) :=
  read_binary hostOps1_map 77 (.of main_call0_cst_19 : StableHlo.TRef sig ⟨S_, .f32⟩) (.of main_call0_v47 : StableHlo.TRef sig ⟨S_, .f32⟩) (.of main_call0_v54 : StableHlo.TRef sig ⟨S_, .f32⟩) (mulf) rfl (by decide +kernel) (by decide +kernel) (by decide +kernel) (W2 m ρ c)
/-- Operation 78 of the stretch. -/
theorem h1_v55_eq : h1_v55 m ρ c = addf (h1_v53 m ρ c) (h1_v54 m ρ c) :=
  read_binary hostOps1_map 78 (.of main_call0_v53 : StableHlo.TRef sig ⟨S_, .f32⟩) (.of main_call0_v54 : StableHlo.TRef sig ⟨S_, .f32⟩) (.of main_call0_v55 : StableHlo.TRef sig ⟨S_, .f32⟩) (addf) rfl (by decide +kernel) (by decide +kernel) (by decide +kernel) (W2 m ρ c)
/-- Operation 79 of the stretch. -/
theorem h1_cst_20_eq : h1_cst_20 m ρ c = (constant S_ .f32 0x3A83126F#32) :=
  read_nullary hostOps1_map 79 (.of main_call0_cst_20 : StableHlo.TRef sig ⟨S_, .f32⟩) (constant S_ .f32 0x3A83126F#32) rfl (by decide +kernel) (W2 m ρ c)
/-- Operation 80 of the stretch. -/
theorem h1_v56_eq : h1_v56 m ρ c = mulf (h1_cst_20 m ρ c) (h1_v52 m ρ c) :=
  read_binary hostOps1_map 80 (.of main_call0_cst_20 : StableHlo.TRef sig ⟨S_, .f32⟩) (.of main_call0_v52 : StableHlo.TRef sig ⟨S_, .f32⟩) (.of main_call0_v56 : StableHlo.TRef sig ⟨S_, .f32⟩) (mulf) rfl (by decide +kernel) (by decide +kernel) (by decide +kernel) (W2 m ρ c)
/-- Operation 81 of the stretch. -/
theorem h1_cst_21_eq : h1_cst_21 m ρ c = (constant S_ .f32 0x45000000#32) :=
  read_nullary hostOps1_map 81 (.of main_call0_cst_21 : StableHlo.TRef sig ⟨S_, .f32⟩) (constant S_ .f32 0x45000000#32) rfl (by decide +kernel) (W2 m ρ c)
/-- Operation 82 of the stretch. -/
theorem h1_v57_eq : h1_v57 m ρ c = Host.divf (h1_v56 m ρ c) (h1_cst_21 m ρ c) :=
  read_binary hostOps1_map 82 (.of main_call0_v56 : StableHlo.TRef sig ⟨S_, .f32⟩) (.of main_call0_cst_21 : StableHlo.TRef sig ⟨S_, .f32⟩) (.of main_call0_v57 : StableHlo.TRef sig ⟨S_, .f32⟩) (Host.divf) rfl (by decide +kernel) (by decide +kernel) (by decide +kernel) (W2 m ρ c)
/-- Operation 83 of the stretch. -/
theorem h1_main_v0_1_eq : h1_main_v0_1 m ρ c = addf (h1_v55 m ρ c) (h1_v57 m ρ c) :=
  read_binary hostOps1_map 83 (.of main_call0_v55 : StableHlo.TRef sig ⟨S_, .f32⟩) (.of main_call0_v57 : StableHlo.TRef sig ⟨S_, .f32⟩) (.of main_v0_1 : StableHlo.TRef sig ⟨S_, .f32⟩) (addf) rfl (by decide +kernel) (by decide +kernel) (by decide +kernel) (W2 m ρ c)
/-- Operation 84 of the stretch. -/
theorem h1_v59_eq : h1_v59 m ρ c = Host.negf (h1_v14 m ρ c) :=
  read_unary hostOps1_map 84 (.of main_call0_v14 : StableHlo.TRef sig ⟨S2048, .f32⟩) (.of main_call0_v59 : StableHlo.TRef sig ⟨S2048, .f32⟩) (Host.negf) rfl (by decide +kernel) (by decide +kernel) (W2 m ρ c)
/-- Operation 85 of the stretch. -/
theorem h1_call1_v0_eq : h1_call1_v0 m ρ c = (iotaInDim S2048 32 0) :=
  read_nullary hostOps1_map 85 (.of main_call0_call1_v0 : StableHlo.TRef sig ⟨S2048, .i32⟩) (iotaInDim S2048 32 0) rfl (by decide +kernel) (W2 m ρ c)
/-- Operation 86 of the stretch. -/
theorem h1_call1_v1_0_eq : h1_call1_v1_0 m ρ c = (fun x y z => (Host.sort3 S2048 0 comparator_i32_f32_i32_d0 x y z).1) (h1_v13 m ρ c) (h1_v59 m ρ c) (h1_call1_v0 m ρ c) :=
  read_ternary hostOps1_map 86 (.of main_call0_v13 : StableHlo.TRef sig ⟨S2048, .i32⟩) (.of main_call0_v59 : StableHlo.TRef sig ⟨S2048, .f32⟩) (.of main_call0_call1_v0 : StableHlo.TRef sig ⟨S2048, .i32⟩) (.of main_call0_call1_v1_0 : StableHlo.TRef sig ⟨S2048, .i32⟩) (fun x y z => (Host.sort3 S2048 0 comparator_i32_f32_i32_d0 x y z).1) rfl (by decide +kernel) (by decide +kernel) (by decide +kernel) (by decide +kernel) (W2 m ρ c)
/-- Operation 87 of the stretch. -/
theorem h1_call1_v1_1_eq : h1_call1_v1_1 m ρ c = (fun x y z => (Host.sort3 S2048 0 comparator_i32_f32_i32_d0 x y z).2.1) (h1_v13 m ρ c) (h1_v59 m ρ c) (h1_call1_v0 m ρ c) :=
  read_ternary hostOps1_map 87 (.of main_call0_v13 : StableHlo.TRef sig ⟨S2048, .i32⟩) (.of main_call0_v59 : StableHlo.TRef sig ⟨S2048, .f32⟩) (.of main_call0_call1_v0 : StableHlo.TRef sig ⟨S2048, .i32⟩) (.of main_call0_call1_v1_1 : StableHlo.TRef sig ⟨S2048, .f32⟩) (fun x y z => (Host.sort3 S2048 0 comparator_i32_f32_i32_d0 x y z).2.1) rfl (by decide +kernel) (by decide +kernel) (by decide +kernel) (by decide +kernel) (W2 m ρ c)
/-- Operation 88 of the stretch. -/
theorem h1_v60_eq : h1_v60 m ρ c = (fun x y z => (Host.sort3 S2048 0 comparator_i32_f32_i32_d0 x y z).2.2) (h1_v13 m ρ c) (h1_v59 m ρ c) (h1_call1_v0 m ρ c) :=
  read_ternary hostOps1_map 88 (.of main_call0_v13 : StableHlo.TRef sig ⟨S2048, .i32⟩) (.of main_call0_v59 : StableHlo.TRef sig ⟨S2048, .f32⟩) (.of main_call0_call1_v0 : StableHlo.TRef sig ⟨S2048, .i32⟩) (.of main_call0_v60 : StableHlo.TRef sig ⟨S2048, .i32⟩) (fun x y z => (Host.sort3 S2048 0 comparator_i32_f32_i32_d0 x y z).2.2) rfl (by decide +kernel) (by decide +kernel) (by decide +kernel) (by decide +kernel) (W2 m ρ c)
/-- Operation 89 of the stretch. -/
theorem h1_call2_v0_eq : h1_call2_v0 m ρ c = (iotaInDim S2048 32 0) :=
  read_nullary hostOps1_map 89 (.of main_call0_call2_v0 : StableHlo.TRef sig ⟨S2048, .i32⟩) (iotaInDim S2048 32 0) rfl (by decide +kernel) (W2 m ρ c)
/-- Operation 90 of the stretch. -/
theorem h1_call2_v1_0_eq : h1_call2_v1_0 m ρ c = (fun x y => (Host.sort2 S2048 0 comparator_i32_i32_d0 x y).1) (h1_v60 m ρ c) (h1_call2_v0 m ρ c) :=
  read_binary hostOps1_map 90 (.of main_call0_v60 : StableHlo.TRef sig ⟨S2048, .i32⟩) (.of main_call0_call2_v0 : StableHlo.TRef sig ⟨S2048, .i32⟩) (.of main_call0_call2_v1_0 : StableHlo.TRef sig ⟨S2048, .i32⟩) (fun x y => (Host.sort2 S2048 0 comparator_i32_i32_d0 x y).1) rfl (by decide +kernel) (by decide +kernel) (by decide +kernel) (W2 m ρ c)
/-- Operation 91 of the stretch. -/
theorem h1_v61_eq : h1_v61 m ρ c = (fun x y => (Host.sort2 S2048 0 comparator_i32_i32_d0 x y).2) (h1_v60 m ρ c) (h1_call2_v0 m ρ c) :=
  read_binary hostOps1_map 91 (.of main_call0_v60 : StableHlo.TRef sig ⟨S2048, .i32⟩) (.of main_call0_call2_v0 : StableHlo.TRef sig ⟨S2048, .i32⟩) (.of main_call0_v61 : StableHlo.TRef sig ⟨S2048, .i32⟩) (fun x y => (Host.sort2 S2048 0 comparator_i32_i32_d0 x y).2) rfl (by decide +kernel) (by decide +kernel) (by decide +kernel) (W2 m ρ c)
/-- Operation 92 of the stretch. -/
theorem h1_c_eq : h1_c m ρ c = (constantI S_ 32 0#32) :=
  read_nullary hostOps1_map 92 (.of main_call0_c : StableHlo.TRef sig ⟨S_, .i32⟩) (constantI S_ 32 0#32) rfl (by decide +kernel) (W2 m ρ c)
/-- Operation 93 of the stretch. -/
theorem h1_v62_eq : h1_v62 m ρ c = (broadcastInDim S2048 ![] bcast_S_S2048) (h1_c m ρ c) :=
  read_unary hostOps1_map 93 (.of main_call0_c : StableHlo.TRef sig ⟨S_, .i32⟩) (.of main_call0_v62 : StableHlo.TRef sig ⟨S2048, .i32⟩) (broadcastInDim S2048 ![] bcast_S_S2048) rfl (by decide +kernel) (by decide +kernel) (W2 m ρ c)
/-- Operation 94 of the stretch. -/
theorem h1_v63_eq : h1_v63 m ρ c = (cmpi .slt) (h1_v60 m ρ c) (h1_v62 m ρ c) :=
  read_binary hostOps1_map 94 (.of main_call0_v60 : StableHlo.TRef sig ⟨S2048, .i32⟩) (.of main_call0_v62 : StableHlo.TRef sig ⟨S2048, .i32⟩) (.of main_call0_v63 : StableHlo.TRef sig ⟨S2048, .i1⟩) (cmpi .slt) rfl (by decide +kernel) (by decide +kernel) (by decide +kernel) (W2 m ρ c)
/-- Operation 95 of the stretch. -/
theorem h1_c_22_eq : h1_c_22 m ρ c = (constantI S_ 32 2048#32) :=
  read_nullary hostOps1_map 95 (.of main_call0_c_22 : StableHlo.TRef sig ⟨S_, .i32⟩) (constantI S_ 32 2048#32) rfl (by decide +kernel) (W2 m ρ c)
/-- Operation 96 of the stretch. -/
theorem h1_v64_eq : h1_v64 m ρ c = (broadcastInDim S2048 ![] bcast_S_S2048) (h1_c_22 m ρ c) :=
  read_unary hostOps1_map 96 (.of main_call0_c_22 : StableHlo.TRef sig ⟨S_, .i32⟩) (.of main_call0_v64 : StableHlo.TRef sig ⟨S2048, .i32⟩) (broadcastInDim S2048 ![] bcast_S_S2048) rfl (by decide +kernel) (by decide +kernel) (W2 m ρ c)
/-- Operation 97 of the stretch. -/
theorem h1_v65_eq : h1_v65 m ρ c = addi (h1_v60 m ρ c) (h1_v64 m ρ c) :=
  read_binary hostOps1_map 97 (.of main_call0_v60 : StableHlo.TRef sig ⟨S2048, .i32⟩) (.of main_call0_v64 : StableHlo.TRef sig ⟨S2048, .i32⟩) (.of main_call0_v65 : StableHlo.TRef sig ⟨S2048, .i32⟩) (addi) rfl (by decide +kernel) (by decide +kernel) (by decide +kernel) (W2 m ρ c)
/-- Operation 98 of the stretch. -/
theorem h1_v66_eq : h1_v66 m ρ c = select (h1_v63 m ρ c) (h1_v65 m ρ c) (h1_v60 m ρ c) :=
  read_ternary hostOps1_map 98 (.of main_call0_v63 : StableHlo.TRef sig ⟨S2048, .i1⟩) (.of main_call0_v65 : StableHlo.TRef sig ⟨S2048, .i32⟩) (.of main_call0_v60 : StableHlo.TRef sig ⟨S2048, .i32⟩) (.of main_call0_v66 : StableHlo.TRef sig ⟨S2048, .i32⟩) (select) rfl (by decide +kernel) (by decide +kernel) (by decide +kernel) (by decide +kernel) (W2 m ρ c)
/-- Operation 99 of the stretch. -/
theorem h1_v67_eq : h1_v67 m ρ c = (broadcastInDim S2048x1 ![0] bcast_S2048_S2048x1_0) (h1_v66 m ρ c) :=
  read_unary hostOps1_map 99 (.of main_call0_v66 : StableHlo.TRef sig ⟨S2048, .i32⟩) (.of main_call0_v67 : StableHlo.TRef sig ⟨S2048x1, .i32⟩) (broadcastInDim S2048x1 ![0] bcast_S2048_S2048x1_0) rfl (by decide +kernel) (by decide +kernel) (W2 m ρ c)
/-- Operation 100 of the stretch. -/
theorem h1_v68_eq : h1_v68 m ρ c = (fun x i => Host.gather gather_S2048_S2048x1_S2048_n_0_n_n_0_1_1 x i) (h1_v13 m ρ c) (h1_v67 m ρ c) :=
  read_binary hostOps1_map 100 (.of main_call0_v13 : StableHlo.TRef sig ⟨S2048, .i32⟩) (.of main_call0_v67 : StableHlo.TRef sig ⟨S2048x1, .i32⟩) (.of main_call0_v68 : StableHlo.TRef sig ⟨S2048, .i32⟩) (fun x i => Host.gather gather_S2048_S2048x1_S2048_n_0_n_n_0_1_1 x i) rfl (by decide +kernel) (by decide +kernel) (by decide +kernel) (W2 m ρ c)
/-- Operation 101 of the stretch. -/
theorem h1_v69_eq : h1_v69 m ρ c = (fptosi 32) (h1_v22 m ρ c) :=
  read_unary hostOps1_map 101 (.of main_call0_v22 : StableHlo.TRef sig ⟨S16, .f32⟩) (.of main_call0_v69 : StableHlo.TRef sig ⟨S16, .i32⟩) (fptosi 32) rfl (by decide +kernel) (by decide +kernel) (W2 m ρ c)
/-- Operation 102 of the stretch. -/
theorem h1_call3_call0_c_eq : h1_call3_call0_c m ρ c = (constantI S_ 32 0#32) :=
  read_nullary hostOps1_map 102 (.of main_call0_call3_call0_c : StableHlo.TRef sig ⟨S_, .i32⟩) (constantI S_ 32 0#32) rfl (by decide +kernel) (W2 m ρ c)
/-- Operation 103 of the stretch. -/
theorem h1_call3_call0_v0_eq : h1_call3_call0_v0 m ρ c = (broadcastInDim S_ ![] bcast_S_S_) (h1_call3_call0_c m ρ c) :=
  read_unary hostOps1_map 103 (.of main_call0_call3_call0_c : StableHlo.TRef sig ⟨S_, .i32⟩) (.of main_call0_call3_call0_v0 : StableHlo.TRef sig ⟨S_, .i32⟩) (broadcastInDim S_ ![] bcast_S_S_) rfl (by decide +kernel) (by decide +kernel) (W2 m ρ c)
/-- The running sums of sixteen words. -/
def runningSum (x : IVec S16 32) (v : IVec S_ 32) : IVec S16 32 :=
  Host.reduceWindow IntOp.addi ![16] ![1] ![15] ![0] x v reduceWindows_S16_S16_w16s1p15_0 h_S_

/-- Operation 104 of the stretch. -/
theorem h1_v70_eq : h1_v70 m ρ c = runningSum (h1_v69 m ρ c) (h1_call3_call0_v0 m ρ c) :=
  read_binary hostOps1_map 104 (.of main_call0_v69 : StableHlo.TRef sig ⟨S16, .i32⟩) (.of main_call0_call3_call0_v0 : StableHlo.TRef sig ⟨S_, .i32⟩) (.of main_call0_v70 : StableHlo.TRef sig ⟨S16, .i32⟩) (runningSum) rfl (by decide +kernel) (by decide +kernel) (by decide +kernel) (W2 m ρ c)
/-- Operation 105 of the stretch. -/
theorem h1_v71_eq : h1_v71 m ρ c = subi (h1_v70 m ρ c) (h1_v69 m ρ c) :=
  read_binary hostOps1_map 105 (.of main_call0_v70 : StableHlo.TRef sig ⟨S16, .i32⟩) (.of main_call0_v69 : StableHlo.TRef sig ⟨S16, .i32⟩) (.of main_call0_v71 : StableHlo.TRef sig ⟨S16, .i32⟩) (subi) rfl (by decide +kernel) (by decide +kernel) (by decide +kernel) (W2 m ρ c)
/-- Operation 106 of the stretch. -/
theorem h1_v72_eq : h1_v72 m ρ c = (iotaInDim S2048 32 0) :=
  read_nullary hostOps1_map 106 (.of main_call0_v72 : StableHlo.TRef sig ⟨S2048, .i32⟩) (iotaInDim S2048 32 0) rfl (by decide +kernel) (W2 m ρ c)
/-- Operation 107 of the stretch. -/
theorem h1_c_23_eq : h1_c_23 m ρ c = (constantI S_ 32 0#32) :=
  read_nullary hostOps1_map 107 (.of main_call0_c_23 : StableHlo.TRef sig ⟨S_, .i32⟩) (constantI S_ 32 0#32) rfl (by decide +kernel) (W2 m ρ c)
/-- Operation 108 of the stretch. -/
theorem h1_v73_eq : h1_v73 m ρ c = (broadcastInDim S2048 ![] bcast_S_S2048) (h1_c_23 m ρ c) :=
  read_unary hostOps1_map 108 (.of main_call0_c_23 : StableHlo.TRef sig ⟨S_, .i32⟩) (.of main_call0_v73 : StableHlo.TRef sig ⟨S2048, .i32⟩) (broadcastInDim S2048 ![] bcast_S_S2048) rfl (by decide +kernel) (by decide +kernel) (W2 m ρ c)
/-- Operation 109 of the stretch. -/
theorem h1_v74_eq : h1_v74 m ρ c = (cmpi .slt) (h1_v68 m ρ c) (h1_v73 m ρ c) :=
  read_binary hostOps1_map 109 (.of main_call0_v68 : StableHlo.TRef sig ⟨S2048, .i32⟩) (.of main_call0_v73 : StableHlo.TRef sig ⟨S2048, .i32⟩) (.of main_call0_v74 : StableHlo.TRef sig ⟨S2048, .i1⟩) (cmpi .slt) rfl (by decide +kernel) (by decide +kernel) (by decide +kernel) (W2 m ρ c)
/-- Operation 110 of the stretch. -/
theorem h1_c_24_eq : h1_c_24 m ρ c = (constantI S_ 32 16#32) :=
  read_nullary hostOps1_map 110 (.of main_call0_c_24 : StableHlo.TRef sig ⟨S_, .i32⟩) (constantI S_ 32 16#32) rfl (by decide +kernel) (W2 m ρ c)
/-- Operation 111 of the stretch. -/
theorem h1_v75_eq : h1_v75 m ρ c = (broadcastInDim S2048 ![] bcast_S_S2048) (h1_c_24 m ρ c) :=
  read_unary hostOps1_map 111 (.of main_call0_c_24 : StableHlo.TRef sig ⟨S_, .i32⟩) (.of main_call0_v75 : StableHlo.TRef sig ⟨S2048, .i32⟩) (broadcastInDim S2048 ![] bcast_S_S2048) rfl (by decide +kernel) (by decide +kernel) (W2 m ρ c)
/-- Operation 112 of the stretch. -/
theorem h1_v76_eq : h1_v76 m ρ c = addi (h1_v68 m ρ c) (h1_v75 m ρ c) :=
  read_binary hostOps1_map 112 (.of main_call0_v68 : StableHlo.TRef sig ⟨S2048, .i32⟩) (.of main_call0_v75 : StableHlo.TRef sig ⟨S2048, .i32⟩) (.of main_call0_v76 : StableHlo.TRef sig ⟨S2048, .i32⟩) (addi) rfl (by decide +kernel) (by decide +kernel) (by decide +kernel) (W2 m ρ c)
/-- Operation 113 of the stretch. -/
theorem h1_v77_eq : h1_v77 m ρ c = select (h1_v74 m ρ c) (h1_v76 m ρ c) (h1_v68 m ρ c) :=
  read_ternary hostOps1_map 113 (.of main_call0_v74 : StableHlo.TRef sig ⟨S2048, .i1⟩) (.of main_call0_v76 : StableHlo.TRef sig ⟨S2048, .i32⟩) (.of main_call0_v68 : StableHlo.TRef sig ⟨S2048, .i32⟩) (.of main_call0_v77 : StableHlo.TRef sig ⟨S2048, .i32⟩) (select) rfl (by decide +kernel) (by decide +kernel) (by decide +kernel) (by decide +kernel) (W2 m ρ c)
/-- Operation 114 of the stretch. -/
theorem h1_v78_eq : h1_v78 m ρ c = (broadcastInDim S2048x1 ![0] bcast_S2048_S2048x1_0) (h1_v77 m ρ c) :=
  read_unary hostOps1_map 114 (.of main_call0_v77 : StableHlo.TRef sig ⟨S2048, .i32⟩) (.of main_call0_v78 : StableHlo.TRef sig ⟨S2048x1, .i32⟩) (broadcastInDim S2048x1 ![0] bcast_S2048_S2048x1_0) rfl (by decide +kernel) (by decide +kernel) (W2 m ρ c)
/-- Operation 115 of the stretch. -/
theorem h1_v79_eq : h1_v79 m ρ c = (fun x i => Host.gather gather_S16_S2048x1_S2048_n_0_n_n_0_1_1 x i) (h1_v71 m ρ c) (h1_v78 m ρ c) :=
  read_binary hostOps1_map 115 (.of main_call0_v71 : StableHlo.TRef sig ⟨S16, .i32⟩) (.of main_call0_v78 : StableHlo.TRef sig ⟨S2048x1, .i32⟩) (.of main_call0_v79 : StableHlo.TRef sig ⟨S2048, .i32⟩) (fun x i => Host.gather gather_S16_S2048x1_S2048_n_0_n_n_0_1_1 x i) rfl (by decide +kernel) (by decide +kernel) (by decide +kernel) (W2 m ρ c)
/-- Operation 116 of the stretch. -/
theorem h1_v80_eq : h1_v80 m ρ c = subi (h1_v72 m ρ c) (h1_v79 m ρ c) :=
  read_binary hostOps1_map 116 (.of main_call0_v72 : StableHlo.TRef sig ⟨S2048, .i32⟩) (.of main_call0_v79 : StableHlo.TRef sig ⟨S2048, .i32⟩) (.of main_call0_v80 : StableHlo.TRef sig ⟨S2048, .i32⟩) (subi) rfl (by decide +kernel) (by decide +kernel) (by decide +kernel) (W2 m ρ c)
/-- Operation 117 of the stretch. -/
theorem h1_c_25_eq : h1_c_25 m ρ c = (constantI S_ 32 256#32) :=
  read_nullary hostOps1_map 117 (.of main_call0_c_25 : StableHlo.TRef sig ⟨S_, .i32⟩) (constantI S_ 32 256#32) rfl (by decide +kernel) (W2 m ρ c)
/-- Operation 118 of the stretch. -/
theorem h1_v81_eq : h1_v81 m ρ c = (broadcastInDim S2048 ![] bcast_S_S2048) (h1_c_25 m ρ c) :=
  read_unary hostOps1_map 118 (.of main_call0_c_25 : StableHlo.TRef sig ⟨S_, .i32⟩) (.of main_call0_v81 : StableHlo.TRef sig ⟨S2048, .i32⟩) (broadcastInDim S2048 ![] bcast_S_S2048) rfl (by decide +kernel) (by decide +kernel) (W2 m ρ c)
/-- Operation 119 of the stretch. -/
theorem h1_v82_eq : h1_v82 m ρ c = (cmpi .slt) (h1_v80 m ρ c) (h1_v81 m ρ c) :=
  read_binary hostOps1_map 119 (.of main_call0_v80 : StableHlo.TRef sig ⟨S2048, .i32⟩) (.of main_call0_v81 : StableHlo.TRef sig ⟨S2048, .i32⟩) (.of main_call0_v82 : StableHlo.TRef sig ⟨S2048, .i1⟩) (cmpi .slt) rfl (by decide +kernel) (by decide +kernel) (by decide +kernel) (W2 m ρ c)
/-- Operation 120 of the stretch. -/
theorem h1_v83_eq : h1_v83 m ρ c = (uitofp .f32) (h1_v82 m ρ c) :=
  read_unary hostOps1_map 120 (.of main_call0_v82 : StableHlo.TRef sig ⟨S2048, .i1⟩) (.of main_call0_v83 : StableHlo.TRef sig ⟨S2048, .f32⟩) (uitofp .f32) rfl (by decide +kernel) (by decide +kernel) (W2 m ρ c)
/-- Operation 121 of the stretch. -/
theorem h1_c_26_eq : h1_c_26 m ρ c = (constantI S_ 32 256#32) :=
  read_nullary hostOps1_map 121 (.of main_call0_c_26 : StableHlo.TRef sig ⟨S_, .i32⟩) (constantI S_ 32 256#32) rfl (by decide +kernel) (W2 m ρ c)
/-- Operation 122 of the stretch. -/
theorem h1_v84_eq : h1_v84 m ρ c = (broadcastInDim S2048 ![] bcast_S_S2048) (h1_c_26 m ρ c) :=
  read_unary hostOps1_map 122 (.of main_call0_c_26 : StableHlo.TRef sig ⟨S_, .i32⟩) (.of main_call0_v84 : StableHlo.TRef sig ⟨S2048, .i32⟩) (broadcastInDim S2048 ![] bcast_S_S2048) rfl (by decide +kernel) (by decide +kernel) (W2 m ρ c)
/-- Operation 123 of the stretch. -/
theorem h1_v85_eq : h1_v85 m ρ c = muli (h1_v68 m ρ c) (h1_v84 m ρ c) :=
  read_binary hostOps1_map 123 (.of main_call0_v68 : StableHlo.TRef sig ⟨S2048, .i32⟩) (.of main_call0_v84 : StableHlo.TRef sig ⟨S2048, .i32⟩) (.of main_call0_v85 : StableHlo.TRef sig ⟨S2048, .i32⟩) (muli) rfl (by decide +kernel) (by decide +kernel) (by decide +kernel) (W2 m ρ c)
/-- Operation 124 of the stretch. -/
theorem h1_c_27_eq : h1_c_27 m ρ c = (constantI S_ 32 0#32) :=
  read_nullary hostOps1_map 124 (.of main_call0_c_27 : StableHlo.TRef sig ⟨S_, .i32⟩) (constantI S_ 32 0#32) rfl (by decide +kernel) (W2 m ρ c)
/-- Operation 125 of the stretch. -/
theorem h1_c_28_eq : h1_c_28 m ρ c = (constantI S_ 32 255#32) :=
  read_nullary hostOps1_map 125 (.of main_call0_c_28 : StableHlo.TRef sig ⟨S_, .i32⟩) (constantI S_ 32 255#32) rfl (by decide +kernel) (W2 m ρ c)
/-- Operation 126 of the stretch. -/
theorem h1_call4_v0_eq : h1_call4_v0 m ρ c = id (h1_c_27 m ρ c) :=
  read_unary hostOps1_map 126 (.of main_call0_c_27 : StableHlo.TRef sig ⟨S_, .i32⟩) (.of main_call0_call4_v0 : StableHlo.TRef sig ⟨S_, .i32⟩) (id) rfl (by decide +kernel) (by decide +kernel) (W2 m ρ c)
/-- Operation 127 of the stretch. -/
theorem h1_call4_v1_eq : h1_call4_v1 m ρ c = (broadcastInDim S2048 ![] bcast_S_S2048) (h1_call4_v0 m ρ c) :=
  read_unary hostOps1_map 127 (.of main_call0_call4_v0 : StableHlo.TRef sig ⟨S_, .i32⟩) (.of main_call0_call4_v1 : StableHlo.TRef sig ⟨S2048, .i32⟩) (broadcastInDim S2048 ![] bcast_S_S2048) rfl (by decide +kernel) (by decide +kernel) (W2 m ρ c)
/-- Operation 128 of the stretch. -/
theorem h1_call4_v2_eq : h1_call4_v2 m ρ c = maxsi (h1_call4_v1 m ρ c) (h1_v80 m ρ c) :=
  read_binary hostOps1_map 128 (.of main_call0_call4_v1 : StableHlo.TRef sig ⟨S2048, .i32⟩) (.of main_call0_v80 : StableHlo.TRef sig ⟨S2048, .i32⟩) (.of main_call0_call4_v2 : StableHlo.TRef sig ⟨S2048, .i32⟩) (maxsi) rfl (by decide +kernel) (by decide +kernel) (by decide +kernel) (W2 m ρ c)
/-- Operation 129 of the stretch. -/
theorem h1_call4_v3_eq : h1_call4_v3 m ρ c = id (h1_c_28 m ρ c) :=
  read_unary hostOps1_map 129 (.of main_call0_c_28 : StableHlo.TRef sig ⟨S_, .i32⟩) (.of main_call0_call4_v3 : StableHlo.TRef sig ⟨S_, .i32⟩) (id) rfl (by decide +kernel) (by decide +kernel) (W2 m ρ c)
/-- Operation 130 of the stretch. -/
theorem h1_call4_v4_eq : h1_call4_v4 m ρ c = (broadcastInDim S2048 ![] bcast_S_S2048) (h1_call4_v3 m ρ c) :=
  read_unary hostOps1_map 130 (.of main_call0_call4_v3 : StableHlo.TRef sig ⟨S_, .i32⟩) (.of main_call0_call4_v4 : StableHlo.TRef sig ⟨S2048, .i32⟩) (broadcastInDim S2048 ![] bcast_S_S2048) rfl (by decide +kernel) (by decide +kernel) (W2 m ρ c)
/-- Operation 131 of the stretch. -/
theorem h1_v86_eq : h1_v86 m ρ c = minsi (h1_call4_v4 m ρ c) (h1_call4_v2 m ρ c) :=
  read_binary hostOps1_map 131 (.of main_call0_call4_v4 : StableHlo.TRef sig ⟨S2048, .i32⟩) (.of main_call0_call4_v2 : StableHlo.TRef sig ⟨S2048, .i32⟩) (.of main_call0_v86 : StableHlo.TRef sig ⟨S2048, .i32⟩) (minsi) rfl (by decide +kernel) (by decide +kernel) (by decide +kernel) (W2 m ρ c)
/-- Operation 132 of the stretch. -/
theorem h1_v87_eq : h1_v87 m ρ c = addi (h1_v85 m ρ c) (h1_v86 m ρ c) :=
  read_binary hostOps1_map 132 (.of main_call0_v85 : StableHlo.TRef sig ⟨S2048, .i32⟩) (.of main_call0_v86 : StableHlo.TRef sig ⟨S2048, .i32⟩) (.of main_call0_v87 : StableHlo.TRef sig ⟨S2048, .i32⟩) (addi) rfl (by decide +kernel) (by decide +kernel) (by decide +kernel) (W2 m ρ c)
/-- Operation 133 of the stretch. -/
theorem h1_v88_eq : h1_v88 m ρ c = (iotaInDim S256 32 0) :=
  read_nullary hostOps1_map 133 (.of main_call0_v88 : StableHlo.TRef sig ⟨S256, .i32⟩) (iotaInDim S256 32 0) rfl (by decide +kernel) (W2 m ρ c)
/-- Operation 134 of the stretch. -/
theorem h1_v89_eq : h1_v89 m ρ c = (broadcastInDim S1x256 ![1] bcast_S256_S1x256_1) (h1_v88 m ρ c) :=
  read_unary hostOps1_map 134 (.of main_call0_v88 : StableHlo.TRef sig ⟨S256, .i32⟩) (.of main_call0_v89 : StableHlo.TRef sig ⟨S1x256, .i32⟩) (broadcastInDim S1x256 ![1] bcast_S256_S1x256_1) rfl (by decide +kernel) (by decide +kernel) (W2 m ρ c)
/-- Operation 135 of the stretch. -/
theorem h1_v90_eq : h1_v90 m ρ c = (broadcastInDim S16x1 ![0] bcast_S16_S16x1_0) (h1_v71 m ρ c) :=
  read_unary hostOps1_map 135 (.of main_call0_v71 : StableHlo.TRef sig ⟨S16, .i32⟩) (.of main_call0_v90 : StableHlo.TRef sig ⟨S16x1, .i32⟩) (broadcastInDim S16x1 ![0] bcast_S16_S16x1_0) rfl (by decide +kernel) (by decide +kernel) (W2 m ρ c)
/-- Operation 136 of the stretch. -/
theorem h1_v91_eq : h1_v91 m ρ c = (broadcastInDim S16x256 ![0, 1] bcast_S16x1_S16x256_0_1) (h1_v90 m ρ c) :=
  read_unary hostOps1_map 136 (.of main_call0_v90 : StableHlo.TRef sig ⟨S16x1, .i32⟩) (.of main_call0_v91 : StableHlo.TRef sig ⟨S16x256, .i32⟩) (broadcastInDim S16x256 ![0, 1] bcast_S16x1_S16x256_0_1) rfl (by decide +kernel) (by decide +kernel) (W2 m ρ c)
/-- Operation 137 of the stretch. -/
theorem h1_v92_eq : h1_v92 m ρ c = (broadcastInDim S16x256 ![0, 1] bcast_S1x256_S16x256_0_1) (h1_v89 m ρ c) :=
  read_unary hostOps1_map 137 (.of main_call0_v89 : StableHlo.TRef sig ⟨S1x256, .i32⟩) (.of main_call0_v92 : StableHlo.TRef sig ⟨S16x256, .i32⟩) (broadcastInDim S16x256 ![0, 1] bcast_S1x256_S16x256_0_1) rfl (by decide +kernel) (by decide +kernel) (W2 m ρ c)
/-- Operation 138 of the stretch. -/
theorem h1_v93_eq : h1_v93 m ρ c = addi (h1_v91 m ρ c) (h1_v92 m ρ c) :=
  read_binary hostOps1_map 138 (.of main_call0_v91 : StableHlo.TRef sig ⟨S16x256, .i32⟩) (.of main_call0_v92 : StableHlo.TRef sig ⟨S16x256, .i32⟩) (.of main_call0_v93 : StableHlo.TRef sig ⟨S16x256, .i32⟩) (addi) rfl (by decide +kernel) (by decide +kernel) (by decide +kernel) (W2 m ρ c)
/-- Operation 139 of the stretch. -/
theorem h1_c_29_eq : h1_c_29 m ρ c = (constantI S_ 32 0#32) :=
  read_nullary hostOps1_map 139 (.of main_call0_c_29 : StableHlo.TRef sig ⟨S_, .i32⟩) (constantI S_ 32 0#32) rfl (by decide +kernel) (W2 m ρ c)
/-- Operation 140 of the stretch. -/
theorem h1_c_30_eq : h1_c_30 m ρ c = (constantI S_ 32 2047#32) :=
  read_nullary hostOps1_map 140 (.of main_call0_c_30 : StableHlo.TRef sig ⟨S_, .i32⟩) (constantI S_ 32 2047#32) rfl (by decide +kernel) (W2 m ρ c)
/-- Operation 141 of the stretch. -/
theorem h1_call5_v0_eq : h1_call5_v0 m ρ c = id (h1_c_29 m ρ c) :=
  read_unary hostOps1_map 141 (.of main_call0_c_29 : StableHlo.TRef sig ⟨S_, .i32⟩) (.of main_call0_call5_v0 : StableHlo.TRef sig ⟨S_, .i32⟩) (id) rfl (by decide +kernel) (by decide +kernel) (W2 m ρ c)
/-- Operation 142 of the stretch. -/
theorem h1_call5_v1_eq : h1_call5_v1 m ρ c = (broadcastInDim S16x256 ![] bcast_S_S16x256) (h1_call5_v0 m ρ c) :=
  read_unary hostOps1_map 142 (.of main_call0_call5_v0 : StableHlo.TRef sig ⟨S_, .i32⟩) (.of main_call0_call5_v1 : StableHlo.TRef sig ⟨S16x256, .i32⟩) (broadcastInDim S16x256 ![] bcast_S_S16x256) rfl (by decide +kernel) (by decide +kernel) (W2 m ρ c)
/-- Operation 143 of the stretch. -/
theorem h1_call5_v2_eq : h1_call5_v2 m ρ c = maxsi (h1_call5_v1 m ρ c) (h1_v93 m ρ c) :=
  read_binary hostOps1_map 143 (.of main_call0_call5_v1 : StableHlo.TRef sig ⟨S16x256, .i32⟩) (.of main_call0_v93 : StableHlo.TRef sig ⟨S16x256, .i32⟩) (.of main_call0_call5_v2 : StableHlo.TRef sig ⟨S16x256, .i32⟩) (maxsi) rfl (by decide +kernel) (by decide +kernel) (by decide +kernel) (W2 m ρ c)
/-- Operation 144 of the stretch. -/
theorem h1_call5_v3_eq : h1_call5_v3 m ρ c = id (h1_c_30 m ρ c) :=
  read_unary hostOps1_map 144 (.of main_call0_c_30 : StableHlo.TRef sig ⟨S_, .i32⟩) (.of main_call0_call5_v3 : StableHlo.TRef sig ⟨S_, .i32⟩) (id) rfl (by decide +kernel) (by decide +kernel) (W2 m ρ c)
/-- Operation 145 of the stretch. -/
theorem h1_call5_v4_eq : h1_call5_v4 m ρ c = (broadcastInDim S16x256 ![] bcast_S_S16x256) (h1_call5_v3 m ρ c) :=
  read_unary hostOps1_map 145 (.of main_call0_call5_v3 : StableHlo.TRef sig ⟨S_, .i32⟩) (.of main_call0_call5_v4 : StableHlo.TRef sig ⟨S16x256, .i32⟩) (broadcastInDim S16x256 ![] bcast_S_S16x256) rfl (by decide +kernel) (by decide +kernel) (W2 m ρ c)
/-- Operation 146 of the stretch. -/
theorem h1_v94_eq : h1_v94 m ρ c = minsi (h1_call5_v4 m ρ c) (h1_call5_v2 m ρ c) :=
  read_binary hostOps1_map 146 (.of main_call0_call5_v4 : StableHlo.TRef sig ⟨S16x256, .i32⟩) (.of main_call0_call5_v2 : StableHlo.TRef sig ⟨S16x256, .i32⟩) (.of main_call0_v94 : StableHlo.TRef sig ⟨S16x256, .i32⟩) (minsi) rfl (by decide +kernel) (by decide +kernel) (by decide +kernel) (W2 m ρ c)
/-- Operation 147 of the stretch. -/
theorem h1_c_31_eq : h1_c_31 m ρ c = (constantI S_ 32 0#32) :=
  read_nullary hostOps1_map 147 (.of main_call0_c_31 : StableHlo.TRef sig ⟨S_, .i32⟩) (constantI S_ 32 0#32) rfl (by decide +kernel) (W2 m ρ c)
/-- Operation 148 of the stretch. -/
theorem h1_v95_eq : h1_v95 m ρ c = (broadcastInDim S16x256 ![] bcast_S_S16x256) (h1_c_31 m ρ c) :=
  read_unary hostOps1_map 148 (.of main_call0_c_31 : StableHlo.TRef sig ⟨S_, .i32⟩) (.of main_call0_v95 : StableHlo.TRef sig ⟨S16x256, .i32⟩) (broadcastInDim S16x256 ![] bcast_S_S16x256) rfl (by decide +kernel) (by decide +kernel) (W2 m ρ c)
/-- Operation 149 of the stretch. -/
theorem h1_v96_eq : h1_v96 m ρ c = (cmpi .slt) (h1_v94 m ρ c) (h1_v95 m ρ c) :=
  read_binary hostOps1_map 149 (.of main_call0_v94 : StableHlo.TRef sig ⟨S16x256, .i32⟩) (.of main_call0_v95 : StableHlo.TRef sig ⟨S16x256, .i32⟩) (.of main_call0_v96 : StableHlo.TRef sig ⟨S16x256, .i1⟩) (cmpi .slt) rfl (by decide +kernel) (by decide +kernel) (by decide +kernel) (W2 m ρ c)
/-- Operation 150 of the stretch. -/
theorem h1_c_32_eq : h1_c_32 m ρ c = (constantI S_ 32 2048#32) :=
  read_nullary hostOps1_map 150 (.of main_call0_c_32 : StableHlo.TRef sig ⟨S_, .i32⟩) (constantI S_ 32 2048#32) rfl (by decide +kernel) (W2 m ρ c)
/-- Operation 151 of the stretch. -/
theorem h1_v97_eq : h1_v97 m ρ c = (broadcastInDim S16x256 ![] bcast_S_S16x256) (h1_c_32 m ρ c) :=
  read_unary hostOps1_map 151 (.of main_call0_c_32 : StableHlo.TRef sig ⟨S_, .i32⟩) (.of main_call0_v97 : StableHlo.TRef sig ⟨S16x256, .i32⟩) (broadcastInDim S16x256 ![] bcast_S_S16x256) rfl (by decide +kernel) (by decide +kernel) (W2 m ρ c)
/-- Operation 152 of the stretch. -/
theorem h1_v98_eq : h1_v98 m ρ c = addi (h1_v94 m ρ c) (h1_v97 m ρ c) :=
  read_binary hostOps1_map 152 (.of main_call0_v94 : StableHlo.TRef sig ⟨S16x256, .i32⟩) (.of main_call0_v97 : StableHlo.TRef sig ⟨S16x256, .i32⟩) (.of main_call0_v98 : StableHlo.TRef sig ⟨S16x256, .i32⟩) (addi) rfl (by decide +kernel) (by decide +kernel) (by decide +kernel) (W2 m ρ c)
/-- Operation 153 of the stretch. -/
theorem h1_v99_eq : h1_v99 m ρ c = select (h1_v96 m ρ c) (h1_v98 m ρ c) (h1_v94 m ρ c) :=
  read_ternary hostOps1_map 153 (.of main_call0_v96 : StableHlo.TRef sig ⟨S16x256, .i1⟩) (.of main_call0_v98 : StableHlo.TRef sig ⟨S16x256, .i32⟩) (.of main_call0_v94 : StableHlo.TRef sig ⟨S16x256, .i32⟩) (.of main_call0_v99 : StableHlo.TRef sig ⟨S16x256, .i32⟩) (select) rfl (by decide +kernel) (by decide +kernel) (by decide +kernel) (by decide +kernel) (W2 m ρ c)
/-- Operation 154 of the stretch. -/
theorem h1_v100_eq : h1_v100 m ρ c = (broadcastInDim S16x256x1 ![0, 1] bcast_S16x256_S16x256x1_0_1) (h1_v99 m ρ c) :=
  read_unary hostOps1_map 154 (.of main_call0_v99 : StableHlo.TRef sig ⟨S16x256, .i32⟩) (.of main_call0_v100 : StableHlo.TRef sig ⟨S16x256x1, .i32⟩) (broadcastInDim S16x256x1 ![0, 1] bcast_S16x256_S16x256x1_0_1) rfl (by decide +kernel) (by decide +kernel) (W2 m ρ c)
/-- Operation 155 of the stretch. -/
theorem h1_v101_eq : h1_v101 m ρ c = (fun x i => Host.gather gather_S2048_S16x256x1_S16x256_n_0_n_n_0_2_1 x i) (h1_v60 m ρ c) (h1_v100 m ρ c) :=
  read_binary hostOps1_map 155 (.of main_call0_v60 : StableHlo.TRef sig ⟨S2048, .i32⟩) (.of main_call0_v100 : StableHlo.TRef sig ⟨S16x256x1, .i32⟩) (.of main_call0_v101 : StableHlo.TRef sig ⟨S16x256, .i32⟩) (fun x i => Host.gather gather_S2048_S16x256x1_S16x256_n_0_n_n_0_2_1 x i) rfl (by decide +kernel) (by decide +kernel) (by decide +kernel) (W2 m ρ c)
/-- Operation 156 of the stretch. -/
theorem h1_v102_eq : h1_v102 m ρ c = shapeCast S4096 (h1_v101 m ρ c) shapeCasts_S16x256_S4096 :=
  read_reshape hostOps1_map 156 main_call0_v101 main_call0_v102 rfl _ _ _ rfl (by decide +kernel) (by decide +kernel) (W2 m ρ c)
/-- Operation 157 of the stretch. -/
theorem h1_c_33_eq : h1_c_33 m ρ c = (constantI S_ 32 0#32) :=
  read_nullary hostOps1_map 157 (.of main_call0_c_33 : StableHlo.TRef sig ⟨S_, .i32⟩) (constantI S_ 32 0#32) rfl (by decide +kernel) (W2 m ρ c)
/-- Operation 158 of the stretch. -/
theorem h1_v103_eq : h1_v103 m ρ c = (broadcastInDim S4096 ![] bcast_S_S4096) (h1_c_33 m ρ c) :=
  read_unary hostOps1_map 158 (.of main_call0_c_33 : StableHlo.TRef sig ⟨S_, .i32⟩) (.of main_call0_v103 : StableHlo.TRef sig ⟨S4096, .i32⟩) (broadcastInDim S4096 ![] bcast_S_S4096) rfl (by decide +kernel) (by decide +kernel) (W2 m ρ c)
/-- Operation 159 of the stretch. -/
theorem h1_v104_eq : h1_v104 m ρ c = (cmpi .slt) (h1_v102 m ρ c) (h1_v103 m ρ c) :=
  read_binary hostOps1_map 159 (.of main_call0_v102 : StableHlo.TRef sig ⟨S4096, .i32⟩) (.of main_call0_v103 : StableHlo.TRef sig ⟨S4096, .i32⟩) (.of main_call0_v104 : StableHlo.TRef sig ⟨S4096, .i1⟩) (cmpi .slt) rfl (by decide +kernel) (by decide +kernel) (by decide +kernel) (W2 m ρ c)
/-- Operation 160 of the stretch. -/
theorem h1_c_34_eq : h1_c_34 m ρ c = (constantI S_ 32 2048#32) :=
  read_nullary hostOps1_map 160 (.of main_call0_c_34 : StableHlo.TRef sig ⟨S_, .i32⟩) (constantI S_ 32 2048#32) rfl (by decide +kernel) (W2 m ρ c)
/-- Operation 161 of the stretch. -/
theorem h1_v105_eq : h1_v105 m ρ c = (broadcastInDim S4096 ![] bcast_S_S4096) (h1_c_34 m ρ c) :=
  read_unary hostOps1_map 161 (.of main_call0_c_34 : StableHlo.TRef sig ⟨S_, .i32⟩) (.of main_call0_v105 : StableHlo.TRef sig ⟨S4096, .i32⟩) (broadcastInDim S4096 ![] bcast_S_S4096) rfl (by decide +kernel) (by decide +kernel) (W2 m ρ c)
/-- Operation 162 of the stretch. -/
theorem h1_v106_eq : h1_v106 m ρ c = addi (h1_v102 m ρ c) (h1_v105 m ρ c) :=
  read_binary hostOps1_map 162 (.of main_call0_v102 : StableHlo.TRef sig ⟨S4096, .i32⟩) (.of main_call0_v105 : StableHlo.TRef sig ⟨S4096, .i32⟩) (.of main_call0_v106 : StableHlo.TRef sig ⟨S4096, .i32⟩) (addi) rfl (by decide +kernel) (by decide +kernel) (by decide +kernel) (W2 m ρ c)
/-- Operation 163 of the stretch. -/
theorem h1_v107_eq : h1_v107 m ρ c = select (h1_v104 m ρ c) (h1_v106 m ρ c) (h1_v102 m ρ c) :=
  read_ternary hostOps1_map 163 (.of main_call0_v104 : StableHlo.TRef sig ⟨S4096, .i1⟩) (.of main_call0_v106 : StableHlo.TRef sig ⟨S4096, .i32⟩) (.of main_call0_v102 : StableHlo.TRef sig ⟨S4096, .i32⟩) (.of main_call0_v107 : StableHlo.TRef sig ⟨S4096, .i32⟩) (select) rfl (by decide +kernel) (by decide +kernel) (by decide +kernel) (by decide +kernel) (W2 m ρ c)
/-- Operation 164 of the stretch. -/
theorem h1_v108_eq : h1_v108 m ρ c = (broadcastInDim S4096x1 ![0] bcast_S4096_S4096x1_0) (h1_v107 m ρ c) :=
  read_unary hostOps1_map 164 (.of main_call0_v107 : StableHlo.TRef sig ⟨S4096, .i32⟩) (.of main_call0_v108 : StableHlo.TRef sig ⟨S4096x1, .i32⟩) (broadcastInDim S4096x1 ![0] bcast_S4096_S4096x1_0) rfl (by decide +kernel) (by decide +kernel) (W2 m ρ c)
/-- Operation 165 of the stretch. -/
theorem h1_v109_eq : h1_v109 m ρ c = (fun x i => Host.gather gather_S2048x768_S4096x1_S4096x768_1_0_n_n_0_1_1768 x i) (h1_v0 m ρ c) (h1_v108 m ρ c) :=
  read_binary hostOps1_map 165 (.of main_call0_v0 : StableHlo.TRef sig ⟨S2048x768, .f32⟩) (.of main_call0_v108 : StableHlo.TRef sig ⟨S4096x1, .i32⟩) (.of main_call0_v109 : StableHlo.TRef sig ⟨S4096x768, .f32⟩) (fun x i => Host.gather gather_S2048x768_S4096x1_S4096x768_1_0_n_n_0_1_1768 x i) rfl (by decide +kernel) (by decide +kernel) (by decide +kernel) (W2 m ρ c)

end Cert.KernelIdeal.Val

end
-- ==== Proof.KRouter.lean ====
/- The kernel's router: its probabilities, each token's expert and its greatest logit, and the auxiliary loss, against
   the reference's. -/
module

public import proofs.«01_k».proof.Proof.RefRouter
public import proofs.«01_k».proof.Proof.Host1

@[expose] public section

set_option maxRecDepth 16384

noncomputable section

namespace Cert.KernelIdeal.Val

open Cert.KernelIdeal.Gen Cert.Rank Cert.Consts Cert.ReferenceIdeal.Read
open Cert.ReferenceIdeal.Val (pick best)
open Idealize.ShloMosaic Idealize.ShloMosaic.TcCoe Idealize.ShloMosaic.Tactic

variable (m : (ℓ : Loc nD τ sig) → Buf (Elt Ideal) ℓ) (ρ : Dev nD → PrngReg) (c : Dev nD)
variable (x0 : FVec Ideal S1x2048x768 .f32) (x1 : FVec Ideal S16x768 .f32)

/-- The router's probabilities. -/
theorem probs_eq (hv : h1_v1 m ρ c = val_main_v2 (F := Ideal) x0 x1) : h1_main_v0_2 m ρ c = val_main_v22 (F := Ideal) x0 x1 := by
  rw [h1_main_v0_2_eq, h1_v11_eq, h1_v10_eq, h1_v9_eq, h1_v8_eq, h1_v7_eq, h1_v6_eq, h1_v5_eq, h1_v4_eq, h1_v3_eq, h1_v2_eq, hv, h1_cst_eq, h1_cst_0_eq, h1_cst_1_eq]
  rfl

/-- The arg-max's body keeps the greater value and, of equal values, the smaller position. -/
theorem keeps : KeepsBetter (reducer_argmax_f32_i32 (F := Ideal)) := fun a b => by
  obtain ⟨a1, a2⟩ := a
  obtain ⟨b1, b2⟩ := b
  unfold Better
  rcases lt_trichotomy b1 a1 with h | h | h
  · left
    refine ⟨?_, fun h' => h'.elim (fun h' => lt_asymm h h') fun h' => absurd h'.1 h.ne⟩
    simp [reducer_argmax_f32_i32, Ideal.cmpf_def, Ideal.cmp, h, h.ne', IntOp.ori, IntOp.andi, Scalar.select]
  · subst h
    by_cases hs : a2.toInt < b2.toInt
    · left
      refine ⟨?_, fun h' => h'.elim (fun h' => lt_irrefl _ h') fun h' => absurd h'.2 (not_lt.mpr hs.le)⟩
      have e : IntOp.cmpi .slt a2 b2 = 1#1 := by simp [IntOp.cmpi, BitVec.slt, hs]
      simp [reducer_argmax_f32_i32, Ideal.cmpf_def, Ideal.cmp, IntOp.ori, IntOp.andi, Scalar.select, e]
    · right
      refine ⟨?_, fun h' => h'.elim (fun h' => lt_irrefl _ h') fun h' => absurd h'.2 hs⟩
      have e : IntOp.cmpi .slt a2 b2 = 0#1 := by simp [IntOp.cmpi, BitVec.slt, hs]
      simp [reducer_argmax_f32_i32, Ideal.cmpf_def, Ideal.cmp, IntOp.ori, IntOp.andi, Scalar.select, e]
  · right
    refine ⟨?_, fun h' => h'.elim (fun h' => lt_asymm h h') fun h' => absurd h'.1 h.ne⟩
    simp [reducer_argmax_f32_i32, Ideal.cmpf_def, Ideal.cmp, h.not_gt, h.ne, IntOp.ori, IntOp.andi, Scalar.select]

/-- Each token's expert. -/
theorem tgt_eq (hv : h1_v1 m ρ c = val_main_v2 (F := Ideal) x0 x1) : h1_v13 m ρ c = val_main_v57 (F := Ideal) x0 x1 := by
  funext j
  obtain ⟨n, rfl⟩ : ∃ n, j = ix1 n := ⟨_, eq_ix1 j⟩
  rw [Cert.ReferenceIdeal.Val.v57_at, h1_v13_eq, hv]
  refine argmax_idx (by norm_num) keeps _ _ (fun i e => ?_) _ (fun j => ?_) _ (fun j => ?_) _ _ n (pick x0 x1 n) (Cert.ReferenceIdeal.Val.pick_top x0 x1 n)
  · rw [h1_call0_v0_eq]; rfl
  · rw [h1_call0_cst_eq]; exact bits_bot
  · rw [h1_call0_c_eq]; rfl

/-- Each token's greatest logit. -/
theorem prio_at (hv : h1_v1 m ρ c = val_main_v2 (F := Ideal) x0 x1) (n : Fin 2048) : h1_v14 m ρ c (ix1 n) = best x0 x1 n := by
  rw [h1_v14_eq, hv, h1_cst_2_eq]
  pointwise
  rw [bits_bot]
  exact (Cert.ReferenceIdeal.Val.pick_top x0 x1 n).fold_max

/-- How many tokens chose each expert. -/
theorem counts_eq (hv : h1_v1 m ρ c = val_main_v2 (F := Ideal) x0 x1) : h1_v22 m ρ c = val_main_v106 (F := Ideal) x0 x1 := by
  rw [h1_v22_eq, h1_v21_eq, h1_v20_eq, h1_v19_eq, h1_v18_eq, h1_v17_eq, h1_v16_eq, h1_v15_eq, tgt_eq m ρ c x0 x1 hv, h1_cst_3_eq]
  funext j
  obtain ⟨e, rfl⟩ : ∃ e, j = ix1 e := ⟨_, eq_ix1 j⟩
  pointwise [val_main_v106, val_main_v105, val_main_call4_v4, val_main_call4_v3, val_main_call4_v2, val_main_call4_v1, val_main_call4_v0, val_main_cst_32]

/-- The part of the auxiliary loss on the size of the logits. -/
theorem zloss_eq (hv : h1_v1 m ρ c = val_main_v2 (F := Ideal) x0 x1) : h1_v47 m ρ c = val_main_v53 (F := Ideal) x0 x1 := by
  simp only [h1_v47_eq, h1_cst_14_eq, h1_v46_eq, h1_cst_13_eq, h1_v45_eq, h1_v44_eq, h1_v43_eq, h1_v42_eq, h1_v41_eq, h1_cst_12_eq, h1_v40_eq, h1_v39_eq, h1_v38_eq, h1_v37_eq, h1_v36_eq, h1_v35_eq, h1_cst_11_eq, h1_v34_eq, h1_v33_eq, h1_cst_10_eq, h1_v32_eq, h1_v31_eq, h1_cst_9_eq, hv]
  rfl

/-- The part of the auxiliary loss on experts past their capacity. -/
theorem overflow_eq (hv : h1_v1 m ρ c = val_main_v2 (F := Ideal) x0 x1) : h1_v57 m ρ c = val_main_v113 (F := Ideal) x0 x1 := by
  simp only [h1_v57_eq, h1_cst_21_eq, h1_v56_eq, h1_cst_20_eq, h1_v52_eq, h1_cst_17_eq, h1_v51_eq, h1_v50_eq, h1_cst_16_eq, h1_v49_eq, h1_v48_eq, h1_cst_15_eq, counts_eq m ρ c x0 x1 hv]
  rfl

/-- The mean probability of each expert. -/
theorem mean_eq (hv : h1_v1 m ρ c = val_main_v2 (F := Ideal) x0 x1) : h1_v25 m ρ c = val_main_v30 (F := Ideal) x0 x1 := by
  simp only [h1_v25_eq, h1_v24_eq, h1_cst_5_eq, h1_v23_eq, h1_cst_4_eq, probs_eq m ρ c x0 x1 hv]
  rfl

/-- The part of the auxiliary loss on the balance of the experts, expert by expert. -/
theorem balance_eq (hv : h1_v1 m ρ c = val_main_v2 (F := Ideal) x0 x1) (hf : ∀ n, ⊥ < best x0 x1 n ∧ best x0 x1 n < ⊤) :
    h1_v28 m ρ c = val_main_v34 (F := Ideal) x0 x1 := by
  rw [h1_v28_eq, h1_v27_eq, h1_v26_eq, mean_eq m ρ c x0 x1 hv, counts_eq m ρ c x0 x1 hv, h1_cst_6_eq]
  funext j
  obtain ⟨e, rfl⟩ : ∃ e, j = ix1 e := ⟨_, eq_ix1 j⟩
  pointwise [val_main_v34, val_main_v33, val_main_v32, val_main_cst_9]
  rw [Cert.ReferenceIdeal.Val.v31_eq x0 x1 hf, bits_2048, Ideal.div_coe (by norm_num), Ideal.div_coe (by norm_num), mul_assoc]

/-- The auxiliary loss. -/
theorem aux_eq (hv : h1_v1 m ρ c = val_main_v2 (F := Ideal) x0 x1) (hf : ∀ n, ⊥ < best x0 x1 n ∧ best x0 x1 n < ⊤) :
    h1_main_v0_1 m ρ c = val_main_v114 (F := Ideal) x0 x1 := by
  rw [h1_main_v0_1_eq, overflow_eq m ρ c x0 x1 hv, h1_v55_eq, h1_v54_eq, zloss_eq m ρ c x0 x1 hv, h1_v53_eq, h1_v30_eq, h1_v29_eq,
    balance_eq m ρ c x0 x1 hv hf, h1_cst_7_eq, h1_cst_8_eq, h1_cst_18_eq, h1_cst_19_eq]
  rfl

end Cert.KernelIdeal.Val
-- ==== Proof.KSlots.lean ====
/- The kernel's dispatch: the tokens sorted by expert, each token's place in the sorted order and in its expert's table,
   and the rows gathered for the experts. -/
module

public import proofs.«01_k».proof.Proof.KRouter
public import proofs.«01_k».proof.Proof.Slots
public import proofs.«01_k».proof.Proof.Words

@[expose] public section

set_option maxRecDepth 16384

noncomputable section

namespace Cert.KernelIdeal.Val

open Cert.KernelIdeal.Gen Cert.Rank Cert.Consts Cert.Words Cert.ReferenceIdeal.Read
open Cert.ReferenceIdeal.Val (pick best)
open Idealize.ShloMosaic Idealize.ShloMosaic.Routing Idealize.ShloMosaic.TcCoe Idealize.ShloMosaic.Tactic

/-- A sort key as the comparator canonicalizes it is the key. -/
theorem canonical (x y z : Ideal .f32) (hz : z = (0 : EReal)) : Scalar.select (FloatOps.cmpf (F := Ideal) (φ := .f32) .une x x) y
    (Scalar.select (FloatOps.cmpf (F := Ideal) (φ := .f32) .oeq x z) z x) = x := by
  subst hz
  by_cases h : x = (0 : EReal)
  · simp [Ideal.cmpf_def, Ideal.cmp, Scalar.select, h]
  · simp [Ideal.cmpf_def, Ideal.cmp, Scalar.select, h]

/-- The comparator of the kernel's sort puts the smaller expert first and, of one expert, the smaller negated score. -/
theorem comparator_at (a b : Nat) (ha : a < 2 ^ 31) (hb : b < 2 ^ 31) (x y : EReal) (i j : BitVec 32) :
    (comparator_i32_f32_i32_d0 (F := Ideal) (BitVec.ofNat 32 a, x, i) (BitVec.ofNat 32 b, y, j) == 1#1) = decide (a < b ∨ (a = b ∧ x < y)) := by
  unfold comparator_i32_f32_i32_d0
  dsimp only
  rw [canonical _ _ (FloatOps.ofBits .f32 0x00000000#32) bits_0, canonical _ _ (FloatOps.ofBits .f32 0x00000000#32) bits_0, cmpi_slt_small a b ha hb, cmpi_eq_small a b ha hb]
  by_cases h1 : a < b <;> by_cases h2 : a = b <;> by_cases h3 : x < y <;>
    simp [Ideal.cmpfTotal_def, CmpDirection.ordered, Ideal.cmp, IntOp.ori, IntOp.andi, h1, h2, h3]

variable (m : (ℓ : Loc nD τ sig) → Buf (Elt Ideal) ℓ) (ρ : Dev nD → PrngReg) (c : Dev nD)
variable (x0 : FVec Ideal S1x2048x768 .f32) (x1 : FVec Ideal S16x768 .f32)

/-- Each token's expert, token by token. -/
theorem tgt_at (hv : h1_v1 m ρ c = val_main_v2 (F := Ideal) x0 x1) (n : Fin 2048) : h1_v13 m ρ c (ix1 n) = BitVec.ofNat 32 (pick x0 x1 n).val := by
  rw [tgt_eq m ρ c x0 x1 hv]
  exact Cert.ReferenceIdeal.Val.v57_at x0 x1 n

/-- The tokens sorted by expert and score. -/
theorem order_at (hv : h1_v1 m ρ c = val_main_v2 (F := Ideal) x0 x1) (i : Fin 2048) :
    h1_v60 m ρ c (ix1 i) = BitVec.ofNat 32 (order (pick x0 x1) (best x0 x1) i).val := by
  have hi : ∀ k, h1_call1_v0 m ρ c (ix1 k) = BitVec.ofNat 32 k.val := fun k => by rw [h1_call1_v0_eq]; rfl
  have hp : ∀ n, h1_v59 m ρ c (ix1 n) = -best x0 x1 n := fun n => by
    rw [h1_v59_eq, ← prio_at m ρ c x0 x1 hv n]; rfl
  rw [h1_v60_eq]
  refine (sort3_third (comparator_i32_f32_i32_d0 (F := Ideal)) (h1_v13 m ρ c) (h1_v59 m ρ c) (h1_call1_v0 m ρ c) i).trans ?_
  rw [hi, order_of_rel (pick x0 x1) (best x0 x1) _ fun a b h => ?_]
  rw [tgt_at m ρ c x0 x1 hv, tgt_at m ρ c x0 x1 hv, comparator_at _ _ (by omega) (by omega), hp, hp]
  congr 1
  rw [lexKey_lt, downKey_lt, EReal.neg_lt_neg_iff, Fin.lt_def, Fin.ext_iff]
  have : ¬ b < a := not_lt.mpr h.le
  simp only [this, and_false, or_false]

/-- Each token's place in the sorted order. -/
theorem place_at (hv : h1_v1 m ρ c = val_main_v2 (F := Ideal) x0 x1) (n : Fin 2048) :
    h1_v61 m ρ c (ix1 n) = BitVec.ofNat 32 (starts (pick x0 x1) (pick x0 x1 n) + rnk (pick x0 x1) (best x0 x1) n) := by
  have hi : ∀ k, h1_call2_v0 m ρ c (ix1 k) = BitVec.ofNat 32 k.val := fun k => by rw [h1_call2_v0_eq]; rfl
  rw [h1_v61_eq]
  refine (sort2_second comparator_i32_i32_d0 (h1_v60 m ρ c) (h1_call2_v0 m ρ c) n).trans ?_
  rw [hi, order_inverse (pick x0 x1) (best x0 x1) _ (fun a b h => ?_) n ⟨_, starts_add_rnk_lt (pick x0 x1) (best x0 x1) n⟩ rfl]
  unfold comparator_i32_i32_d0
  dsimp only
  rw [order_at m ρ c x0 x1 hv, order_at m ρ c x0 x1 hv, cmpi_slt_small _ _ (by omega) (by omega)]
  by_cases h : order (pick x0 x1) (best x0 x1) b < order (pick x0 x1) (best x0 x1) a <;> simp [h]

/-- The expert of the token at each place of the sorted order. -/
theorem sorted_tgt_at (hv : h1_v1 m ρ c = val_main_v2 (F := Ideal) x0 x1) (i : Fin 2048) :
    h1_v68 m ρ c (ix1 i) = BitVec.ofNat 32 (pick x0 x1 (order (pick x0 x1) (best x0 x1) i)).val := by
  rw [h1_v68_eq]
  refine (gather_take1 gather_S2048_S2048x1_S2048_n_0_n_n_0_1_1 rfl rfl rfl rfl (h1_v13 m ρ c) (h1_v67 m ρ c) i (order (pick x0 x1) (best x0 x1) i) ?_ (by norm_num)).trans (tgt_at m ρ c x0 x1 hv _)
  rw [h1_v67_eq, h1_v66_eq, h1_v65_eq, h1_v64_eq, h1_v63_eq, h1_v62_eq, h1_c_eq, h1_c_22_eq]
  pointwise
  rw [order_at m ρ c x0 x1 hv, guard_small _ (by omega)]

/-- How many tokens each expert has, as a word. -/
theorem load_at (hv : h1_v1 m ρ c = val_main_v2 (F := Ideal) x0 x1) (e : Fin 16) :
    h1_v69 m ρ c (ix1 e) = BitVec.ofNat 32 (load (pick x0 x1) e.val) := by
  rw [h1_v69_eq]
  have h : h1_v22 m ρ c (ix1 e) = (((load (pick x0 x1) e.val : Nat) : ℝ) : EReal) := by
    rw [h1_v22_eq, h1_v21_eq, h1_v20_eq, h1_v19_eq, h1_v18_eq, h1_v17_eq, h1_v16_eq, h1_v15_eq, h1_cst_3_eq]
    pointwise
    unfold Rank.load
    rw [← sum_ones]
    refine Finset.sum_congr rfl fun n _ => ?_
    rw [tgt_at m ρ c x0 x1 hv, cmpi_eq_small _ _ (by omega) (by omega), uitofp_decide]
  show Ideal.fptosi 32 (h1_v22 m ρ c (ix1 e)) = _
  rw [h]
  exact fptosi_small _ (lt_of_le_of_lt (load_le (pick x0 x1) e.val) (by norm_num))

/-- How many tokens go to the experts up to and with each one. -/
theorem ends_at (hv : h1_v1 m ρ c = val_main_v2 (F := Ideal) x0 x1) (e : Fin 16) :
    h1_v70 m ρ c (ix1 e) = BitVec.ofNat 32 (starts (pick x0 x1) e + load (pick x0 x1) e.val) := by
  rw [h1_v70_eq, ← sum_load_succ]
  exact cumsum1 (by norm_num) (h1_v69 m ρ c) (load (pick x0 x1)) (fun i => load_at m ρ c x0 x1 hv i) (h1_call3_call0_v0 m ρ c) (by rw [h1_call3_call0_v0_eq, h1_call3_call0_c_eq]; rfl) _ _ e

/-- How many tokens go to the experts before each one. -/
theorem starts_at (hv : h1_v1 m ρ c = val_main_v2 (F := Ideal) x0 x1) (e : Fin 16) :
    h1_v71 m ρ c (ix1 e) = BitVec.ofNat 32 (starts (pick x0 x1) e) := by
  rw [h1_v71_eq]
  show IntOp.subi (h1_v70 m ρ c (ix1 e)) (h1_v69 m ρ c (ix1 e)) = _
  rw [ends_at m ρ c x0 x1 hv, load_at m ρ c x0 x1 hv, subi_small _ _ (Nat.le_add_left _ _), Nat.add_sub_cancel]

/-- The place of the token at place `i` among its expert's. -/
theorem rank_at (hv : h1_v1 m ρ c = val_main_v2 (F := Ideal) x0 x1) (i : Fin 2048) :
    h1_v80 m ρ c (ix1 i) = BitVec.ofNat 32 (rnk (pick x0 x1) (best x0 x1) (order (pick x0 x1) (best x0 x1) i)) := by
  have hi : h1_v72 m ρ c (ix1 i) = BitVec.ofNat 32 i.val := by rw [h1_v72_eq]; rfl
  have hs : h1_v79 m ρ c (ix1 i) = BitVec.ofNat 32 (starts (pick x0 x1) (pick x0 x1 (order (pick x0 x1) (best x0 x1) i))) := by
    rw [h1_v79_eq]
    refine (gather_take1 gather_S16_S2048x1_S2048_n_0_n_n_0_1_1 rfl rfl rfl rfl (h1_v71 m ρ c) (h1_v78 m ρ c) i (pick x0 x1 (order (pick x0 x1) (best x0 x1) i)) ?_ (by norm_num)).trans (starts_at m ρ c x0 x1 hv _)
    rw [h1_v78_eq, h1_v77_eq, h1_v76_eq, h1_v75_eq, h1_v74_eq, h1_v73_eq, h1_c_23_eq, h1_c_24_eq]
    pointwise
    rw [sorted_tgt_at m ρ c x0 x1 hv, guard_small _ (by omega)]
  rw [h1_v80_eq]
  show IntOp.subi (h1_v72 m ρ c (ix1 i)) (h1_v79 m ρ c (ix1 i)) = _
  have hb := below_order (pick x0 x1) (best x0 x1) i
  rw [below_lexKey] at hb
  rw [hi, hs, subi_small _ _ (by omega)]
  exact congrArg (BitVec.ofNat 32) (by omega)

/-- A token is kept when fewer than 256 of its expert come before it. -/
theorem kept_at (hv : h1_v1 m ρ c = val_main_v2 (F := Ideal) x0 x1) (i : Fin 2048) :
    h1_v83 m ρ c (ix1 i) = if rnk (pick x0 x1) (best x0 x1) (order (pick x0 x1) (best x0 x1) i) < 256 then (1 : EReal) else 0 := by
  rw [h1_v83_eq, h1_v82_eq, h1_v81_eq, h1_c_25_eq]
  pointwise
  have := starts_add_rnk_lt (pick x0 x1) (best x0 x1) (order (pick x0 x1) (best x0 x1) i)
  rw [rank_at m ρ c x0 x1 hv, cmpi_slt_small _ _ (by omega) (by norm_num), uitofp_decide]

/-- The row of the experts' result each place of the sorted order reads. -/
theorem flat_at (hv : h1_v1 m ρ c = val_main_v2 (F := Ideal) x0 x1) (i : Fin 2048) :
    h1_v87 m ρ c (ix1 i) = BitVec.ofNat 32 ((pick x0 x1 (order (pick x0 x1) (best x0 x1) i)).val * 256
      + min 255 (rnk (pick x0 x1) (best x0 x1) (order (pick x0 x1) (best x0 x1) i))) := by
  rw [h1_v87_eq, h1_v86_eq, h1_v85_eq, h1_v84_eq, h1_call4_v4_eq, h1_call4_v3_eq, h1_call4_v2_eq, h1_call4_v1_eq, h1_call4_v0_eq,
    h1_c_26_eq, h1_c_27_eq, h1_c_28_eq]
  pointwise [id]
  have := starts_add_rnk_lt (pick x0 x1) (best x0 x1) (order (pick x0 x1) (best x0 x1) i)
  rw [rank_at m ρ c x0 x1 hv, sorted_tgt_at m ρ c x0 x1 hv, maxsi_small 0 _ (by norm_num) (by omega), minsi_small 255 _ (by norm_num) (by omega),
    muli_small _ 256, addi_small, Nat.zero_max]

/-- The place of the sorted order that each place of the experts' table reads. -/
def source (e : Fin 16) (s : Fin 256) : Fin 2048 := ⟨min 2047 (starts (pick x0 x1) e + s.val), by omega⟩

/-- The token at each place of the experts' table. -/
theorem token_at (hv : h1_v1 m ρ c = val_main_v2 (F := Ideal) x0 x1) (e : Fin 16) (s : Fin 256) :
    h1_v101 m ρ c (ix2 e s) = BitVec.ofNat 32 (order (pick x0 x1) (best x0 x1) (source x0 x1 e s)).val := by
  rw [h1_v101_eq]
  refine (take_table gather_S2048_S16x256x1_S16x256_n_0_n_n_0_2_1_wf (h1_v60 m ρ c) (h1_v100 m ρ c) e s (source x0 x1 e s) ?_).trans (order_at m ρ c x0 x1 hv _)
  have hs := starts_le (pick x0 x1) e
  have h94 : h1_v94 m ρ c (ix2 e s) = BitVec.ofNat 32 (source x0 x1 e s).val := by
    rw [h1_v94_eq, h1_call5_v4_eq, h1_call5_v3_eq, h1_call5_v2_eq, h1_call5_v1_eq, h1_call5_v0_eq, h1_c_29_eq, h1_c_30_eq, h1_v93_eq, h1_v92_eq,
      h1_v91_eq, h1_v90_eq, h1_v89_eq, h1_v88_eq]
    pointwise [id]
    rw [starts_at m ρ c x0 x1 hv, addi_small, maxsi_small 0 _ (by norm_num) (by omega), minsi_small 2047 _ (by norm_num) (by omega), Nat.zero_max]
    rfl
  rw [h1_v100_eq, h1_v99_eq, h1_v98_eq, h1_v97_eq, h1_v96_eq, h1_v95_eq, h1_c_31_eq, h1_c_32_eq]
  pointwise
  rw [h94, guard_small _ (by omega)]

/-- The rows gathered for the experts. -/
theorem gathered_at (hv : h1_v1 m ρ c = val_main_v2 (F := Ideal) x0 x1) (e : Fin 16) (s : Fin 256) (k : Fin 4096) (hk : k.val = e.val * 256 + s.val)
    (d : Fin 768) :
    h1_v109 m ρ c (ix2 k d) = h1_v0 m ρ c (ix2 (order (pick x0 x1) (best x0 x1) (source x0 x1 e s)) d) := by
  rw [h1_v109_eq]
  refine gather_row gather_S2048x768_S4096x1_S4096x768_1_0_n_n_0_1_1768 rfl rfl rfl rfl rfl (h1_v0 m ρ c) (h1_v108 m ρ c) k d _ ?_ (by norm_num)
  have h102 : h1_v102 m ρ c (ix1 k) = h1_v101 m ρ c (ix2 e s) := by
    rw [h1_v102_eq]
    pointwise
    have h1 : k.val / 256 = e.val := by omega
    have h2 : k.val % 256 = s.val := by omega
    simp only [h1, h2]
  rw [h1_v108_eq, h1_v107_eq, h1_v106_eq, h1_v105_eq, h1_v104_eq, h1_v103_eq, h1_c_33_eq, h1_c_34_eq]
  pointwise
  rw [h102, token_at m ρ c x0 x1 hv, guard_small _ (by omega)]

end Cert.KernelIdeal.Val
-- ==== Proof.Host023.lean ====
/- The buffers after the other three stretches of host operations, each as its operation's function of the others: one
   equation per operation. -/
module

public import proofs.«01_k».proof.Proof.HostRead
public import proofs.«01_k».proof.Proof.KRun

@[expose] public section

set_option maxRecDepth 16384

noncomputable section

namespace Cert.KernelIdeal.Val

open Cert.KernelIdeal.Gen Cert.HostRead
open Idealize.ShloMosaic Idealize.ShloMosaic.TcCoe Idealize.ShloMosaic.Tactic

variable {F : FTy → Type} [FloatOps F] [Named F]
variable (m : (ℓ : Loc nD τ sig) → Buf (Elt F) ℓ) (ρ : Dev nD → PrngReg) (c : Dev nD)

/-- The references the stretch writes, one per operation, in order. -/
theorem hostOps0_map : (hostOps0 : List (HloOp τ sig (Elt F))).map HloOp.writes = hostOps0_W.map fun r => {Proc.devRef (τ := τ) .tc r} := rfl

/-- What `main_arg0` holds after the stretch. -/
def h0_main_arg0 : (⟨S1x2048x768, .f32⟩ : BufTy).Contents (Elt F) := W1 m ρ c (Proc.devRef .tc main_arg0)
/-- What `main_call0_v0` holds after the stretch. -/
def h0_v0 : (⟨S2048x768, .f32⟩ : BufTy).Contents (Elt F) := W1 m ρ c (Proc.devRef .tc main_call0_v0)

/-- Operation 0 of the stretch. -/
theorem h0_v0_eq : h0_v0 m ρ c = shapeCast S2048x768 (h0_main_arg0 m ρ c) shapeCasts_S1x2048x768_S2048x768 :=
  read_reshape hostOps0_map 0 main_arg0 main_call0_v0 rfl _ _ _ rfl (by decide +kernel) (by decide +kernel) (W0 m ρ c)

/-- The references the stretch writes, one per operation, in order. -/
theorem hostOps2_map : (hostOps2 : List (HloOp τ sig (Elt F))).map HloOp.writes = hostOps2_W.map fun r => {Proc.devRef (τ := τ) .tc r} := rfl

/-- What `main_call0_c_35` holds after the stretch. -/
def h2_c_35 : (⟨S_, .i32⟩ : BufTy).Contents (Elt F) := W5 m ρ c (Proc.devRef .tc main_call0_c_35)
/-- What `main_call0_v111` holds after the stretch. -/
def h2_v111 : (⟨S2048, .i32⟩ : BufTy).Contents (Elt F) := W5 m ρ c (Proc.devRef .tc main_call0_v111)
/-- What `main_call0_v87` holds after the stretch. -/
def h2_v87 : (⟨S2048, .i32⟩ : BufTy).Contents (Elt F) := W5 m ρ c (Proc.devRef .tc main_call0_v87)
/-- What `main_call0_v112` holds after the stretch. -/
def h2_v112 : (⟨S2048, .i1⟩ : BufTy).Contents (Elt F) := W5 m ρ c (Proc.devRef .tc main_call0_v112)
/-- What `main_call0_c_36` holds after the stretch. -/
def h2_c_36 : (⟨S_, .i32⟩ : BufTy).Contents (Elt F) := W5 m ρ c (Proc.devRef .tc main_call0_c_36)
/-- What `main_call0_v113` holds after the stretch. -/
def h2_v113 : (⟨S2048, .i32⟩ : BufTy).Contents (Elt F) := W5 m ρ c (Proc.devRef .tc main_call0_v113)
/-- What `main_call0_v114` holds after the stretch. -/
def h2_v114 : (⟨S2048, .i32⟩ : BufTy).Contents (Elt F) := W5 m ρ c (Proc.devRef .tc main_call0_v114)
/-- What `main_call0_v115` holds after the stretch. -/
def h2_v115 : (⟨S2048, .i32⟩ : BufTy).Contents (Elt F) := W5 m ρ c (Proc.devRef .tc main_call0_v115)
/-- What `main_call0_v116` holds after the stretch. -/
def h2_v116 : (⟨S2048x1, .i32⟩ : BufTy).Contents (Elt F) := W5 m ρ c (Proc.devRef .tc main_call0_v116)
/-- What `main_call0_v110` holds after the stretch. -/
def h2_v110 : (⟨S4096x768, .f32⟩ : BufTy).Contents (Elt F) := W5 m ρ c (Proc.devRef .tc main_call0_v110)
/-- What `main_call0_v117` holds after the stretch. -/
def h2_v117 : (⟨S2048x768, .f32⟩ : BufTy).Contents (Elt F) := W5 m ρ c (Proc.devRef .tc main_call0_v117)
/-- What `main_arg4` holds after the stretch. -/
def h2_main_arg4 : (⟨S1x1x768, .f32⟩ : BufTy).Contents (Elt F) := W5 m ρ c (Proc.devRef .tc main_arg4)
/-- What `main_call0_v118` holds after the stretch. -/
def h2_v118 : (⟨S1x768, .f32⟩ : BufTy).Contents (Elt F) := W5 m ρ c (Proc.devRef .tc main_call0_v118)
/-- What `main_call0_v83` holds after the stretch. -/
def h2_v83 : (⟨S2048, .f32⟩ : BufTy).Contents (Elt F) := W5 m ρ c (Proc.devRef .tc main_call0_v83)
/-- What `main_call0_v119` holds after the stretch. -/
def h2_v119 : (⟨S2048x1, .f32⟩ : BufTy).Contents (Elt F) := W5 m ρ c (Proc.devRef .tc main_call0_v119)
/-- What `main_arg6` holds after the stretch. -/
def h2_main_arg6 : (⟨S2304, .f32⟩ : BufTy).Contents (Elt F) := W5 m ρ c (Proc.devRef .tc main_arg6)
/-- What `main_call0_v120` holds after the stretch. -/
def h2_v120 : (⟨S1x2304, .f32⟩ : BufTy).Contents (Elt F) := W5 m ρ c (Proc.devRef .tc main_call0_v120)
/-- What `main_arg8` holds after the stretch. -/
def h2_main_arg8 : (⟨S768, .f32⟩ : BufTy).Contents (Elt F) := W5 m ρ c (Proc.devRef .tc main_arg8)
/-- What `main_call0_v121` holds after the stretch. -/
def h2_v121 : (⟨S1x768, .f32⟩ : BufTy).Contents (Elt F) := W5 m ρ c (Proc.devRef .tc main_call0_v121)
/-- What `main_arg9` holds after the stretch. -/
def h2_main_arg9 : (⟨S768, .f32⟩ : BufTy).Contents (Elt F) := W5 m ρ c (Proc.devRef .tc main_arg9)
/-- What `main_call0_v122` holds after the stretch. -/
def h2_v122 : (⟨S1x768, .f32⟩ : BufTy).Contents (Elt F) := W5 m ρ c (Proc.devRef .tc main_call0_v122)
/-- What `main_arg10` holds after the stretch. -/
def h2_main_arg10 : (⟨S768, .f32⟩ : BufTy).Contents (Elt F) := W5 m ρ c (Proc.devRef .tc main_arg10)
/-- What `main_call0_v123` holds after the stretch. -/
def h2_v123 : (⟨S1x768, .f32⟩ : BufTy).Contents (Elt F) := W5 m ρ c (Proc.devRef .tc main_call0_v123)
/-- What `main_arg14` holds after the stretch. -/
def h2_main_arg14 : (⟨S1, .f32⟩ : BufTy).Contents (Elt F) := W5 m ρ c (Proc.devRef .tc main_arg14)
/-- What `main_call0_v124` holds after the stretch. -/
def h2_v124 : (⟨S1x1, .f32⟩ : BufTy).Contents (Elt F) := W5 m ρ c (Proc.devRef .tc main_call0_v124)

/-- Operation 0 of the stretch. -/
theorem h2_c_35_eq : h2_c_35 m ρ c = (constantI S_ 32 0#32) :=
  read_nullary hostOps2_map 0 (.of main_call0_c_35 : StableHlo.TRef sig ⟨S_, .i32⟩) (constantI S_ 32 0#32) rfl (by decide +kernel) (W4 m ρ c)
/-- Operation 1 of the stretch. -/
theorem h2_v111_eq : h2_v111 m ρ c = (broadcastInDim S2048 ![] bcast_S_S2048) (h2_c_35 m ρ c) :=
  read_unary hostOps2_map 1 (.of main_call0_c_35 : StableHlo.TRef sig ⟨S_, .i32⟩) (.of main_call0_v111 : StableHlo.TRef sig ⟨S2048, .i32⟩) (broadcastInDim S2048 ![] bcast_S_S2048) rfl (by decide +kernel) (by decide +kernel) (W4 m ρ c)
/-- Operation 2 of the stretch. -/
theorem h2_v112_eq : h2_v112 m ρ c = (cmpi .slt) (h2_v87 m ρ c) (h2_v111 m ρ c) :=
  read_binary hostOps2_map 2 (.of main_call0_v87 : StableHlo.TRef sig ⟨S2048, .i32⟩) (.of main_call0_v111 : StableHlo.TRef sig ⟨S2048, .i32⟩) (.of main_call0_v112 : StableHlo.TRef sig ⟨S2048, .i1⟩) (cmpi .slt) rfl (by decide +kernel) (by decide +kernel) (by decide +kernel) (W4 m ρ c)
/-- Operation 3 of the stretch. -/
theorem h2_c_36_eq : h2_c_36 m ρ c = (constantI S_ 32 4096#32) :=
  read_nullary hostOps2_map 3 (.of main_call0_c_36 : StableHlo.TRef sig ⟨S_, .i32⟩) (constantI S_ 32 4096#32) rfl (by decide +kernel) (W4 m ρ c)
/-- Operation 4 of the stretch. -/
theorem h2_v113_eq : h2_v113 m ρ c = (broadcastInDim S2048 ![] bcast_S_S2048) (h2_c_36 m ρ c) :=
  read_unary hostOps2_map 4 (.of main_call0_c_36 : StableHlo.TRef sig ⟨S_, .i32⟩) (.of main_call0_v113 : StableHlo.TRef sig ⟨S2048, .i32⟩) (broadcastInDim S2048 ![] bcast_S_S2048) rfl (by decide +kernel) (by decide +kernel) (W4 m ρ c)
/-- Operation 5 of the stretch. -/
theorem h2_v114_eq : h2_v114 m ρ c = addi (h2_v87 m ρ c) (h2_v113 m ρ c) :=
  read_binary hostOps2_map 5 (.of main_call0_v87 : StableHlo.TRef sig ⟨S2048, .i32⟩) (.of main_call0_v113 : StableHlo.TRef sig ⟨S2048, .i32⟩) (.of main_call0_v114 : StableHlo.TRef sig ⟨S2048, .i32⟩) (addi) rfl (by decide +kernel) (by decide +kernel) (by decide +kernel) (W4 m ρ c)
/-- Operation 6 of the stretch. -/
theorem h2_v115_eq : h2_v115 m ρ c = select (h2_v112 m ρ c) (h2_v114 m ρ c) (h2_v87 m ρ c) :=
  read_ternary hostOps2_map 6 (.of main_call0_v112 : StableHlo.TRef sig ⟨S2048, .i1⟩) (.of main_call0_v114 : StableHlo.TRef sig ⟨S2048, .i32⟩) (.of main_call0_v87 : StableHlo.TRef sig ⟨S2048, .i32⟩) (.of main_call0_v115 : StableHlo.TRef sig ⟨S2048, .i32⟩) (select) rfl (by decide +kernel) (by decide +kernel) (by decide +kernel) (by decide +kernel) (W4 m ρ c)
/-- Operation 7 of the stretch. -/
theorem h2_v116_eq : h2_v116 m ρ c = (broadcastInDim S2048x1 ![0] bcast_S2048_S2048x1_0) (h2_v115 m ρ c) :=
  read_unary hostOps2_map 7 (.of main_call0_v115 : StableHlo.TRef sig ⟨S2048, .i32⟩) (.of main_call0_v116 : StableHlo.TRef sig ⟨S2048x1, .i32⟩) (broadcastInDim S2048x1 ![0] bcast_S2048_S2048x1_0) rfl (by decide +kernel) (by decide +kernel) (W4 m ρ c)
/-- Operation 8 of the stretch. -/
theorem h2_v117_eq : h2_v117 m ρ c = (fun x i => Host.gather gather_S4096x768_S2048x1_S2048x768_1_0_n_n_0_1_1768 x i) (h2_v110 m ρ c) (h2_v116 m ρ c) :=
  read_binary hostOps2_map 8 (.of main_call0_v110 : StableHlo.TRef sig ⟨S4096x768, .f32⟩) (.of main_call0_v116 : StableHlo.TRef sig ⟨S2048x1, .i32⟩) (.of main_call0_v117 : StableHlo.TRef sig ⟨S2048x768, .f32⟩) (fun x i => Host.gather gather_S4096x768_S2048x1_S2048x768_1_0_n_n_0_1_1768 x i) rfl (by decide +kernel) (by decide +kernel) (by decide +kernel) (W4 m ρ c)
/-- Operation 9 of the stretch. -/
theorem h2_v118_eq : h2_v118 m ρ c = shapeCast S1x768 (h2_main_arg4 m ρ c) shapeCasts_S1x1x768_S1x768 :=
  read_reshape hostOps2_map 9 main_arg4 main_call0_v118 rfl _ _ _ rfl (by decide +kernel) (by decide +kernel) (W4 m ρ c)
/-- Operation 10 of the stretch. -/
theorem h2_v119_eq : h2_v119 m ρ c = (broadcastInDim S2048x1 ![0] bcast_S2048_S2048x1_0) (h2_v83 m ρ c) :=
  read_unary hostOps2_map 10 (.of main_call0_v83 : StableHlo.TRef sig ⟨S2048, .f32⟩) (.of main_call0_v119 : StableHlo.TRef sig ⟨S2048x1, .f32⟩) (broadcastInDim S2048x1 ![0] bcast_S2048_S2048x1_0) rfl (by decide +kernel) (by decide +kernel) (W4 m ρ c)
/-- Operation 11 of the stretch. -/
theorem h2_v120_eq : h2_v120 m ρ c = shapeCast S1x2304 (h2_main_arg6 m ρ c) shapeCasts_S2304_S1x2304 :=
  read_reshape hostOps2_map 11 main_arg6 main_call0_v120 rfl _ _ _ rfl (by decide +kernel) (by decide +kernel) (W4 m ρ c)
/-- Operation 12 of the stretch. -/
theorem h2_v121_eq : h2_v121 m ρ c = shapeCast S1x768 (h2_main_arg8 m ρ c) shapeCasts_S768_S1x768 :=
  read_reshape hostOps2_map 12 main_arg8 main_call0_v121 rfl _ _ _ rfl (by decide +kernel) (by decide +kernel) (W4 m ρ c)
/-- Operation 13 of the stretch. -/
theorem h2_v122_eq : h2_v122 m ρ c = shapeCast S1x768 (h2_main_arg9 m ρ c) shapeCasts_S768_S1x768 :=
  read_reshape hostOps2_map 13 main_arg9 main_call0_v122 rfl _ _ _ rfl (by decide +kernel) (by decide +kernel) (W4 m ρ c)
/-- Operation 14 of the stretch. -/
theorem h2_v123_eq : h2_v123 m ρ c = shapeCast S1x768 (h2_main_arg10 m ρ c) shapeCasts_S768_S1x768 :=
  read_reshape hostOps2_map 14 main_arg10 main_call0_v123 rfl _ _ _ rfl (by decide +kernel) (by decide +kernel) (W4 m ρ c)
/-- Operation 15 of the stretch. -/
theorem h2_v124_eq : h2_v124 m ρ c = shapeCast S1x1 (h2_main_arg14 m ρ c) shapeCasts_S1_S1x1 :=
  read_reshape hostOps2_map 15 main_arg14 main_call0_v124 rfl _ _ _ rfl (by decide +kernel) (by decide +kernel) (W4 m ρ c)

/-- The references the stretch writes, one per operation, in order. -/
theorem hostOps3_map : (hostOps3 : List (HloOp τ sig (Elt F))).map HloOp.writes = hostOps3_W.map fun r => {Proc.devRef (τ := τ) .tc r} := rfl

/-- What `main_call0_c_37` holds after the stretch. -/
def h3_c_37 : (⟨S_, .i32⟩ : BufTy).Contents (Elt F) := W7 m ρ c (Proc.devRef .tc main_call0_c_37)
/-- What `main_call0_v126` holds after the stretch. -/
def h3_v126 : (⟨S2048, .i32⟩ : BufTy).Contents (Elt F) := W7 m ρ c (Proc.devRef .tc main_call0_v126)
/-- What `main_call0_v61` holds after the stretch. -/
def h3_v61 : (⟨S2048, .i32⟩ : BufTy).Contents (Elt F) := W7 m ρ c (Proc.devRef .tc main_call0_v61)
/-- What `main_call0_v127` holds after the stretch. -/
def h3_v127 : (⟨S2048, .i1⟩ : BufTy).Contents (Elt F) := W7 m ρ c (Proc.devRef .tc main_call0_v127)
/-- What `main_call0_c_38` holds after the stretch. -/
def h3_c_38 : (⟨S_, .i32⟩ : BufTy).Contents (Elt F) := W7 m ρ c (Proc.devRef .tc main_call0_c_38)
/-- What `main_call0_v128` holds after the stretch. -/
def h3_v128 : (⟨S2048, .i32⟩ : BufTy).Contents (Elt F) := W7 m ρ c (Proc.devRef .tc main_call0_v128)
/-- What `main_call0_v129` holds after the stretch. -/
def h3_v129 : (⟨S2048, .i32⟩ : BufTy).Contents (Elt F) := W7 m ρ c (Proc.devRef .tc main_call0_v129)
/-- What `main_call0_v130` holds after the stretch. -/
def h3_v130 : (⟨S2048, .i32⟩ : BufTy).Contents (Elt F) := W7 m ρ c (Proc.devRef .tc main_call0_v130)
/-- What `main_call0_v131` holds after the stretch. -/
def h3_v131 : (⟨S2048x1, .i32⟩ : BufTy).Contents (Elt F) := W7 m ρ c (Proc.devRef .tc main_call0_v131)
/-- What `main_call0_v125` holds after the stretch. -/
def h3_v125 : (⟨S2048x768, .f32⟩ : BufTy).Contents (Elt F) := W7 m ρ c (Proc.devRef .tc main_call0_v125)
/-- What `main_call0_v132` holds after the stretch. -/
def h3_v132 : (⟨S2048x768, .f32⟩ : BufTy).Contents (Elt F) := W7 m ρ c (Proc.devRef .tc main_call0_v132)
/-- What `main_v0_0` holds after the stretch. -/
def h3_main_v0_0 : (⟨S1x2048x768, .f32⟩ : BufTy).Contents (Elt F) := W7 m ρ c (Proc.devRef .tc main_v0_0)

/-- Operation 0 of the stretch. -/
theorem h3_c_37_eq : h3_c_37 m ρ c = (constantI S_ 32 0#32) :=
  read_nullary hostOps3_map 0 (.of main_call0_c_37 : StableHlo.TRef sig ⟨S_, .i32⟩) (constantI S_ 32 0#32) rfl (by decide +kernel) (W6 m ρ c)
/-- Operation 1 of the stretch. -/
theorem h3_v126_eq : h3_v126 m ρ c = (broadcastInDim S2048 ![] bcast_S_S2048) (h3_c_37 m ρ c) :=
  read_unary hostOps3_map 1 (.of main_call0_c_37 : StableHlo.TRef sig ⟨S_, .i32⟩) (.of main_call0_v126 : StableHlo.TRef sig ⟨S2048, .i32⟩) (broadcastInDim S2048 ![] bcast_S_S2048) rfl (by decide +kernel) (by decide +kernel) (W6 m ρ c)
/-- Operation 2 of the stretch. -/
theorem h3_v127_eq : h3_v127 m ρ c = (cmpi .slt) (h3_v61 m ρ c) (h3_v126 m ρ c) :=
  read_binary hostOps3_map 2 (.of main_call0_v61 : StableHlo.TRef sig ⟨S2048, .i32⟩) (.of main_call0_v126 : StableHlo.TRef sig ⟨S2048, .i32⟩) (.of main_call0_v127 : StableHlo.TRef sig ⟨S2048, .i1⟩) (cmpi .slt) rfl (by decide +kernel) (by decide +kernel) (by decide +kernel) (W6 m ρ c)
/-- Operation 3 of the stretch. -/
theorem h3_c_38_eq : h3_c_38 m ρ c = (constantI S_ 32 2048#32) :=
  read_nullary hostOps3_map 3 (.of main_call0_c_38 : StableHlo.TRef sig ⟨S_, .i32⟩) (constantI S_ 32 2048#32) rfl (by decide +kernel) (W6 m ρ c)
/-- Operation 4 of the stretch. -/
theorem h3_v128_eq : h3_v128 m ρ c = (broadcastInDim S2048 ![] bcast_S_S2048) (h3_c_38 m ρ c) :=
  read_unary hostOps3_map 4 (.of main_call0_c_38 : StableHlo.TRef sig ⟨S_, .i32⟩) (.of main_call0_v128 : StableHlo.TRef sig ⟨S2048, .i32⟩) (broadcastInDim S2048 ![] bcast_S_S2048) rfl (by decide +kernel) (by decide +kernel) (W6 m ρ c)
/-- Operation 5 of the stretch. -/
theorem h3_v129_eq : h3_v129 m ρ c = addi (h3_v61 m ρ c) (h3_v128 m ρ c) :=
  read_binary hostOps3_map 5 (.of main_call0_v61 : StableHlo.TRef sig ⟨S2048, .i32⟩) (.of main_call0_v128 : StableHlo.TRef sig ⟨S2048, .i32⟩) (.of main_call0_v129 : StableHlo.TRef sig ⟨S2048, .i32⟩) (addi) rfl (by decide +kernel) (by decide +kernel) (by decide +kernel) (W6 m ρ c)
/-- Operation 6 of the stretch. -/
theorem h3_v130_eq : h3_v130 m ρ c = select (h3_v127 m ρ c) (h3_v129 m ρ c) (h3_v61 m ρ c) :=
  read_ternary hostOps3_map 6 (.of main_call0_v127 : StableHlo.TRef sig ⟨S2048, .i1⟩) (.of main_call0_v129 : StableHlo.TRef sig ⟨S2048, .i32⟩) (.of main_call0_v61 : StableHlo.TRef sig ⟨S2048, .i32⟩) (.of main_call0_v130 : StableHlo.TRef sig ⟨S2048, .i32⟩) (select) rfl (by decide +kernel) (by decide +kernel) (by decide +kernel) (by decide +kernel) (W6 m ρ c)
/-- Operation 7 of the stretch. -/
theorem h3_v131_eq : h3_v131 m ρ c = (broadcastInDim S2048x1 ![0] bcast_S2048_S2048x1_0) (h3_v130 m ρ c) :=
  read_unary hostOps3_map 7 (.of main_call0_v130 : StableHlo.TRef sig ⟨S2048, .i32⟩) (.of main_call0_v131 : StableHlo.TRef sig ⟨S2048x1, .i32⟩) (broadcastInDim S2048x1 ![0] bcast_S2048_S2048x1_0) rfl (by decide +kernel) (by decide +kernel) (W6 m ρ c)
/-- Operation 8 of the stretch. -/
theorem h3_v132_eq : h3_v132 m ρ c = (fun x i => Host.gather gather_S2048x768_S2048x1_S2048x768_1_0_n_n_0_1_1768 x i) (h3_v125 m ρ c) (h3_v131 m ρ c) :=
  read_binary hostOps3_map 8 (.of main_call0_v125 : StableHlo.TRef sig ⟨S2048x768, .f32⟩) (.of main_call0_v131 : StableHlo.TRef sig ⟨S2048x1, .i32⟩) (.of main_call0_v132 : StableHlo.TRef sig ⟨S2048x768, .f32⟩) (fun x i => Host.gather gather_S2048x768_S2048x1_S2048x768_1_0_n_n_0_1_1768 x i) rfl (by decide +kernel) (by decide +kernel) (by decide +kernel) (W6 m ρ c)
/-- Operation 9 of the stretch. -/
theorem h3_main_v0_0_eq : h3_main_v0_0 m ρ c = shapeCast S1x2048x768 (h3_v132 m ρ c) shapeCasts_S2048x768_S1x2048x768 :=
  read_reshape hostOps3_map 9 main_call0_v132 main_v0_0 rfl _ _ _ rfl (by decide +kernel) (by decide +kernel) (W6 m ρ c)

end Cert.KernelIdeal.Val

end
-- ==== Proof.Region2.lean ====
/- What the collaboration region's body computes at a row of its block: each of the values it names, as the one token's
   collaboration of that row. -/
module

public import proofs.«01_k».proof.Proof.Gen.KernelIdeal.Frame
public import proofs.«01_k».proof.Proof.Collab

@[expose] public section

set_option maxRecDepth 16384

noncomputable section

namespace Cert.KernelIdeal.Val

open Cert.KernelIdeal.Gen Cert.Collab
open Idealize.ShloMosaic

variable (x0 : Vec Ideal S512x768 .f32) (x1 : Vec Ideal S512x1 .f32) (x2 : Vec Ideal S1x768 .f32) (x3 : Vec Ideal S2304x768 .f32) (x4 : Vec Ideal S1x2304 .f32) (x5 : Vec Ideal S768x768 .f32) (x6 : Vec Ideal S1x768 .f32) (x7 : Vec Ideal S1x768 .f32) (x8 : Vec Ideal S1x768 .f32) (x9 : Vec Ideal S768x768 .f32) (x10 : Vec Ideal S768x768 .f32) (x11 : Vec Ideal S1x768 .f32) (x12 : Vec Ideal S1x1 .f32) (x13 : Vec Ideal S768x768 .f32)

/-- The parameters the region's blocks hold. -/
def par : Par where
  med c := x2 (ix2 (0 : Fin 1) c)
  wi j c := x3 (ix2 j c)
  bi j := x4 (ix2 (0 : Fin 1) j)
  wo j c := x5 (ix2 j c)
  bo c := x6 (ix2 (0 : Fin 1) c)
  n1 c := x7 (ix2 (0 : Fin 1) c)
  n2 c := x8 (ix2 (0 : Fin 1) c)
  w1 j c := x9 (ix2 j c)
  w2 j c := x10 (ix2 j c)
  fw c := x11 (ix2 (0 : Fin 1) c)
  fb := x12 (ix2 (0 : Fin 1) (0 : Fin 1))
  wop j c := x13 (ix2 j c)
  cs := Named.named (F := Ideal) (φ := FTy.f32) κ "inv_sqrt_dh" 1033096506#32
  st := Named.named (F := Ideal) (φ := FTy.f32) κ "sqrt_two" 1068827891#32

/-- The expert's state of row `r` at the start. -/
def st1 (r : Fin 512) : Row := start (x1 (ix2 r (0 : Fin 1))) (fun c => x0 (ix2 r c))

/-- The offset `[0, 0]` is zero in each axis. -/
theorem hz : ![0, 0] = fun _ : Fin 2 => 0 := funext fun a => by fin_cases a <;> rfl

/-- A whole block read through its whole rectangle is the block. -/
theorem ld_r0 (x : Vec Ideal S512x1 .f32) : View.ld x r2_0 = x := View.ld_unit_zero hz _ x
/-- A whole block read through its whole rectangle is the block. -/
theorem ld_r1 (x : Vec Ideal S512x768 .f32) : View.ld x r2_1 = x := View.ld_unit_zero hz _ x
/-- A whole block read through its whole rectangle is the block. -/
theorem ld_r2 (x : Vec Ideal S1x768 .f32) : View.ld x r2_2 = x := View.ld_unit_zero hz _ x
/-- A whole block read through its whole rectangle is the block. -/
theorem ld_r3 (x : Vec Ideal S2304x768 .f32) : View.ld x r2_3 = x := View.ld_unit_zero hz _ x
/-- A whole block read through its whole rectangle is the block. -/
theorem ld_r4 (x : Vec Ideal S1x2304 .f32) : View.ld x r2_4 = x := View.ld_unit_zero hz _ x
/-- A whole block read through its whole rectangle is the block. -/
theorem ld_r5 (x : Vec Ideal S768x768 .f32) : View.ld x r2_5 = x := View.ld_unit_zero hz _ x
/-- A whole block read through its whole rectangle is the block. -/
theorem ld_r6 (x : Vec Ideal S1x1 .f32) : View.ld x r2_6 = x := View.ld_unit_zero hz _ x

/-- A lane's bit for a head, converted, is one in the head's lanes and zero elsewhere. -/
theorem lane_bit (h : Fin 4) (lo hi : BitVec 32)
    (e : ∀ c : Fin 768, BitVec.setWidth 32 (IntOp.andi (IntOp.cmpi CmpIPredicate.sge (BitVec.ofNat 32 c.val) lo) (IntOp.cmpi CmpIPredicate.slt (BitVec.ofNat 32 c.val) hi)) = if 192 * h.val ≤ c.val ∧ c.val < 192 * h.val + 192 then 1#32 else 0#32) (c : Fin 768) :
    FloatOps.sitofp (F := Ideal) FTy.f32 (BitVec.setWidth 32 (IntOp.andi (IntOp.cmpi CmpIPredicate.sge (BitVec.ofNat 32 c.val) lo) (IntOp.cmpi CmpIPredicate.slt (BitVec.ofNat 32 c.val) hi))) = msk h c := by
  rw [e c]; unfold msk; split
  · show (((1#32 : BitVec 32).toInt : ℝ) : EReal) = 1
    norm_num
  · show (((0#32 : BitVec 32).toInt : ℝ) : EReal) = 0
    norm_num

/-- The value `k2_pay204` at an index, for the row it belongs to. -/
theorem pay204_at (r : Fin 512) (c : Fin 768) :
    k2_pay204 x0 x1 x2 x3 x4 x5 x6 x7 x8 x9 x10 x11 x12 x13 (ix2 r c) = (st1 x0 x1 r) c := by
  unfold k2_pay204
  pointwise [k2_pay2, ld_r0, ld_r1, ld_r2, ld_r3, ld_r4, ld_r5, ld_r6]
  rfl

/-- The value `k2_pay205` at an index, for the row it belongs to. -/
theorem pay205_at (r : Fin 512) (c : Fin 768) :
    k2_pay205 x0 x1 x2 x3 x4 x5 x6 x7 x8 x9 x10 x11 x12 x13 (ix2 r c) = ((par x2 x3 x4 x5 x6 x7 x8 x9 x10 x11 x12 x13).med) c := by
  unfold k2_pay205
  pointwise [k2_pay3, ld_r0, ld_r1, ld_r2, ld_r3, ld_r4, ld_r5, ld_r6]
  rfl

/-- The value `k2_pay206` at an index, for the row it belongs to. -/
theorem pay206_at (c : Fin 768) :
    k2_pay206 x0 x1 x2 x3 x4 x5 x6 x7 x8 x9 x10 x11 x12 x13 (ix2 (0 : Fin 1) c) = (par x2 x3 x4 x5 x6 x7 x8 x9 x10 x11 x12 x13).n1 c := by
  unfold k2_pay206
  pointwise [k2_pay4, ld_r0, ld_r1, ld_r2, ld_r3, ld_r4, ld_r5, ld_r6]
  rfl

/-- The value `k2_pay207` at an index, for the row it belongs to. -/
theorem pay207_at (c : Fin 768) :
    k2_pay207 x0 x1 x2 x3 x4 x5 x6 x7 x8 x9 x10 x11 x12 x13 (ix2 (0 : Fin 1) c) = (par x2 x3 x4 x5 x6 x7 x8 x9 x10 x11 x12 x13).n2 c := by
  unfold k2_pay207
  pointwise [k2_pay5, ld_r0, ld_r1, ld_r2, ld_r3, ld_r4, ld_r5, ld_r6]
  rfl

/-- The value `k2_pay208` at an index, for the row it belongs to. -/
theorem pay208_at (j : Fin 2304) (c : Fin 768) :
    k2_pay208 x0 x1 x2 x3 x4 x5 x6 x7 x8 x9 x10 x11 x12 x13 (ix2 j c) = (par x2 x3 x4 x5 x6 x7 x8 x9 x10 x11 x12 x13).wi j c := by
  unfold k2_pay208
  pointwise [k2_pay6, ld_r0, ld_r1, ld_r2, ld_r3, ld_r4, ld_r5, ld_r6]
  rfl

/-- The value `k2_pay209` at an index, for the row it belongs to. -/
theorem pay209_at (j : Fin 2304) :
    k2_pay209 x0 x1 x2 x3 x4 x5 x6 x7 x8 x9 x10 x11 x12 x13 (ix2 (0 : Fin 1) j) = (par x2 x3 x4 x5 x6 x7 x8 x9 x10 x11 x12 x13).bi j := by
  unfold k2_pay209
  pointwise [k2_pay7, ld_r0, ld_r1, ld_r2, ld_r3, ld_r4, ld_r5, ld_r6]
  rfl

/-- The value `k2_pay210` at an index, for the row it belongs to. -/
theorem pay210_at (j c : Fin 768) :
    k2_pay210 x0 x1 x2 x3 x4 x5 x6 x7 x8 x9 x10 x11 x12 x13 (ix2 j c) = (par x2 x3 x4 x5 x6 x7 x8 x9 x10 x11 x12 x13).wo j c := by
  unfold k2_pay210
  pointwise [k2_pay8, ld_r0, ld_r1, ld_r2, ld_r3, ld_r4, ld_r5, ld_r6]
  rfl

/-- The value `k2_pay211` at an index, for the row it belongs to. -/
theorem pay211_at (c : Fin 768) :
    k2_pay211 x0 x1 x2 x3 x4 x5 x6 x7 x8 x9 x10 x11 x12 x13 (ix2 (0 : Fin 1) c) = (par x2 x3 x4 x5 x6 x7 x8 x9 x10 x11 x12 x13).bo c := by
  unfold k2_pay211
  pointwise [k2_pay9, ld_r0, ld_r1, ld_r2, ld_r3, ld_r4, ld_r5, ld_r6]
  rfl

/-- The value `k2_pay212` at an index, for the row it belongs to. -/
theorem pay212_at (j c : Fin 768) :
    k2_pay212 x0 x1 x2 x3 x4 x5 x6 x7 x8 x9 x10 x11 x12 x13 (ix2 j c) = (par x2 x3 x4 x5 x6 x7 x8 x9 x10 x11 x12 x13).w1 j c := by
  unfold k2_pay212
  pointwise [k2_pay10, ld_r0, ld_r1, ld_r2, ld_r3, ld_r4, ld_r5, ld_r6]
  rfl

/-- The value `k2_pay213` at an index, for the row it belongs to. -/
theorem pay213_at (j c : Fin 768) :
    k2_pay213 x0 x1 x2 x3 x4 x5 x6 x7 x8 x9 x10 x11 x12 x13 (ix2 j c) = (par x2 x3 x4 x5 x6 x7 x8 x9 x10 x11 x12 x13).w2 j c := by
  unfold k2_pay213
  pointwise [k2_pay11, ld_r0, ld_r1, ld_r2, ld_r3, ld_r4, ld_r5, ld_r6]
  rfl

/-- The value `k2_pay214` at an index, for the row it belongs to. -/
theorem pay214_at (c : Fin 768) :
    k2_pay214 x0 x1 x2 x3 x4 x5 x6 x7 x8 x9 x10 x11 x12 x13 (ix2 (0 : Fin 1) c) = msk 0 c := by
  unfold k2_pay214
  pointwise [k2_pay12]
  exact lane_bit 0 0#32 192#32 (by decide +kernel) c

/-- The value `k2_pay215` at an index, for the row it belongs to. -/
theorem pay215_at (c : Fin 768) :
    k2_pay215 x0 x1 x2 x3 x4 x5 x6 x7 x8 x9 x10 x11 x12 x13 (ix2 (0 : Fin 1) c) = msk 1 c := by
  unfold k2_pay215
  pointwise [k2_pay13, k2_pay203]
  exact lane_bit 1 192#32 384#32 (by decide +kernel) c

/-- The value `k2_pay216` at an index, for the row it belongs to. -/
theorem pay216_at (c : Fin 768) :
    k2_pay216 x0 x1 x2 x3 x4 x5 x6 x7 x8 x9 x10 x11 x12 x13 (ix2 (0 : Fin 1) c) = msk 2 c := by
  unfold k2_pay216
  pointwise [k2_pay14, k2_pay203]
  exact lane_bit 2 384#32 576#32 (by decide +kernel) c

/-- The value `k2_pay217` at an index, for the row it belongs to. -/
theorem pay217_at (c : Fin 768) :
    k2_pay217 x0 x1 x2 x3 x4 x5 x6 x7 x8 x9 x10 x11 x12 x13 (ix2 (0 : Fin 1) c) = msk 3 c := by
  unfold k2_pay217
  pointwise [k2_pay15, k2_pay203]
  exact lane_bit 3 576#32 768#32 (by decide +kernel) c

/-- The value `k2_pay218` at an index, for the row it belongs to. -/
theorem pay218_at (r : Fin 512) (c : Fin 768) :
    k2_pay218 x0 x1 x2 x3 x4 x5 x6 x7 x8 x9 x10 x11 x12 x13 (ix2 r c) = rms (par x2 x3 x4 x5 x6 x7 x8 x9 x10 x11 x12 x13).n1 (st1 x0 x1 r) c := by
  unfold k2_pay218
  pointwise [k2_pay16]
  simp only [pay204_at, pay206_at]
  first | rfl | (simp only [rms, msq]; done) | (simp only [rms, msq]; rfl)

/-- The value `k2_pay219` at an index, for the row it belongs to. -/
theorem pay219_at (r : Fin 512) (j : Fin 2304) :
    k2_pay219 x0 x1 x2 x3 x4 x5 x6 x7 x8 x9 x10 x11 x12 x13 (ix2 r j) = lin (par x2 x3 x4 x5 x6 x7 x8 x9 x10 x11 x12 x13).wi (rms (par x2 x3 x4 x5 x6 x7 x8 x9 x10 x11 x12 x13).n1 ((par x2 x3 x4 x5 x6 x7 x8 x9 x10 x11 x12 x13).med)) j := by
  unfold k2_pay219
  pointwise [k2_pay17]
  simp only [pay205_at, pay206_at, pay208_at]
  first | rfl | (simp only [lin, rms, msq]; done) | (simp only [lin, rms, msq]; rfl)

/-- The value `k2_pay220` at an index, for the row it belongs to. -/
theorem pay220_at (r : Fin 512) (c : Fin 768) :
    k2_pay220 x0 x1 x2 x3 x4 x5 x6 x7 x8 x9 x10 x11 x12 x13 (ix2 r c) = vp (par x2 x3 x4 x5 x6 x7 x8 x9 x10 x11 x12 x13) ((par x2 x3 x4 x5 x6 x7 x8 x9 x10 x11 x12 x13).med) c := by
  unfold k2_pay220
  pointwise [k2_pay22, k2_pay18]
  simp only [pay209_at, pay219_at]
  first | rfl | (simp only [vp, qkv]; done) | (simp only [vp, qkv]; rfl)

/-- The value `k2_pay221` at an index, for the row it belongs to. -/
theorem pay221_at (r : Fin 512) (c : Fin 768) :
    k2_pay221 x0 x1 x2 x3 x4 x5 x6 x7 x8 x9 x10 x11 x12 x13 (ix2 r c) = qp (par x2 x3 x4 x5 x6 x7 x8 x9 x10 x11 x12 x13) (st1 x0 x1 r) c := by
  unfold k2_pay221
  pointwise [k2_pay23, k2_pay19]
  simp only [pay208_at, pay209_at, pay218_at]
  first | rfl | (simp only [qp, qkv, lin]; done) | (simp only [qp, qkv, lin]; rfl)

/-- The value `k2_pay222` at an index, for the row it belongs to. -/
theorem pay222_at (r : Fin 512) (c : Fin 768) :
    k2_pay222 x0 x1 x2 x3 x4 x5 x6 x7 x8 x9 x10 x11 x12 x13 (ix2 r c) = kp (par x2 x3 x4 x5 x6 x7 x8 x9 x10 x11 x12 x13) (st1 x0 x1 r) c := by
  unfold k2_pay222
  pointwise [k2_pay24, k2_pay19]
  simp only [pay208_at, pay209_at, pay218_at]
  first | rfl | (simp only [kp, qkv, lin]; done) | (simp only [kp, qkv, lin]; rfl)

/-- The value `k2_pay223` at an index, for the row it belongs to. -/
theorem pay223_at (r : Fin 512) (c : Fin 768) :
    k2_pay223 x0 x1 x2 x3 x4 x5 x6 x7 x8 x9 x10 x11 x12 x13 (ix2 r c) = vp (par x2 x3 x4 x5 x6 x7 x8 x9 x10 x11 x12 x13) (st1 x0 x1 r) c := by
  unfold k2_pay223
  pointwise [k2_pay25, k2_pay19]
  simp only [pay208_at, pay209_at, pay218_at]
  first | rfl | (simp only [vp, qkv, lin]; done) | (simp only [vp, qkv, lin]; rfl)

/-- The value `k2_pay224` at an index, for the row it belongs to. -/
theorem pay224_at (r : Fin 512)  :
    k2_pay224 x0 x1 x2 x3 x4 x5 x6 x7 x8 x9 x10 x11 x12 x13 (ix2 r (0 : Fin 1)) = hdot (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) 0 := by
  unfold k2_pay224
  pointwise [k2_pay27, k2_pay26, k2_pay20, k2_pay21, k2_pay18]
  simp only [pay209_at, pay214_at, pay219_at]
  first | rfl | (simp only [hdot, qp, kp, qkv, lin]; done) | (simp only [hdot, qp, kp, qkv, lin]; rfl)

/-- The value `k2_pay225` at an index, for the row it belongs to. -/
theorem pay225_at (r : Fin 512)  :
    k2_pay225 x0 x1 x2 x3 x4 x5 x6 x7 x8 x9 x10 x11 x12 x13 (ix2 r (0 : Fin 1)) = hdot (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) 1 := by
  unfold k2_pay225
  pointwise [k2_pay28, k2_pay26, k2_pay20, k2_pay21, k2_pay18]
  simp only [pay209_at, pay215_at, pay219_at]
  first | rfl | (simp only [hdot, qp, kp, qkv, lin]; done) | (simp only [hdot, qp, kp, qkv, lin]; rfl)

/-- The value `k2_pay226` at an index, for the row it belongs to. -/
theorem pay226_at (r : Fin 512)  :
    k2_pay226 x0 x1 x2 x3 x4 x5 x6 x7 x8 x9 x10 x11 x12 x13 (ix2 r (0 : Fin 1)) = hdot (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) 2 := by
  unfold k2_pay226
  pointwise [k2_pay29, k2_pay26, k2_pay20, k2_pay21, k2_pay18]
  simp only [pay209_at, pay216_at, pay219_at]
  first | rfl | (simp only [hdot, qp, kp, qkv, lin]; done) | (simp only [hdot, qp, kp, qkv, lin]; rfl)

/-- The value `k2_pay227` at an index, for the row it belongs to. -/
theorem pay227_at (r : Fin 512)  :
    k2_pay227 x0 x1 x2 x3 x4 x5 x6 x7 x8 x9 x10 x11 x12 x13 (ix2 r (0 : Fin 1)) = hdot (qp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r)) 0 := by
  unfold k2_pay227
  pointwise [k2_pay32, k2_pay31, k2_pay20, k2_pay24, k2_pay19, k2_pay18]
  simp only [pay208_at, pay209_at, pay214_at, pay218_at, pay219_at]
  first | rfl | (simp only [hdot, qp, kp, qkv, lin]; done) | (simp only [hdot, qp, kp, qkv, lin]; rfl)

/-- The value `k2_pay228` at an index, for the row it belongs to. -/
theorem pay228_at (r : Fin 512)  :
    k2_pay228 x0 x1 x2 x3 x4 x5 x6 x7 x8 x9 x10 x11 x12 x13 (ix2 r (0 : Fin 1)) = hdot (qp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r)) 1 := by
  unfold k2_pay228
  pointwise [k2_pay33, k2_pay31, k2_pay20, k2_pay24, k2_pay19, k2_pay18]
  simp only [pay208_at, pay209_at, pay215_at, pay218_at, pay219_at]
  first | rfl | (simp only [hdot, qp, kp, qkv, lin]; done) | (simp only [hdot, qp, kp, qkv, lin]; rfl)

/-- The value `k2_pay229` at an index, for the row it belongs to. -/
theorem pay229_at (r : Fin 512)  :
    k2_pay229 x0 x1 x2 x3 x4 x5 x6 x7 x8 x9 x10 x11 x12 x13 (ix2 r (0 : Fin 1)) = hdot (qp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r)) 2 := by
  unfold k2_pay229
  pointwise [k2_pay34, k2_pay31, k2_pay20, k2_pay24, k2_pay19, k2_pay18]
  simp only [pay208_at, pay209_at, pay216_at, pay218_at, pay219_at]
  first | rfl | (simp only [hdot, qp, kp, qkv, lin]; done) | (simp only [hdot, qp, kp, qkv, lin]; rfl)

/-- The value `k2_pay230` at an index, for the row it belongs to. -/
theorem pay230_at (r : Fin 512)  :
    k2_pay230 x0 x1 x2 x3 x4 x5 x6 x7 x8 x9 x10 x11 x12 x13 (ix2 r (0 : Fin 1)) = hdot (qp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r)) 3 := by
  unfold k2_pay230
  pointwise [k2_pay35, k2_pay31, k2_pay20, k2_pay24, k2_pay19, k2_pay18]
  simp only [pay208_at, pay209_at, pay217_at, pay218_at, pay219_at]
  first | rfl | (simp only [hdot, qp, kp, qkv, lin]; done) | (simp only [hdot, qp, kp, qkv, lin]; rfl)

/-- The value `k2_pay231` at an index, for the row it belongs to. -/
theorem pay231_at (r : Fin 512) (c : Fin 768) :
    k2_pay231 x0 x1 x2 x3 x4 x5 x6 x7 x8 x9 x10 x11 x12 x13 (ix2 r c) = (qp (par x2 x3 x4 x5 x6 x7 x8 x9 x10 x11 x12 x13) (st1 x0 x1 r)) c * (kp (par x2 x3 x4 x5 x6 x7 x8 x9 x10 x11 x12 x13) ((par x2 x3 x4 x5 x6 x7 x8 x9 x10 x11 x12 x13).med)) c := by
  unfold k2_pay231
  pointwise [k2_pay36, k2_pay23, k2_pay21, k2_pay18, k2_pay19]
  simp only [pay208_at, pay209_at, pay218_at, pay219_at]
  first | rfl | (simp only [qp, kp, qkv, lin]; done) | (simp only [qp, kp, qkv, lin]; rfl)

/-- The value `k2_pay232` at an index, for the row it belongs to. -/
theorem pay232_at (r : Fin 512)  :
    k2_pay232 x0 x1 x2 x3 x4 x5 x6 x7 x8 x9 x10 x11 x12 x13 (ix2 r (0 : Fin 1)) = hdot (qp (par x2 x3 x4 x5 x6 x7 x8 x9 x10 x11 x12 x13) (st1 x0 x1 r)) (kp (par x2 x3 x4 x5 x6 x7 x8 x9 x10 x11 x12 x13) ((par x2 x3 x4 x5 x6 x7 x8 x9 x10 x11 x12 x13).med)) 1 := by
  unfold k2_pay232
  pointwise [k2_pay38]
  simp only [pay215_at, pay231_at]
  first | rfl | (simp only [hdot]; done) | (simp only [hdot]; rfl)

/-- The value `k2_pay233` at an index, for the row it belongs to. -/
theorem pay233_at (r : Fin 512)  :
    k2_pay233 x0 x1 x2 x3 x4 x5 x6 x7 x8 x9 x10 x11 x12 x13 (ix2 r (0 : Fin 1)) = hdot (qp (par x2 x3 x4 x5 x6 x7 x8 x9 x10 x11 x12 x13) (st1 x0 x1 r)) (kp (par x2 x3 x4 x5 x6 x7 x8 x9 x10 x11 x12 x13) ((par x2 x3 x4 x5 x6 x7 x8 x9 x10 x11 x12 x13).med)) 2 := by
  unfold k2_pay233
  pointwise [k2_pay39]
  simp only [pay216_at, pay231_at]
  first | rfl | (simp only [hdot]; done) | (simp only [hdot]; rfl)

/-- The value `k2_pay234` at an index, for the row it belongs to. -/
theorem pay234_at (r : Fin 512)  :
    k2_pay234 x0 x1 x2 x3 x4 x5 x6 x7 x8 x9 x10 x11 x12 x13 (ix2 r (0 : Fin 1)) = hdot (qp (par x2 x3 x4 x5 x6 x7 x8 x9 x10 x11 x12 x13) (st1 x0 x1 r)) (kp (par x2 x3 x4 x5 x6 x7 x8 x9 x10 x11 x12 x13) (st1 x0 x1 r)) 1 := by
  unfold k2_pay234
  pointwise [k2_pay42, k2_pay41]
  simp only [pay215_at, pay221_at, pay222_at]
  first | rfl | (simp only [hdot]; done) | (simp only [hdot]; rfl)

/-- The value `k2_pay235` at an index, for the row it belongs to. -/
theorem pay235_at (r : Fin 512)  :
    k2_pay235 x0 x1 x2 x3 x4 x5 x6 x7 x8 x9 x10 x11 x12 x13 (ix2 r (0 : Fin 1)) = hdot (qp (par x2 x3 x4 x5 x6 x7 x8 x9 x10 x11 x12 x13) (st1 x0 x1 r)) (kp (par x2 x3 x4 x5 x6 x7 x8 x9 x10 x11 x12 x13) (st1 x0 x1 r)) 2 := by
  unfold k2_pay235
  pointwise [k2_pay43, k2_pay41]
  simp only [pay216_at, pay221_at, pay222_at]
  first | rfl | (simp only [hdot]; done) | (simp only [hdot]; rfl)

/-- The value `k2_pay236` at an index, for the row it belongs to. -/
theorem pay236_at (r : Fin 512)  :
    k2_pay236 x0 x1 x2 x3 x4 x5 x6 x7 x8 x9 x10 x11 x12 x13 (ix2 r (0 : Fin 1)) = sc (par x2 x3 x4 x5 x6 x7 x8 x9 x10 x11 x12 x13) (qp (par x2 x3 x4 x5 x6 x7 x8 x9 x10 x11 x12 x13) (st1 x0 x1 r)) (kp (par x2 x3 x4 x5 x6 x7 x8 x9 x10 x11 x12 x13) ((par x2 x3 x4 x5 x6 x7 x8 x9 x10 x11 x12 x13).med)) 0 := by
  unfold k2_pay236
  pointwise [k2_pay51, k2_pay37, k2_pay36, k2_pay23, k2_pay21, k2_pay18, k2_pay19]
  simp only [pay208_at, pay209_at, pay214_at, pay218_at, pay219_at]
  first | rfl | (simp only [sc, hdot]; done) | (simp only [sc, hdot]; rfl)

/-- The value `k2_pay237` at an index, for the row it belongs to. -/
theorem pay237_at (r : Fin 512)  :
    k2_pay237 x0 x1 x2 x3 x4 x5 x6 x7 x8 x9 x10 x11 x12 x13 (ix2 r (0 : Fin 1)) = sc (par x2 x3 x4 x5 x6 x7 x8 x9 x10 x11 x12 x13) (qp (par x2 x3 x4 x5 x6 x7 x8 x9 x10 x11 x12 x13) (st1 x0 x1 r)) (kp (par x2 x3 x4 x5 x6 x7 x8 x9 x10 x11 x12 x13) (st1 x0 x1 r)) 0 := by
  unfold k2_pay237
  pointwise [k2_pay52, k2_pay41]
  simp only [pay214_at, pay221_at, pay222_at]
  first | rfl | (simp only [sc, hdot]; done) | (simp only [sc, hdot]; rfl)

/-- The value `k2_pay238` at an index, for the row it belongs to. -/
theorem pay238_at (r : Fin 512)  :
    k2_pay238 x0 x1 x2 x3 x4 x5 x6 x7 x8 x9 x10 x11 x12 x13 (ix2 r (0 : Fin 1)) = ex0 (sc (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) 0) (sc (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r)) 0) := by
  unfold k2_pay238
  pointwise [k2_pay54, k2_pay49, k2_pay53, k2_pay50]
  simp only [pay224_at, pay227_at]
  first | rfl | (simp only [ex0, sc]; done) | (simp only [ex0, sc]; rfl)

/-- The value `k2_pay239` at an index, for the row it belongs to. -/
theorem pay239_at (r : Fin 512)  :
    k2_pay239 x0 x1 x2 x3 x4 x5 x6 x7 x8 x9 x10 x11 x12 x13 (ix2 r (0 : Fin 1)) = (sc (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r)) 0) - max (sc (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) 0) (sc (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r)) 0) := by
  unfold k2_pay239
  pointwise [k2_pay55, k2_pay50, k2_pay53, k2_pay49]
  simp only [pay224_at, pay227_at]
  first | rfl | (simp only [sc]; done) | (simp only [sc]; rfl)

/-- The value `k2_pay240` at an index, for the row it belongs to. -/
theorem pay240_at (r : Fin 512)  :
    k2_pay240 x0 x1 x2 x3 x4 x5 x6 x7 x8 x9 x10 x11 x12 x13 (ix2 r (0 : Fin 1)) = ex0 (sc (par x2 x3 x4 x5 x6 x7 x8 x9 x10 x11 x12 x13) (qp (par x2 x3 x4 x5 x6 x7 x8 x9 x10 x11 x12 x13) (st1 x0 x1 r)) (kp (par x2 x3 x4 x5 x6 x7 x8 x9 x10 x11 x12 x13) ((par x2 x3 x4 x5 x6 x7 x8 x9 x10 x11 x12 x13).med)) 1) (sc (par x2 x3 x4 x5 x6 x7 x8 x9 x10 x11 x12 x13) (qp (par x2 x3 x4 x5 x6 x7 x8 x9 x10 x11 x12 x13) (st1 x0 x1 r)) (kp (par x2 x3 x4 x5 x6 x7 x8 x9 x10 x11 x12 x13) (st1 x0 x1 r)) 1) + ex1 (sc (par x2 x3 x4 x5 x6 x7 x8 x9 x10 x11 x12 x13) (qp (par x2 x3 x4 x5 x6 x7 x8 x9 x10 x11 x12 x13) (st1 x0 x1 r)) (kp (par x2 x3 x4 x5 x6 x7 x8 x9 x10 x11 x12 x13) ((par x2 x3 x4 x5 x6 x7 x8 x9 x10 x11 x12 x13).med)) 1) (sc (par x2 x3 x4 x5 x6 x7 x8 x9 x10 x11 x12 x13) (qp (par x2 x3 x4 x5 x6 x7 x8 x9 x10 x11 x12 x13) (st1 x0 x1 r)) (kp (par x2 x3 x4 x5 x6 x7 x8 x9 x10 x11 x12 x13) (st1 x0 x1 r)) 1) := by
  unfold k2_pay240
  pointwise [k2_pay76, k2_pay74, k2_pay75, k2_pay68, k2_pay73, k2_pay67]
  simp only [pay232_at, pay234_at]
  first | rfl | (simp only [ex0, ex1, sc]; done) | (simp only [ex0, ex1, sc]; rfl)

/-- The value `k2_pay241` at an index, for the row it belongs to. -/
theorem pay241_at (r : Fin 512) (c : Fin 768) :
    k2_pay241 x0 x1 x2 x3 x4 x5 x6 x7 x8 x9 x10 x11 x12 x13 (ix2 r c) = acc3 (aw0 (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r))) c := by
  unfold k2_pay241
  pointwise [k2_pay92, k2_pay77, k2_pay45, k2_pay57, k2_pay70, k2_pay72, k2_pay71, k2_pay66, k2_pay69, k2_pay65, k2_pay56, k2_pay85, k2_pay87, k2_pay86, k2_pay81, k2_pay84, k2_pay80]
  simp only [pay214_at, pay215_at, pay216_at, pay225_at, pay226_at, pay228_at, pay229_at, pay238_at, pay239_at]
  first | rfl | (simp only [acc3, aw0, aw1, wt0, wt1, ex0, ex1, sc]; done) | (simp only [acc3, aw0, aw1, wt0, wt1, ex0, ex1, sc]; rfl)

/-- The value `k2_pay242` at an index, for the row it belongs to. -/
theorem pay242_at (r : Fin 512) (c : Fin 768) :
    k2_pay242 x0 x1 x2 x3 x4 x5 x6 x7 x8 x9 x10 x11 x12 x13 (ix2 r c) = acc3 (aw1 (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) (kp (par x2 x3 x4 x5 x6 x7 x8 x9 x10 x11 x12 x13) (st1 x0 x1 r))) c := by
  unfold k2_pay242
  pointwise [k2_pay93, k2_pay62, k2_pay46, k2_pay78, k2_pay79, k2_pay71, k2_pay72, k2_pay70, k2_pay65, k2_pay69, k2_pay66, k2_pay56, k2_pay57, k2_pay86, k2_pay87, k2_pay85, k2_pay80, k2_pay84, k2_pay81]
  simp only [pay214_at, pay215_at, pay216_at, pay225_at, pay226_at, pay228_at, pay229_at, pay238_at, pay239_at]
  first | rfl | (simp only [acc3, aw0, aw1, wt0, wt1, ex0, ex1, sc]; done) | (simp only [acc3, aw0, aw1, wt0, wt1, ex0, ex1, sc]; rfl)

/-- The value `k2_pay243` at an index, for the row it belongs to. -/
theorem pay243_at (r : Fin 512)  :
    k2_pay243 x0 x1 x2 x3 x4 x5 x6 x7 x8 x9 x10 x11 x12 x13 (ix2 r (0 : Fin 1)) = sc (par x2 x3 x4 x5 x6 x7 x8 x9 x10 x11 x12 x13) (qp (par x2 x3 x4 x5 x6 x7 x8 x9 x10 x11 x12 x13) ((par x2 x3 x4 x5 x6 x7 x8 x9 x10 x11 x12 x13).med)) (kp (par x2 x3 x4 x5 x6 x7 x8 x9 x10 x11 x12 x13) ((par x2 x3 x4 x5 x6 x7 x8 x9 x10 x11 x12 x13).med)) 3 := by
  unfold k2_pay243
  pointwise [k2_pay96, k2_pay30, k2_pay26, k2_pay20, k2_pay21, k2_pay18]
  simp only [pay209_at, pay217_at, pay219_at]
  first | rfl | (simp only [sc, hdot, qp, kp, qkv]; done) | (simp only [sc, hdot, qp, kp, qkv]; rfl)

/-- The value `k2_pay244` at an index, for the row it belongs to. -/
theorem pay244_at (r : Fin 512) (c : Fin 768) :
    k2_pay244 x0 x1 x2 x3 x4 x5 x6 x7 x8 x9 x10 x11 x12 x13 (ix2 r c) = (proj (par x2 x3 x4 x5 x6 x7 x8 x9 x10 x11 x12 x13) (st1 x0 x1 r) ((par x2 x3 x4 x5 x6 x7 x8 x9 x10 x11 x12 x13).med) (st1 x0 x1 r)) c := by
  unfold k2_pay244
  pointwise [k2_pay98, k2_pay40, k2_pay44, k2_pay94, k2_pay63, k2_pay47, k2_pay74, k2_pay95, k2_pay64, k2_pay48, k2_pay75, k2_pay68, k2_pay73, k2_pay67, k2_pay60, k2_pay61, k2_pay59, k2_pay58, k2_pay90, k2_pay91, k2_pay89, k2_pay82, k2_pay88, k2_pay83, k2_pay41]
  simp only [pay204_at, pay210_at, pay211_at, pay214_at, pay215_at, pay216_at, pay217_at, pay220_at, pay221_at, pay222_at, pay223_at, pay231_at, pay232_at, pay233_at, pay234_at, pay235_at, pay236_at, pay237_at, pay240_at]
  first | rfl | (simp only [proj, attOf, att, acc4, acc3, lin, aw0, aw1, wt0, wt1, ex0, ex1, sc, hdot]; done) | (simp only [proj, attOf, att, acc4, acc3, lin, aw0, aw1, wt0, wt1, ex0, ex1, sc, hdot]; rfl)

/-- The value `k2_pay245` at an index, for the row it belongs to. -/
theorem pay245_at (r : Fin 512) (c : Fin 768) :
    k2_pay245 x0 x1 x2 x3 x4 x5 x6 x7 x8 x9 x10 x11 x12 x13 (ix2 r c) = (a0 (par x2 x3 x4 x5 x6 x7 x8 x9 x10 x11 x12 x13) (st1 x0 x1 r)) c := by
  unfold k2_pay245
  pointwise [k2_pay100, k2_pay97, k2_pay99]
  simp only [pay205_at, pay207_at, pay210_at, pay211_at, pay212_at, pay213_at, pay217_at, pay220_at, pay223_at, pay230_at, pay241_at, pay242_at, pay243_at]
  first | rfl | (simp only [a0, stp, ffn, act, gelu, hid, rms, msq, proj, attOf, att, acc4, lin, aw0, aw1, wt0, wt1, ex0, ex1, sc]; done) | (simp only [a0, stp, ffn, act, gelu, hid, rms, msq, proj, attOf, att, acc4, lin, aw0, aw1, wt0, wt1, ex0, ex1, sc]; rfl)

/-- The value `k2_pay246` at an index, for the row it belongs to. -/
theorem pay246_at (r : Fin 512) (c : Fin 768) :
    k2_pay246 x0 x1 x2 x3 x4 x5 x6 x7 x8 x9 x10 x11 x12 x13 (ix2 r c) = act (par x2 x3 x4 x5 x6 x7 x8 x9 x10 x11 x12 x13) (proj (par x2 x3 x4 x5 x6 x7 x8 x9 x10 x11 x12 x13) (st1 x0 x1 r) ((par x2 x3 x4 x5 x6 x7 x8 x9 x10 x11 x12 x13).med) (st1 x0 x1 r)) c := by
  unfold k2_pay246
  pointwise [k2_pay101]
  simp only [pay207_at, pay212_at, pay244_at]
  first | rfl | (simp only [act, gelu, hid, rms, msq, lin]; done) | (simp only [act, gelu, hid, rms, msq, lin]; rfl)

/-- The value `k2_pay247` at an index, for the row it belongs to. -/
theorem pay247_at (r : Fin 512) (c : Fin 768) :
    k2_pay247 x0 x1 x2 x3 x4 x5 x6 x7 x8 x9 x10 x11 x12 x13 (ix2 r c) = (a1 (par x2 x3 x4 x5 x6 x7 x8 x9 x10 x11 x12 x13) (st1 x0 x1 r)) c := by
  unfold k2_pay247
  pointwise [k2_pay102]
  simp only [pay213_at, pay244_at, pay246_at]
  first | rfl | (simp only [a1, stp, ffn, lin]; done) | (simp only [a1, stp, ffn, lin]; rfl)

/-- The value `k2_pay248` at an index, for the row it belongs to. -/
theorem pay248_at (r : Fin 512) (c : Fin 768) :
    k2_pay248 x0 x1 x2 x3 x4 x5 x6 x7 x8 x9 x10 x11 x12 x13 (ix2 r c) = (qp (par x2 x3 x4 x5 x6 x7 x8 x9 x10 x11 x12 x13) (a0 (par x2 x3 x4 x5 x6 x7 x8 x9 x10 x11 x12 x13) (st1 x0 x1 r))) c := by
  unfold k2_pay248
  pointwise [k2_pay105, k2_pay103]
  simp only [pay206_at, pay208_at, pay209_at, pay245_at]
  first | rfl | (simp only [qp, qkv, lin, rms, msq]; done) | (simp only [qp, qkv, lin, rms, msq]; rfl)

/-- The value `k2_pay249` at an index, for the row it belongs to. -/
theorem pay249_at (r : Fin 512) (c : Fin 768) :
    k2_pay249 x0 x1 x2 x3 x4 x5 x6 x7 x8 x9 x10 x11 x12 x13 (ix2 r c) = (kp (par x2 x3 x4 x5 x6 x7 x8 x9 x10 x11 x12 x13) (a0 (par x2 x3 x4 x5 x6 x7 x8 x9 x10 x11 x12 x13) (st1 x0 x1 r))) c := by
  unfold k2_pay249
  pointwise [k2_pay106, k2_pay103]
  simp only [pay206_at, pay208_at, pay209_at, pay245_at]
  first | rfl | (simp only [kp, qkv, lin, rms, msq]; done) | (simp only [kp, qkv, lin, rms, msq]; rfl)

/-- The value `k2_pay250` at an index, for the row it belongs to. -/
theorem pay250_at (r : Fin 512) (c : Fin 768) :
    k2_pay250 x0 x1 x2 x3 x4 x5 x6 x7 x8 x9 x10 x11 x12 x13 (ix2 r c) = (vp (par x2 x3 x4 x5 x6 x7 x8 x9 x10 x11 x12 x13) (a0 (par x2 x3 x4 x5 x6 x7 x8 x9 x10 x11 x12 x13) (st1 x0 x1 r))) c := by
  unfold k2_pay250
  pointwise [k2_pay107, k2_pay103]
  simp only [pay206_at, pay208_at, pay209_at, pay245_at]
  first | rfl | (simp only [vp, qkv, lin, rms, msq]; done) | (simp only [vp, qkv, lin, rms, msq]; rfl)

/-- The value `k2_pay251` at an index, for the row it belongs to. -/
theorem pay251_at (r : Fin 512) (c : Fin 768) :
    k2_pay251 x0 x1 x2 x3 x4 x5 x6 x7 x8 x9 x10 x11 x12 x13 (ix2 r c) = (qp (par x2 x3 x4 x5 x6 x7 x8 x9 x10 x11 x12 x13) (a1 (par x2 x3 x4 x5 x6 x7 x8 x9 x10 x11 x12 x13) (st1 x0 x1 r))) c := by
  unfold k2_pay251
  pointwise [k2_pay108, k2_pay104, k2_pay102]
  simp only [pay206_at, pay208_at, pay209_at, pay213_at, pay244_at, pay246_at]
  first | rfl | (simp only [qp, kp, vp, qkv, lin, rms, msq, a1, stp, ffn]; done) | (simp only [qp, kp, vp, qkv, lin, rms, msq, a1, stp, ffn]; rfl)

/-- The value `k2_pay252` at an index, for the row it belongs to. -/
theorem pay252_at (r : Fin 512) (c : Fin 768) :
    k2_pay252 x0 x1 x2 x3 x4 x5 x6 x7 x8 x9 x10 x11 x12 x13 (ix2 r c) = (kp (par x2 x3 x4 x5 x6 x7 x8 x9 x10 x11 x12 x13) (a1 (par x2 x3 x4 x5 x6 x7 x8 x9 x10 x11 x12 x13) (st1 x0 x1 r))) c := by
  unfold k2_pay252
  pointwise [k2_pay109, k2_pay104, k2_pay102]
  simp only [pay206_at, pay208_at, pay209_at, pay213_at, pay244_at, pay246_at]
  first | rfl | (simp only [qp, kp, vp, qkv, lin, rms, msq, a1, stp, ffn]; done) | (simp only [qp, kp, vp, qkv, lin, rms, msq, a1, stp, ffn]; rfl)

/-- The value `k2_pay253` at an index, for the row it belongs to. -/
theorem pay253_at (r : Fin 512) (c : Fin 768) :
    k2_pay253 x0 x1 x2 x3 x4 x5 x6 x7 x8 x9 x10 x11 x12 x13 (ix2 r c) = (vp (par x2 x3 x4 x5 x6 x7 x8 x9 x10 x11 x12 x13) (a1 (par x2 x3 x4 x5 x6 x7 x8 x9 x10 x11 x12 x13) (st1 x0 x1 r))) c := by
  unfold k2_pay253
  pointwise [k2_pay110, k2_pay104, k2_pay102]
  simp only [pay206_at, pay208_at, pay209_at, pay213_at, pay244_at, pay246_at]
  first | rfl | (simp only [qp, kp, vp, qkv, lin, rms, msq, a1, stp, ffn]; done) | (simp only [qp, kp, vp, qkv, lin, rms, msq, a1, stp, ffn]; rfl)

/-- The value `k2_pay254` at an index, for the row it belongs to. -/
theorem pay254_at (r : Fin 512) (c : Fin 768) :
    k2_pay254 x0 x1 x2 x3 x4 x5 x6 x7 x8 x9 x10 x11 x12 x13 (ix2 r c) = (qp (par x2 x3 x4 x5 x6 x7 x8 x9 x10 x11 x12 x13) (a0 (par x2 x3 x4 x5 x6 x7 x8 x9 x10 x11 x12 x13) (st1 x0 x1 r))) c * (kp (par x2 x3 x4 x5 x6 x7 x8 x9 x10 x11 x12 x13) (a0 (par x2 x3 x4 x5 x6 x7 x8 x9 x10 x11 x12 x13) (st1 x0 x1 r))) c := by
  unfold k2_pay254
  pointwise [k2_pay111, k2_pay105, k2_pay106, k2_pay103]
  simp only [pay206_at, pay208_at, pay209_at, pay245_at]
  first | rfl | (simp only [qp, kp, qkv, lin, rms, msq]; done) | (simp only [qp, kp, qkv, lin, rms, msq]; rfl)

/-- The value `k2_pay255` at an index, for the row it belongs to. -/
theorem pay255_at (r : Fin 512)  :
    k2_pay255 x0 x1 x2 x3 x4 x5 x6 x7 x8 x9 x10 x11 x12 x13 (ix2 r (0 : Fin 1)) = hdot (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 0 := by
  unfold k2_pay255
  pointwise [k2_pay112, k2_pay111, k2_pay105, k2_pay106, k2_pay103]
  simp only [pay206_at, pay208_at, pay209_at, pay214_at, pay245_at]
  first | rfl | (simp only [hdot, qp, kp, qkv, lin, rms, msq]; done) | (simp only [hdot, qp, kp, qkv, lin, rms, msq]; rfl)

/-- The value `k2_pay256` at an index, for the row it belongs to. -/
theorem pay256_at (r : Fin 512)  :
    k2_pay256 x0 x1 x2 x3 x4 x5 x6 x7 x8 x9 x10 x11 x12 x13 (ix2 r (0 : Fin 1)) = hdot (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 1 := by
  unfold k2_pay256
  pointwise [k2_pay114, k2_pay113, k2_pay111, k2_pay105, k2_pay106, k2_pay103]
  simp only [pay206_at, pay208_at, pay209_at, pay215_at, pay245_at]
  first | rfl | (simp only [hdot, qp, kp, qkv, lin, rms, msq]; done) | (simp only [hdot, qp, kp, qkv, lin, rms, msq]; rfl)

/-- The value `k2_pay257` at an index, for the row it belongs to. -/
theorem pay257_at (r : Fin 512)  :
    k2_pay257 x0 x1 x2 x3 x4 x5 x6 x7 x8 x9 x10 x11 x12 x13 (ix2 r (0 : Fin 1)) = hdot (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3 := by
  unfold k2_pay257
  pointwise [k2_pay116]
  simp only [pay217_at, pay254_at]
  first | rfl | (simp only [hdot]; done) | (simp only [hdot]; rfl)

/-- The value `k2_pay258` at an index, for the row it belongs to. -/
theorem pay258_at (r : Fin 512)  :
    k2_pay258 x0 x1 x2 x3 x4 x5 x6 x7 x8 x9 x10 x11 x12 x13 (ix2 r (0 : Fin 1)) = hdot (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 0 := by
  unfold k2_pay258
  pointwise [k2_pay118, k2_pay117]
  simp only [pay214_at, pay248_at, pay252_at]
  first | rfl | (simp only [hdot]; done) | (simp only [hdot]; rfl)

/-- The value `k2_pay259` at an index, for the row it belongs to. -/
theorem pay259_at (r : Fin 512)  :
    k2_pay259 x0 x1 x2 x3 x4 x5 x6 x7 x8 x9 x10 x11 x12 x13 (ix2 r (0 : Fin 1)) = hdot (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 1 := by
  unfold k2_pay259
  pointwise [k2_pay119, k2_pay117]
  simp only [pay215_at, pay248_at, pay252_at]
  first | rfl | (simp only [hdot]; done) | (simp only [hdot]; rfl)

/-- The value `k2_pay260` at an index, for the row it belongs to. -/
theorem pay260_at (r : Fin 512)  :
    k2_pay260 x0 x1 x2 x3 x4 x5 x6 x7 x8 x9 x10 x11 x12 x13 (ix2 r (0 : Fin 1)) = hdot (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3 := by
  unfold k2_pay260
  pointwise [k2_pay121, k2_pay117]
  simp only [pay217_at, pay248_at, pay252_at]
  first | rfl | (simp only [hdot]; done) | (simp only [hdot]; rfl)

/-- The value `k2_pay261` at an index, for the row it belongs to. -/
theorem pay261_at (r : Fin 512)  :
    k2_pay261 x0 x1 x2 x3 x4 x5 x6 x7 x8 x9 x10 x11 x12 x13 (ix2 r (0 : Fin 1)) = hdot (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 0 := by
  unfold k2_pay261
  pointwise [k2_pay123, k2_pay122]
  simp only [pay214_at, pay249_at, pay251_at]
  first | rfl | (simp only [hdot]; done) | (simp only [hdot]; rfl)

/-- The value `k2_pay262` at an index, for the row it belongs to. -/
theorem pay262_at (r : Fin 512)  :
    k2_pay262 x0 x1 x2 x3 x4 x5 x6 x7 x8 x9 x10 x11 x12 x13 (ix2 r (0 : Fin 1)) = hdot (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 1 := by
  unfold k2_pay262
  pointwise [k2_pay124, k2_pay122]
  simp only [pay215_at, pay249_at, pay251_at]
  first | rfl | (simp only [hdot]; done) | (simp only [hdot]; rfl)

/-- The value `k2_pay263` at an index, for the row it belongs to. -/
theorem pay263_at (r : Fin 512)  :
    k2_pay263 x0 x1 x2 x3 x4 x5 x6 x7 x8 x9 x10 x11 x12 x13 (ix2 r (0 : Fin 1)) = hdot (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3 := by
  unfold k2_pay263
  pointwise [k2_pay126, k2_pay122]
  simp only [pay217_at, pay249_at, pay251_at]
  first | rfl | (simp only [hdot]; done) | (simp only [hdot]; rfl)

/-- The value `k2_pay264` at an index, for the row it belongs to. -/
theorem pay264_at (r : Fin 512) (c : Fin 768) :
    k2_pay264 x0 x1 x2 x3 x4 x5 x6 x7 x8 x9 x10 x11 x12 x13 (ix2 r c) = (qp (par x2 x3 x4 x5 x6 x7 x8 x9 x10 x11 x12 x13) (a1 (par x2 x3 x4 x5 x6 x7 x8 x9 x10 x11 x12 x13) (st1 x0 x1 r))) c * (kp (par x2 x3 x4 x5 x6 x7 x8 x9 x10 x11 x12 x13) (a1 (par x2 x3 x4 x5 x6 x7 x8 x9 x10 x11 x12 x13) (st1 x0 x1 r))) c := by
  unfold k2_pay264
  pointwise [k2_pay127]
  simp only [pay251_at, pay252_at]

/-- The value `k2_pay265` at an index, for the row it belongs to. -/
theorem pay265_at (r : Fin 512)  :
    k2_pay265 x0 x1 x2 x3 x4 x5 x6 x7 x8 x9 x10 x11 x12 x13 (ix2 r (0 : Fin 1)) = hdot (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 0 := by
  unfold k2_pay265
  pointwise [k2_pay128, k2_pay127]
  simp only [pay214_at, pay251_at, pay252_at]
  first | rfl | (simp only [hdot]; done) | (simp only [hdot]; rfl)

/-- The value `k2_pay266` at an index, for the row it belongs to. -/
theorem pay266_at (r : Fin 512)  :
    k2_pay266 x0 x1 x2 x3 x4 x5 x6 x7 x8 x9 x10 x11 x12 x13 (ix2 r (0 : Fin 1)) = hdot (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 1 := by
  unfold k2_pay266
  pointwise [k2_pay130, k2_pay129]
  simp only [pay215_at, pay264_at]
  first | rfl | (simp only [hdot]; done) | (simp only [hdot]; rfl)

/-- The value `k2_pay267` at an index, for the row it belongs to. -/
theorem pay267_at (r : Fin 512)  :
    k2_pay267 x0 x1 x2 x3 x4 x5 x6 x7 x8 x9 x10 x11 x12 x13 (ix2 r (0 : Fin 1)) = hdot (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 2 := by
  unfold k2_pay267
  pointwise [k2_pay131]
  simp only [pay216_at, pay264_at]
  first | rfl | (simp only [hdot]; done) | (simp only [hdot]; rfl)

/-- The value `k2_pay268` at an index, for the row it belongs to. -/
theorem pay268_at (r : Fin 512)  :
    k2_pay268 x0 x1 x2 x3 x4 x5 x6 x7 x8 x9 x10 x11 x12 x13 (ix2 r (0 : Fin 1)) = hdot (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3 := by
  unfold k2_pay268
  pointwise [k2_pay132]
  simp only [pay217_at, pay264_at]
  first | rfl | (simp only [hdot]; done) | (simp only [hdot]; rfl)

/-- The value `k2_pay269` at an index, for the row it belongs to. -/
theorem pay269_at (r : Fin 512)  :
    k2_pay269 x0 x1 x2 x3 x4 x5 x6 x7 x8 x9 x10 x11 x12 x13 (ix2 r (0 : Fin 1)) = sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 2 := by
  unfold k2_pay269
  pointwise [k2_pay166, k2_pay115]
  simp only [pay216_at, pay254_at]
  first | rfl | (simp only [sc, hdot]; done) | (simp only [sc, hdot]; rfl)

/-- The value `k2_pay270` at an index, for the row it belongs to. -/
theorem pay270_at (r : Fin 512)  :
    k2_pay270 x0 x1 x2 x3 x4 x5 x6 x7 x8 x9 x10 x11 x12 x13 (ix2 r (0 : Fin 1)) = sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 2 := by
  unfold k2_pay270
  pointwise [k2_pay167, k2_pay120, k2_pay117]
  simp only [pay216_at, pay248_at, pay252_at]
  first | rfl | (simp only [sc, hdot]; done) | (simp only [sc, hdot]; rfl)

/-- The value `k2_pay271` at an index, for the row it belongs to. -/
theorem pay271_at (r : Fin 512)  :
    k2_pay271 x0 x1 x2 x3 x4 x5 x6 x7 x8 x9 x10 x11 x12 x13 (ix2 r (0 : Fin 1)) = sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 2 := by
  unfold k2_pay271
  pointwise [k2_pay168, k2_pay125, k2_pay122]
  simp only [pay216_at, pay249_at, pay251_at]
  first | rfl | (simp only [sc, hdot]; done) | (simp only [sc, hdot]; rfl)

/-- The value `k2_pay272` at an index, for the row it belongs to. -/
theorem pay272_at (r : Fin 512) (c : Fin 768) :
    k2_pay272 x0 x1 x2 x3 x4 x5 x6 x7 x8 x9 x10 x11 x12 x13 (ix2 r c) = acc3 (aw0 (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r)))) c := by
  unfold k2_pay272
  pointwise [k2_pay178, k2_pay162, k2_pay147, k2_pay140, k2_pay142, k2_pay141, k2_pay136, k2_pay139, k2_pay135, k2_pay155, k2_pay157, k2_pay156, k2_pay151, k2_pay154, k2_pay150, k2_pay171, k2_pay173, k2_pay172, k2_pay170]
  simp only [pay214_at, pay215_at, pay216_at, pay255_at, pay256_at, pay258_at, pay259_at, pay269_at, pay270_at]
  first | rfl | (simp only [acc3, aw0, aw1, wt0, wt1, ex0, ex1, sc, hdot]; done) | (simp only [acc3, aw0, aw1, wt0, wt1, ex0, ex1, sc, hdot]; rfl)

/-- The value `k2_pay273` at an index, for the row it belongs to. -/
theorem pay273_at (r : Fin 512) (c : Fin 768) :
    k2_pay273 x0 x1 x2 x3 x4 x5 x6 x7 x8 x9 x10 x11 x12 x13 (ix2 r c) = acc3 (aw1 (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r)))) c := by
  unfold k2_pay273
  pointwise [k2_pay179, k2_pay163, k2_pay148, k2_pay141, k2_pay142, k2_pay140, k2_pay135, k2_pay139, k2_pay136, k2_pay156, k2_pay157, k2_pay155, k2_pay150, k2_pay154, k2_pay151, k2_pay172, k2_pay173, k2_pay171, k2_pay170]
  simp only [pay214_at, pay215_at, pay216_at, pay255_at, pay256_at, pay258_at, pay259_at, pay269_at, pay270_at]
  first | rfl | (simp only [acc3, aw0, aw1, wt0, wt1, ex0, ex1, sc, hdot]; done) | (simp only [acc3, aw0, aw1, wt0, wt1, ex0, ex1, sc, hdot]; rfl)

/-- The value `k2_pay274` at an index, for the row it belongs to. -/
theorem pay274_at (r : Fin 512) (c : Fin 768) :
    k2_pay274 x0 x1 x2 x3 x4 x5 x6 x7 x8 x9 x10 x11 x12 x13 (ix2 r c) = acc3 (aw0 (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r)))) c := by
  unfold k2_pay274
  pointwise [k2_pay180, k2_pay164, k2_pay133, k2_pay149, k2_pay144, k2_pay146, k2_pay145, k2_pay138, k2_pay143, k2_pay137, k2_pay159, k2_pay161, k2_pay160, k2_pay153, k2_pay158, k2_pay152, k2_pay175, k2_pay177, k2_pay176, k2_pay169, k2_pay174]
  simp only [pay214_at, pay215_at, pay216_at, pay261_at, pay262_at, pay265_at, pay266_at, pay267_at, pay271_at]
  first | rfl | (simp only [acc3, aw0, aw1, wt0, wt1, ex0, ex1, sc, hdot]; done) | (simp only [acc3, aw0, aw1, wt0, wt1, ex0, ex1, sc, hdot]; rfl)

/-- The value `k2_pay275` at an index, for the row it belongs to. -/
theorem pay275_at (r : Fin 512) (c : Fin 768) :
    k2_pay275 x0 x1 x2 x3 x4 x5 x6 x7 x8 x9 x10 x11 x12 x13 (ix2 r c) = acc3 (aw1 (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r)))) c := by
  unfold k2_pay275
  pointwise [k2_pay181, k2_pay165, k2_pay134, k2_pay145, k2_pay146, k2_pay144, k2_pay137, k2_pay143, k2_pay138, k2_pay160, k2_pay161, k2_pay159, k2_pay152, k2_pay158, k2_pay153, k2_pay176, k2_pay177, k2_pay175, k2_pay174, k2_pay169]
  simp only [pay214_at, pay215_at, pay216_at, pay261_at, pay262_at, pay265_at, pay266_at, pay267_at, pay271_at]
  first | rfl | (simp only [acc3, aw0, aw1, wt0, wt1, ex0, ex1, sc, hdot]; done) | (simp only [acc3, aw0, aw1, wt0, wt1, ex0, ex1, sc, hdot]; rfl)

/-- The value `k2_pay276` at an index, for the row it belongs to. -/
theorem pay276_at (r : Fin 512)  :
    k2_pay276 x0 x1 x2 x3 x4 x5 x6 x7 x8 x9 x10 x11 x12 x13 (ix2 r (0 : Fin 1)) = ex1 (sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3) (sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3) := by
  unfold k2_pay276
  pointwise [k2_pay188, k2_pay183, k2_pay186, k2_pay182]
  simp only [pay257_at, pay260_at]
  first | rfl | (simp only [ex0, ex1, sc]; done) | (simp only [ex0, ex1, sc]; rfl)

/-- The value `k2_pay277` at an index, for the row it belongs to. -/
theorem pay277_at (r : Fin 512)  :
    k2_pay277 x0 x1 x2 x3 x4 x5 x6 x7 x8 x9 x10 x11 x12 x13 (ix2 r (0 : Fin 1)) = ex0 (sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3) (sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3) + ex1 (sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3) (sc (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3) := by
  unfold k2_pay277
  pointwise [k2_pay189, k2_pay187, k2_pay188, k2_pay183, k2_pay186, k2_pay182]
  simp only [pay257_at, pay260_at]
  first | rfl | (simp only [ex0, ex1, sc]; done) | (simp only [ex0, ex1, sc]; rfl)

/-- The value `k2_pay278` at an index, for the row it belongs to. -/
theorem pay278_at (r : Fin 512)  :
    k2_pay278 x0 x1 x2 x3 x4 x5 x6 x7 x8 x9 x10 x11 x12 x13 (ix2 r (0 : Fin 1)) = ex0 (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3) (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3) := by
  unfold k2_pay278
  pointwise [k2_pay191, k2_pay184, k2_pay190, k2_pay185]
  simp only [pay263_at, pay268_at]
  first | rfl | (simp only [ex0, ex1, sc]; done) | (simp only [ex0, ex1, sc]; rfl)

/-- The value `k2_pay279` at an index, for the row it belongs to. -/
theorem pay279_at (r : Fin 512)  :
    k2_pay279 x0 x1 x2 x3 x4 x5 x6 x7 x8 x9 x10 x11 x12 x13 (ix2 r (0 : Fin 1)) = ex1 (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3) (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3) := by
  unfold k2_pay279
  pointwise [k2_pay192, k2_pay185, k2_pay190, k2_pay184]
  simp only [pay263_at, pay268_at]
  first | rfl | (simp only [ex0, ex1, sc]; done) | (simp only [ex0, ex1, sc]; rfl)

/-- The value `k2_pay280` at an index, for the row it belongs to. -/
theorem pay280_at (r : Fin 512)  :
    k2_pay280 x0 x1 x2 x3 x4 x5 x6 x7 x8 x9 x10 x11 x12 x13 (ix2 r (0 : Fin 1)) = ex0 (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3) (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3) + ex1 (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) 3) (sc (par x2 x3 x4 x5 x6 x7 x8 x9 x10 x11 x12 x13) (qp (par x2 x3 x4 x5 x6 x7 x8 x9 x10 x11 x12 x13) (a1 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r))) 3) := by
  unfold k2_pay280
  pointwise [k2_pay193, k2_pay191, k2_pay192, k2_pay185, k2_pay190, k2_pay184]
  simp only [pay263_at, pay268_at]
  first | rfl | (simp only [ex0, ex1, sc]; done) | (simp only [ex0, ex1, sc]; rfl)

/-- The value `k2_pay281` at an index, for the row it belongs to. -/
theorem pay281_at (r : Fin 512) (c : Fin 768) :
    k2_pay281 x0 x1 x2 x3 x4 x5 x6 x7 x8 x9 x10 x11 x12 x13 (ix2 r c) = (aw0 (par x2 x3 x4 x5 x6 x7 x8 x9 x10 x11 x12 x13) (qp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a0 (par x2 x3 x4 x5 x6 x7 x8 x9 x10 x11 x12 x13) (st1 x0 x1 r))) (kp (par x2 x3 x4 x5 x6 x7 x8 x9 x10 x11 x12 x13) (a1 (par x2 x3 x4 x5 x6 x7 x8 x9 x10 x11 x12 x13) (st1 x0 x1 r)))) 3 := by
  unfold k2_pay281
  pointwise [k2_pay194, k2_pay187, k2_pay189, k2_pay188, k2_pay183, k2_pay186, k2_pay182]
  simp only [pay257_at, pay260_at]
  first | rfl | (simp only [aw0, wt0, ex0, ex1, sc]; done) | (simp only [aw0, wt0, ex0, ex1, sc]; rfl)

/-- The value `k2_pay282` at an index, for the row it belongs to. -/
theorem pay282_at (r : Fin 512) (c : Fin 768) :
    k2_pay282 x0 x1 x2 x3 x4 x5 x6 x7 x8 x9 x10 x11 x12 x13 (ix2 r c) = (proj (par x2 x3 x4 x5 x6 x7 x8 x9 x10 x11 x12 x13) (a1 (par x2 x3 x4 x5 x6 x7 x8 x9 x10 x11 x12 x13) (st1 x0 x1 r)) (a0 (par x2 x3 x4 x5 x6 x7 x8 x9 x10 x11 x12 x13) (st1 x0 x1 r)) (a1 (par x2 x3 x4 x5 x6 x7 x8 x9 x10 x11 x12 x13) (st1 x0 x1 r))) c := by
  unfold k2_pay282
  pointwise [k2_pay196]
  simp only [pay210_at, pay211_at, pay217_at, pay247_at, pay250_at, pay253_at, pay274_at, pay275_at, pay278_at, pay279_at, pay280_at]
  first | rfl | (simp only [proj, attOf, att, acc4, acc3, lin, aw0, aw1, wt0, wt1, ex0, ex1, sc, hdot]; done) | (simp only [proj, attOf, att, acc4, acc3, lin, aw0, aw1, wt0, wt1, ex0, ex1, sc, hdot]; rfl)

/-- The value `k2_pay283` at an index, for the row it belongs to. -/
theorem pay283_at (r : Fin 512)  :
    k2_pay283 x0 x1 x2 x3 x4 x5 x6 x7 x8 x9 x10 x11 x12 x13 (ix2 r (0 : Fin 1)) = msq (proj (par x2 x3 x4 x5 x6 x7 x8 x9 x10 x11 x12 x13) (a1 (par x2 x3 x4 x5 x6 x7 x8 x9 x10 x11 x12 x13) (st1 x0 x1 r)) (a0 (par x2 x3 x4 x5 x6 x7 x8 x9 x10 x11 x12 x13) (st1 x0 x1 r)) (a1 (par x2 x3 x4 x5 x6 x7 x8 x9 x10 x11 x12 x13) (st1 x0 x1 r))) := by
  unfold k2_pay283
  pointwise [k2_pay198, k2_pay196]
  simp only [pay210_at, pay211_at, pay217_at, pay247_at, pay250_at, pay253_at, pay274_at, pay275_at, pay278_at, pay279_at, pay280_at]
  first | rfl | (simp only [msq, proj, attOf, att, acc4, acc3, lin, aw0, aw1, wt0, wt1, ex0, ex1, sc]; done) | (simp only [msq, proj, attOf, att, acc4, acc3, lin, aw0, aw1, wt0, wt1, ex0, ex1, sc]; rfl)

/-- The region's output block at a row and lane: the token's collaboration. -/
theorem out2_at (r : Fin 512) (c : Fin 768) : out2_14 x0 x1 x2 x3 x4 x5 x6 x7 x8 x9 x10 x11 x12 x13 (ix2 r c) = outRow (par x2 x3 x4 x5 x6 x7 x8 x9 x10 x11 x12 x13) (x1 (ix2 r (0 : Fin 1))) (st1 x0 x1 r) c := by
  unfold out2_14
  rw [View.canon_unit_zero hz]
  pointwise [k2_pay1, k2_pay199, k2_pay195, k2_pay197, k2_pay200, k2_pay201, k2_pay202, ld_r0, ld_r2, ld_r5, ld_r6]
  simp only [pay207_at, pay210_at, pay211_at, pay212_at, pay213_at, pay217_at, pay245_at, pay250_at, pay253_at, pay272_at, pay273_at, pay276_at, pay277_at, pay281_at, pay282_at, pay283_at]
  simp only [outRow, fuse, gate, gath, lin, b0, b1, stp, ffn, act, gelu, hid, rms, msq, proj, attOf, att, acc4, aw0, aw1, wt0, wt1, ex0, ex1, sc]
  rfl

end Cert.KernelIdeal.Val
-- ==== Proof.Region01.lean ====
/- The arrays the three regions leave, at an index: the router's logits, the experts' outputs slot by slot, and the
   collaboration's output row by row. -/
module

public import proofs.«01_k».proof.Proof.Region2
public import proofs.«01_k».proof.Proof.Gen.KernelIdeal.Points
public import Idealize.ShloMosaic.Lib.Pipeline.ValueKit

@[expose] public section

set_option maxRecDepth 16384

noncomputable section

namespace Cert.KernelIdeal.Val

open Cert.KernelIdeal.Gen Cert.Collab
open Idealize.ShloMosaic Idealize.ShloMosaic.TcCoe

variable (V : (c : Dev nD) → (b : Ref sig .tc) → Buf (Elt Ideal) ((c : Thread nD τ).loc b))

/-- The windows' block indices, region 0. -/
theorem idx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

/-- The router's logits: each token's row against each expert's. -/
def logits (x : Vec Ideal S2048x768 .f32) (w : Vec Ideal S16x768 .f32) : Vec Ideal S2048x16 .f32 :=
  fun i => ∑ d : Fin 768, x (ix2 (i 0) d) * w (ix2 (i 1) d)

/-- Region 0 leaves the logits. -/
theorem region0 (c : Dev nD) : (dat0 V c).arrAt 2 cfg0.N = logits (V c main_call0_v0) (V c main_arg1) := by
  refine (dat0 V c).arrAt_eq_of_covers 2 (logits (V c main_call0_v0) (V c main_arg1)) (by decide +kernel) fun t hf y => ?_
  blk_simp
  rw [after0_2]
  frame_out
  idx_vars y
  pointwise [k0_pay1, logits]
  blk_point [iblk0, (idx0 t).1, (idx0 t).2.1, (idx0 t).2.2]

/-- The windows' block indices, region 1. -/
theorem idx1 : ∀ t : Fin cfg1.N, win1_0.index t = ![(grid1.coords t 0).val, 0] ∧ win1_1.index t = ![(grid1.coords t 0).val, 0, 0] ∧ win1_2.index t = ![(grid1.coords t 0).val, 0, 0] ∧ win1_3.index t = ![(grid1.coords t 0).val, 0] :=
  (by decide +kernel : ∀ t : Fin grid1.N, _)

/-- Every expert's outputs, slot by slot: slots `256 * e` to `256 * e + 255` are expert `e`'s. -/
def experts (xs : Vec Ideal S4096x768 .f32) (w13 : Vec Ideal S16x4096x768 .f32) (w2 : Vec Ideal S16x768x2048 .f32) : Vec Ideal S4096x768 .f32 :=
  fun i => expert (fun j d => w13 (ix3 (⟨(i 0).val / 256, by have : (i 0).val < 4096 := (i 0).isLt; omega⟩ : Fin 16) j d))
    (fun j h => w2 (ix3 (⟨(i 0).val / 256, by have : (i 0).val < 4096 := (i 0).isLt; omega⟩ : Fin 16) j h)) (fun d => xs (ix2 (i 0) d)) (i 1)

/-- Region 1 leaves the experts' outputs. -/
theorem region1 (c : Dev nD) : (dat1 V c).arrAt 3 cfg1.N = experts (V c main_call0_v109) (V c main_arg2) (V c main_arg3) := by
  refine (dat1 V c).arrAt_eq_of_covers 3 (experts (V c main_call0_v109) (V c main_arg2) (V c main_arg3)) (by decide +kernel) fun t hf y => ?_
  blk_simp
  rw [after1_3]
  frame_out
  idx_vars y
  pointwise [k1_pay1, experts, expert, eg, eu]
  blk_point [iblk1, (idx1 t).1, (idx1 t).2.1, (idx1 t).2.2.1, (idx1 t).2.2.2]

/-- The blocks' rows of region 2: the gathered expert states, the kept column and the output are taken 512 rows at a
    time, every other window is its whole array. -/
theorem idx2 : ∀ t : Fin cfg2.N, win2_0.index t = ![(grid2.coords t 0).val, 0] ∧ win2_1.index t = ![(grid2.coords t 0).val, 0] ∧ win2_14.index t = ![(grid2.coords t 0).val, 0] :=
  (by decide +kernel : ∀ t : Fin grid2.N, _)

/-- Window 2 is its whole array. -/
theorem whole2_2 (c : Dev nD) (t : Fin cfg2.N) : iblk2 V c 2 t = V c main_call0_v118 := by
  have e : win2_2.index t = ![0, 0] := (by decide +kernel : ∀ t : Fin grid2.N, win2_2.index t = ![0, 0]) t
  funext j
  blk_ext! [iblk2, e]

/-- Window 3 is its whole array. -/
theorem whole2_3 (c : Dev nD) (t : Fin cfg2.N) : iblk2 V c 3 t = V c main_arg5 := by
  have e : win2_3.index t = ![0, 0] := (by decide +kernel : ∀ t : Fin grid2.N, win2_3.index t = ![0, 0]) t
  funext j
  blk_ext! [iblk2, e]

/-- Window 4 is its whole array. -/
theorem whole2_4 (c : Dev nD) (t : Fin cfg2.N) : iblk2 V c 4 t = V c main_call0_v120 := by
  have e : win2_4.index t = ![0, 0] := (by decide +kernel : ∀ t : Fin grid2.N, win2_4.index t = ![0, 0]) t
  funext j
  blk_ext! [iblk2, e]

/-- Window 5 is its whole array. -/
theorem whole2_5 (c : Dev nD) (t : Fin cfg2.N) : iblk2 V c 5 t = V c main_arg7 := by
  have e : win2_5.index t = ![0, 0] := (by decide +kernel : ∀ t : Fin grid2.N, win2_5.index t = ![0, 0]) t
  funext j
  blk_ext! [iblk2, e]

/-- Window 6 is its whole array. -/
theorem whole2_6 (c : Dev nD) (t : Fin cfg2.N) : iblk2 V c 6 t = V c main_call0_v121 := by
  have e : win2_6.index t = ![0, 0] := (by decide +kernel : ∀ t : Fin grid2.N, win2_6.index t = ![0, 0]) t
  funext j
  blk_ext! [iblk2, e]

/-- Window 7 is its whole array. -/
theorem whole2_7 (c : Dev nD) (t : Fin cfg2.N) : iblk2 V c 7 t = V c main_call0_v122 := by
  have e : win2_7.index t = ![0, 0] := (by decide +kernel : ∀ t : Fin grid2.N, win2_7.index t = ![0, 0]) t
  funext j
  blk_ext! [iblk2, e]

/-- Window 8 is its whole array. -/
theorem whole2_8 (c : Dev nD) (t : Fin cfg2.N) : iblk2 V c 8 t = V c main_call0_v123 := by
  have e : win2_8.index t = ![0, 0] := (by decide +kernel : ∀ t : Fin grid2.N, win2_8.index t = ![0, 0]) t
  funext j
  blk_ext! [iblk2, e]

/-- Window 9 is its whole array. -/
theorem whole2_9 (c : Dev nD) (t : Fin cfg2.N) : iblk2 V c 9 t = V c main_arg11 := by
  have e : win2_9.index t = ![0, 0] := (by decide +kernel : ∀ t : Fin grid2.N, win2_9.index t = ![0, 0]) t
  funext j
  blk_ext! [iblk2, e]

/-- Window 10 is its whole array. -/
theorem whole2_10 (c : Dev nD) (t : Fin cfg2.N) : iblk2 V c 10 t = V c main_arg12 := by
  have e : win2_10.index t = ![0, 0] := (by decide +kernel : ∀ t : Fin grid2.N, win2_10.index t = ![0, 0]) t
  funext j
  blk_ext! [iblk2, e]

/-- Window 11 is its whole array. -/
theorem whole2_11 (c : Dev nD) (t : Fin cfg2.N) : iblk2 V c 11 t = V c main_arg13 := by
  have e : win2_11.index t = ![0, 0] := (by decide +kernel : ∀ t : Fin grid2.N, win2_11.index t = ![0, 0]) t
  funext j
  blk_ext! [iblk2, e]

/-- Window 12 is its whole array. -/
theorem whole2_12 (c : Dev nD) (t : Fin cfg2.N) : iblk2 V c 12 t = V c main_call0_v124 := by
  have e : win2_12.index t = ![0, 0] := (by decide +kernel : ∀ t : Fin grid2.N, win2_12.index t = ![0, 0]) t
  funext j
  blk_ext! [iblk2, e]

/-- Window 13 is its whole array. -/
theorem whole2_13 (c : Dev nD) (t : Fin cfg2.N) : iblk2 V c 13 t = V c main_arg15 := by
  have e : win2_13.index t = ![0, 0] := (by decide +kernel : ∀ t : Fin grid2.N, win2_13.index t = ![0, 0]) t
  funext j
  blk_ext! [iblk2, e]

/-- The collaboration's output, row by row. -/
def collab (es : Vec Ideal S2048x768 .f32) (kept : Vec Ideal S2048x1 .f32) (P : Par) : Vec Ideal S2048x768 .f32 :=
  fun i => outRow P (kept (ix2 (i 0) (0 : Fin 1))) (start (kept (ix2 (i 0) (0 : Fin 1))) fun d => es (ix2 (i 0) d)) (i 1)

end Cert.KernelIdeal.Val
-- ==== Proof.Region2Out.lean ====
/- The array the collaboration region leaves, row by row. -/
module

public import proofs.«01_k».proof.Proof.Region01

@[expose] public section

set_option maxRecDepth 16384

noncomputable section

namespace Cert.KernelIdeal.Val

open Cert.KernelIdeal.Gen Cert.Collab
open Idealize.ShloMosaic Idealize.ShloMosaic.TcCoe

variable (V : (c : Dev nD) → (b : Ref sig .tc) → Buf (Elt Ideal) ((c : Thread nD τ).loc b))

/-- The parameters region 2's windows hold. -/
def parV (c : Dev nD) : Par := par (V c main_call0_v118) (V c main_arg5) (V c main_call0_v120) (V c main_arg7) (V c main_call0_v121) (V c main_call0_v122) (V c main_call0_v123) (V c main_arg11) (V c main_arg12) (V c main_arg13) (V c main_call0_v124) (V c main_arg15)

/-- What one grid point writes back, at a row and lane. -/
theorem point2 (c : Dev nD) (t : Fin cfg2.N) (y0 : Fin 512) (y1 : Fin 768) :
    (dat2 V c).after 14 t (ix2 y0 y1) = collab (V c main_call0_v117) (V c main_call0_v119) (parV V c) (((cfg2.win 14).blk t).view.emb (ix2 y0 y1)) := by
  rw [after2_14]
  rw [whole2_2, whole2_3, whole2_4, whole2_5, whole2_6, whole2_7, whole2_8, whole2_9, whole2_10, whole2_11, whole2_12, whole2_13]
  rw [out2_at]
  have hk : iblk2 V c 1 t (ix2 y0 (0 : Fin 1)) = V c main_call0_v119 (ix2 (((cfg2.win 14).blk t).view.emb (ix2 y0 y1) 0) (0 : Fin 1)) := by
    blk_ext! [iblk2, (idx2 t).2.1, (idx2 t).2.2]
  have he : ∀ d : Fin 768, iblk2 V c 0 t (ix2 y0 d) = V c main_call0_v117 (ix2 (((cfg2.win 14).blk t).view.emb (ix2 y0 y1) 0) d) := fun d => by
    blk_ext! [iblk2, (idx2 t).1, (idx2 t).2.2]
  have h1 : ((cfg2.win 14).blk t).view.emb (ix2 y0 y1) 1 = y1 := by
    apply Fin.ext
    blk_simp [(idx2 t).2.2]
  have e1 : st1 (iblk2 V c 0 t) (iblk2 V c 1 t) y0 = start (V c main_call0_v119 (ix2 (((cfg2.win 14).blk t).view.emb (ix2 y0 y1) 0) (0 : Fin 1))) fun d => V c main_call0_v117 (ix2 (((cfg2.win 14).blk t).view.emb (ix2 y0 y1) 0) d) := by
    unfold st1
    rw [hk]
    exact congrArg _ (funext he)
  rw [e1, hk]
  unfold collab
  rw [h1]
  rfl

/-- Region 2 leaves the collaboration's output. -/
theorem region2 (c : Dev nD) : (dat2 V c).arrAt 14 cfg2.N = collab (V c main_call0_v117) (V c main_call0_v119) (parV V c) := by
  refine (dat2 V c).arrAt_eq_of_covers 14 (collab (V c main_call0_v117) (V c main_call0_v119) (parV V c)) (by decide +kernel) fun t hf y => ?_
  have h := point2 V c t (y 0) (y 1)
  rw [← eq_ix2 y] at h
  exact h

end Cert.KernelIdeal.Val
-- ==== Proof.KOut.lean ====
/- The kernel's results in terms of its arguments: the host stretches and the three launches put together. -/
module

public import proofs.«01_k».proof.Proof.KSlots
public import proofs.«01_k».proof.Proof.Host023
public import proofs.«01_k».proof.Proof.Region2Out
public import proofs.«01_k».proof.Proof.RefOut

@[expose] public section

set_option maxRecDepth 16384

noncomputable section

namespace Cert.KernelIdeal.Val

open Cert.KernelIdeal.Gen Cert.Rank Cert.Consts Cert.Words Cert.Collab Cert.ReferenceIdeal.Read
open Cert.ReferenceIdeal.Val (pick best rpar)
open Idealize.ShloMosaic Idealize.ShloMosaic.Routing Idealize.ShloMosaic.TcCoe Idealize.ShloMosaic.Tactic

variable (m : (ℓ : Loc nD τ sig) → Buf (Elt Ideal) ℓ) (ρ : Dev nD → PrngReg) (c : Dev nD)

/-- The tokens' rows keep through the router's launch and the host code after it. -/
theorem rows_keep : h1_v0 m ρ c = h0_v0 m ρ c :=
  (W3_of m ρ c main_call0_v0 (by decide +kernel)).trans (W2_of m ρ c main_call0_v0 (by decide +kernel))

/-- The tokens' rows are those of the first argument. -/
theorem rows_at (n : Fin 2048) (d : Fin 768) : h1_v0 m ρ c (ix2 n d) = (m ((c : Thread nD τ).loc main_arg0) : FVec Ideal S1x2048x768 .f32) (ix3 (0 : Fin 1) n d) := by
  rw [rows_keep, h0_v0_eq]
  have h : h0_main_arg0 m ρ c = m ((c : Thread nD τ).loc main_arg0) := W1_args m ρ c main_arg0 (by decide +kernel)
  rw [h]
  pointwise

/-- The router's logits are the reference's. -/
theorem logits_eq : h1_v1 m ρ c = val_main_v2 (F := Ideal) (m ((c : Thread nD τ).loc main_arg0)) (m ((c : Thread nD τ).loc main_arg1)) := by
  have h : h1_v1 m ρ c = logits (h0_v0 m ρ c) (W1 m ρ c (Proc.devRef .tc main_arg1)) :=
    (W3_of m ρ c main_call0_v1 (by decide +kernel)).trans ((W2_arr m ρ c 2).trans (region0 (V1 m ρ) c))
  rw [h, W1_args m ρ c main_arg1 (by decide +kernel)]
  funext i
  obtain ⟨n, e, rfl⟩ : ∃ n e, i = ix2 n e := ⟨_, _, eq_ix2 i⟩
  pointwise [val_main_v2, val_main_v1, val_main_v0]
  unfold logits
  refine Finset.sum_congr rfl fun d _ => ?_
  rw [← rows_keep]
  exact congrArg (· * _) (rows_at m ρ c n d)

/-- The auxiliary loss at the end is that of the host code before the experts. -/
theorem aux_keep : W7 m ρ c (Proc.devRef .tc main_v0_1) = h1_main_v0_1 m ρ c :=
  (W7_of m ρ c main_v0_1 (by decide +kernel)).trans <| (W6_of m ρ c main_v0_1 (by decide +kernel)).trans <|
    (W5_of m ρ c main_v0_1 (by decide +kernel)).trans (W4_of m ρ c main_v0_1 (by decide +kernel))

/-- The probabilities at the end are those of the host code before the experts. -/
theorem probs_keep : W7 m ρ c (Proc.devRef .tc main_v0_2) = h1_main_v0_2 m ρ c :=
  (W7_of m ρ c main_v0_2 (by decide +kernel)).trans <| (W6_of m ρ c main_v0_2 (by decide +kernel)).trans <|
    (W5_of m ρ c main_v0_2 (by decide +kernel)).trans (W4_of m ρ c main_v0_2 (by decide +kernel))

theorem keep83 : h2_v83 m ρ c = h1_v83 m ρ c :=
  (W5_of m ρ c main_call0_v83 (by decide +kernel)).trans (W4_of m ρ c main_call0_v83 (by decide +kernel))

theorem keep87 : h2_v87 m ρ c = h1_v87 m ρ c :=
  (W5_of m ρ c main_call0_v87 (by decide +kernel)).trans (W4_of m ρ c main_call0_v87 (by decide +kernel))

theorem keep61 : h3_v61 m ρ c = h1_v61 m ρ c :=
  (W7_of m ρ c main_call0_v61 (by decide +kernel)).trans <| (W6_of m ρ c main_call0_v61 (by decide +kernel)).trans <|
    (W5_of m ρ c main_call0_v61 (by decide +kernel)).trans (W4_of m ρ c main_call0_v61 (by decide +kernel))

/-- The experts' results as the host code after them reads them. -/
theorem experts_eq : h2_v110 m ρ c = experts (h1_v109 m ρ c) (m ((c : Thread nD τ).loc main_arg2)) (m ((c : Thread nD τ).loc main_arg3)) := by
  have h : h2_v110 m ρ c = experts (h1_v109 m ρ c) (W3 m ρ c (Proc.devRef .tc main_arg2)) (W3 m ρ c (Proc.devRef .tc main_arg3)) :=
    (W5_of m ρ c main_call0_v110 (by decide +kernel)).trans ((W4_arr m ρ c 3).trans (region1 (V3 m ρ) c))
  rw [h, W3_args m ρ c main_arg2 (by decide +kernel), W3_args m ρ c main_arg3 (by decide +kernel)]

/-- The collaboration's results as the host code after it reads them. -/
theorem collab_eq : h3_v125 m ρ c = collab (h2_v117 m ρ c) (h2_v119 m ρ c) (parV (V5 m ρ) c) :=
  (W7_of m ρ c main_call0_v125 (by decide +kernel)).trans ((W6_arr m ρ c 14).trans (region2 (V5 m ρ) c))

/-- The collaboration's parameters are the reference's. -/
theorem params_eq : parV (V5 m ρ) c = rpar (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) := by
  have h4 : h2_main_arg4 m ρ c = m ((c : Thread nD τ).loc main_arg4) := W5_args m ρ c main_arg4 (by decide +kernel)
  have h6 : h2_main_arg6 m ρ c = m ((c : Thread nD τ).loc main_arg6) := W5_args m ρ c main_arg6 (by decide +kernel)
  have h8 : h2_main_arg8 m ρ c = m ((c : Thread nD τ).loc main_arg8) := W5_args m ρ c main_arg8 (by decide +kernel)
  have h9 : h2_main_arg9 m ρ c = m ((c : Thread nD τ).loc main_arg9) := W5_args m ρ c main_arg9 (by decide +kernel)
  have h10 : h2_main_arg10 m ρ c = m ((c : Thread nD τ).loc main_arg10) := W5_args m ρ c main_arg10 (by decide +kernel)
  have h14 : h2_main_arg14 m ρ c = m ((c : Thread nD τ).loc main_arg14) := W5_args m ρ c main_arg14 (by decide +kernel)
  have hp : parV (V5 m ρ) c = par (h2_v118 m ρ c) (W5 m ρ c (Proc.devRef .tc main_arg5)) (h2_v120 m ρ c) (W5 m ρ c (Proc.devRef .tc main_arg7)) (h2_v121 m ρ c)
    (h2_v122 m ρ c) (h2_v123 m ρ c) (W5 m ρ c (Proc.devRef .tc main_arg11)) (W5 m ρ c (Proc.devRef .tc main_arg12)) (W5 m ρ c (Proc.devRef .tc main_arg13))
    (h2_v124 m ρ c) (W5 m ρ c (Proc.devRef .tc main_arg15)) := rfl
  rw [hp, W5_args m ρ c main_arg5 (by decide +kernel), W5_args m ρ c main_arg7 (by decide +kernel), W5_args m ρ c main_arg11 (by decide +kernel),
    W5_args m ρ c main_arg12 (by decide +kernel), W5_args m ρ c main_arg13 (by decide +kernel), W5_args m ρ c main_arg15 (by decide +kernel),
    h2_v118_eq, h2_v120_eq, h2_v121_eq, h2_v122_eq, h2_v123_eq, h2_v124_eq, h4, h6, h8, h9, h10, h14]
  unfold par rpar
  rw [Par.mk.injEq]
  refine ⟨?_, ?_, ?_, ?_, ?_, ?_, ?_, ?_, ?_, ?_, ?_, ?_, ?_, ?_⟩
  · funext j; pointwise
  · rfl
  · funext j; pointwise
  · rfl
  · funext j; pointwise
  · funext j; pointwise
  · funext j; pointwise
  · rfl
  · rfl
  · rfl
  · pointwise
  · rfl
  · rw [IdealRules.named_const.ideal_named_scalar _ _ _ _ rfl]
  · rw [IdealRules.named_const.ideal_named_scalar _ _ _ _ rfl]

/-- A number below 256 as a place of a table. -/
theorem place_of (a : Nat) (h : a < 256) : ∃ r : Fin 256, r.val = a := ⟨⟨a, h⟩, rfl⟩

/-- The row of a place of an expert's table. -/
theorem row_of (e : Fin 16) (s : Fin 256) : ∃ k : Fin 4096, k.val = e.val * 256 + s.val :=
  ⟨⟨e.val * 256 + s.val, by omega⟩, rfl⟩

/-- The experts' launch at a row of an expert's table. -/
theorem experts_at (xs : FVec Ideal S4096x768 .f32) (w13 : FVec Ideal S16x4096x768 .f32) (w2 : FVec Ideal S16x768x2048 .f32) (e : Fin 16) (s : Fin 256)
    (k : Fin 4096) (hk : k.val = e.val * 256 + s.val) (d : Fin 768) :
    experts xs w13 w2 (ix2 k d) = expert (fun j d => w13 (ix3 e j d)) (fun j h => w2 (ix3 e j h)) (fun d => xs (ix2 k d)) d := by
  have key : ∀ e' : Fin 16, e' = e → expert (fun j d => w13 (ix3 e' j d)) (fun j h => w2 (ix3 e' j h)) (fun d => xs (ix2 k d)) d
      = expert (fun j d => w13 (ix3 e j d)) (fun j h => w2 (ix3 e j h)) (fun d => xs (ix2 k d)) d := fun e' h => by rw [h]
  exact key ⟨k.val / 256, by omega⟩ (Fin.ext (by show k.val / 256 = e.val; omega))

/-- What a token's expert gives it: the expert's result where the token is kept, nothing where it is not. -/
def given (x0 : FVec Ideal S1x2048x768 .f32) (x1 : FVec Ideal S16x768 .f32) (x2 : FVec Ideal S16x4096x768 .f32) (x3 : FVec Ideal S16x768x2048 .f32)
    (n : Fin 2048) : Row := fun d =>
  if rnk (pick x0 x1) (best x0 x1) n < 256 then
    expert (fun j d => x2 (ix3 (pick x0 x1 n) j d)) (fun j h => x3 (ix3 (pick x0 x1 n) j h)) (fun d => x0 (ix3 (0 : Fin 1) n d)) d
  else 0

/-- Whether a token is kept, as a number. -/
def held (x0 : FVec Ideal S1x2048x768 .f32) (x1 : FVec Ideal S16x768 .f32) (n : Fin 2048) : EReal :=
  if rnk (pick x0 x1) (best x0 x1) n < 256 then 1 else 0

/-- The place of a token in the sorted order. -/
def place (x0 : FVec Ideal S1x2048x768 .f32) (x1 : FVec Ideal S16x768 .f32) (n : Fin 2048) : Fin 2048 :=
  ⟨starts (pick x0 x1) (pick x0 x1 n) + rnk (pick x0 x1) (best x0 x1) n, starts_add_rnk_lt (pick x0 x1) (best x0 x1) n⟩

/-- At a token's place is the token. -/
theorem order_place (x0 : FVec Ideal S1x2048x768 .f32) (x1 : FVec Ideal S16x768 .f32) (n : Fin 2048) :
    order (pick x0 x1) (best x0 x1) (place x0 x1 n) = n :=
  order_of_below _ _ _ _ (below_lexKey _ _ _)

/-- The kernel's `kept` mask at a token's place. -/
theorem held_at (x0 : FVec Ideal S1x2048x768 .f32) (x1 : FVec Ideal S16x768 .f32) (hv : h1_v1 m ρ c = val_main_v2 (F := Ideal) x0 x1) (n : Fin 2048) :
    h2_v119 m ρ c (ix2 (place x0 x1 n) (0 : Fin 1)) = held x0 x1 n := by
  rw [h2_v119_eq, keep83]
  pointwise
  rw [kept_at m ρ c x0 x1 hv, order_place]
  rfl

/-- The experts' row the kernel reads at a kept token's place. -/
theorem given_at (x0 : FVec Ideal S1x2048x768 .f32) (x1 : FVec Ideal S16x768 .f32) (hv : h1_v1 m ρ c = val_main_v2 (F := Ideal) x0 x1)
    (hx : ∀ n d, h1_v0 m ρ c (ix2 n d) = x0 (ix3 (0 : Fin 1) n d)) (n : Fin 2048) (hn : rnk (pick x0 x1) (best x0 x1) n < 256) (d : Fin 768) :
    h2_v117 m ρ c (ix2 (place x0 x1 n) d) = given x0 x1 (m ((c : Thread nD τ).loc main_arg2)) (m ((c : Thread nD τ).loc main_arg3)) n d := by
  obtain ⟨r, hr⟩ : ∃ r : Fin 256, r.val = rnk (pick x0 x1) (best x0 x1) n := place_of _ hn
  obtain ⟨k, hk⟩ : ∃ k : Fin 4096, k.val = (pick x0 x1 n).val * 256 + r.val := row_of (pick x0 x1 n) r
  have hs : source x0 x1 (pick x0 x1 n) r = place x0 x1 n := Fin.ext (by
    have := starts_add_rnk_lt (pick x0 x1) (best x0 x1) n
    show min 2047 (starts (pick x0 x1) (pick x0 x1 n) + r.val) = starts (pick x0 x1) (pick x0 x1 n) + rnk (pick x0 x1) (best x0 x1) n
    rw [hr]
    exact min_eq_right (by omega))
  have hm : min 255 (rnk (pick x0 x1) (best x0 x1) n) = r.val := by
    rw [← hr]; exact min_eq_right (Nat.le_of_lt_succ r.isLt)
  rw [h2_v117_eq]
  refine (gather_row gather_S4096x768_S2048x1_S2048x768_1_0_n_n_0_1_1768 rfl rfl rfl rfl rfl (h2_v110 m ρ c) (h2_v116 m ρ c) (place x0 x1 n) d
    k ?_ (by norm_num)).trans ?_
  · rw [h2_v116_eq, h2_v115_eq, h2_v114_eq, h2_v113_eq, h2_v112_eq, h2_v111_eq, h2_c_35_eq, h2_c_36_eq, keep87]
    pointwise
    rw [flat_at m ρ c x0 x1 hv, order_place, hm, guard_small _ (by omega), hk]
  · rw [experts_eq]
    refine (experts_at (h1_v109 m ρ c) _ _ (pick x0 x1 n) r k hk d).trans ?_
    unfold given
    rw [if_pos hn]
    refine congrArg (fun x => expert _ _ x d) (funext fun d => ?_)
    rw [gathered_at m ρ c x0 x1 hv (pick x0 x1 n) r k hk d, hs, order_place, hx]

/-- The kernel's first result, a token's row. -/
theorem kout_at (x0 : FVec Ideal S1x2048x768 .f32) (x1 : FVec Ideal S16x768 .f32) (hv : h1_v1 m ρ c = val_main_v2 (F := Ideal) x0 x1)
    (hx : ∀ n d, h1_v0 m ρ c (ix2 n d) = x0 (ix3 (0 : Fin 1) n d)) (n : Fin 2048) (d : Fin 768) :
    h3_main_v0_0 m ρ c (ix3 (0 : Fin 1) n d) = outRow (parV (V5 m ρ) c) (held x0 x1 n)
      (given x0 x1 (m ((c : Thread nD τ).loc main_arg2)) (m ((c : Thread nD τ).loc main_arg3)) n) d := by
  rw [h3_main_v0_0_eq]
  pointwise
  rw [h3_v132_eq]
  refine (gather_row gather_S2048x768_S2048x1_S2048x768_1_0_n_n_0_1_1768 rfl rfl rfl rfl rfl (h3_v125 m ρ c) (h3_v131 m ρ c) n d (place x0 x1 n) ?_ (by norm_num)).trans ?_
  · rw [h3_v131_eq, h3_v130_eq, h3_v129_eq, h3_v128_eq, h3_v127_eq, h3_v126_eq, h3_c_37_eq, h3_c_38_eq, keep61]
    pointwise
    have := starts_add_rnk_lt (pick x0 x1) (best x0 x1) n
    rw [place_at m ρ c x0 x1 hv, guard_small _ (by omega)]
    rfl
  · rw [collab_eq]
    show outRow (parV (V5 m ρ) c) (h2_v119 m ρ c (ix2 (place x0 x1 n) (0 : Fin 1)))
      (start (h2_v119 m ρ c (ix2 (place x0 x1 n) (0 : Fin 1))) fun d => h2_v117 m ρ c (ix2 (place x0 x1 n) d)) d = _
    rw [held_at m ρ c x0 x1 hv]
    refine congrArg (fun s => outRow (parV (V5 m ρ) c) (held x0 x1 n) s d) ?_
    funext d
    unfold start held
    by_cases hn : rnk (pick x0 x1) (best x0 x1) n < 256
    · rw [if_pos hn, one_mul]
      exact given_at m ρ c x0 x1 hv hx n hn d
    · rw [if_neg hn, zero_mul]
      unfold given
      rw [if_neg hn]

end Cert.KernelIdeal.Val
-- ==== Proof.Same.lean ====
/- The kernel's three results are the reference's, where every token can be routed. -/
module

public import proofs.«01_k».proof.Pre_routable
public import proofs.«01_k».proof.Proof.Gen.Pre_routable
public import proofs.«01_k».proof.Proof.RefSlots
public import proofs.«01_k».proof.Proof.KOut

@[expose] public section

set_option maxRecDepth 16384

noncomputable section

namespace Cert.Same

open Cert.Rank Cert.Consts Cert.Collab Cert.ReferenceIdeal.Read Cert.ReferenceIdeal.Val Cert.KernelIdeal.Val
open Idealize.ShloMosaic Idealize.ShloMosaic.TcCoe

section Pre

open Cert.Pre_routable

/-- A bit that both conditions set: both hold. -/
theorem both_bits {p q : Prop} [Decidable p] [Decidable q] (h : BitVec.ofBool (decide p) &&& BitVec.ofBool (decide q) = 1#1) : p ∧ q := by
  by_cases hp : p <;> by_cases hq : q <;> simp_all

/-- Where every token can be routed its greatest logit lies between the threshold and infinity. -/
theorem routable_best (x0 : FVec Ideal S1x2048x768 .f32) (x1 : FVec Ideal S16x768 .f32) (x2 : FVec Ideal S16x4096x768 .f32)
    (x3 : FVec Ideal S16x768x2048 .f32) (x4 : FVec Ideal S1x1x768 .f32) (x5 : FVec Ideal S2304x768 .f32) (x6 : FVec Ideal S2304 .f32)
    (x7 : FVec Ideal S768x768 .f32) (x8 x9 x10 : FVec Ideal S768 .f32) (x11 x12 : FVec Ideal S768x768 .f32)
    (x13 : FVec Ideal S1x768 .f32) (x14 : FVec Ideal S1 .f32) (x15 : FVec Ideal S768x768 .f32)
    (h : fn (F := Ideal) x0 x1 x2 x3 x4 x5 x6 x7 x8 x9 x10 x11 x12 x13 x14 x15 = fun _ => 1#1) (n : Fin 2048) :
    Ideal.ofBits .f32 0xEFA18F08#32 < best x0 x1 n ∧ best x0 x1 n < ⊤ := by
  have hn := congrFun h (ix1 n)
  have hm : fn (F := Ideal) x0 x1 x2 x3 x4 x5 x6 x7 x8 x9 x10 x11 x12 x13 x14 x15 (ix1 n)
      = BitVec.ofBool (decide (Ideal.ofBits .f32 0xEFA18F08#32 < best x0 x1 n)) &&& BitVec.ofBool (decide (best x0 x1 n < Ideal.ofBits .f32 0x7F800000#32)) := by
    unfold fn
    pointwise
    have hf : Finset.fold max (Ideal.ofBits .f32 0xFF800000#32) (fun e => ∑ d, x0 (ix3 (0 : Fin 1) n d) * x1 (ix2 e d)) Finset.univ = best x0 x1 n := by
      rw [bits_bot]
      refine Eq.trans (congrArg (fun f => Finset.fold max ⊥ f Finset.univ) ?_) (pick_top x0 x1 n).fold_max
      funext e
      pointwise [val_main_v2, val_main_v1, val_main_v0]
    rw [hf]
    rfl
  have hb := hm.symm.trans hn
  rw [bits_top] at hb
  exact both_bits hb

end Pre

section Out

open Cert.KernelIdeal Cert.KernelIdeal.Gen

variable (m : (ℓ : Loc nD τ sig) → Buf (Elt Ideal) ℓ) (ρ : Dev nD → PrngReg) (c : Dev nD)
  (hb : ∀ n, Ideal.ofBits .f32 0xEFA18F08#32 < best (m ((c : Thread nD τ).loc main_arg0)) (m ((c : Thread nD τ).loc main_arg1)) n ∧ best (m ((c : Thread nD τ).loc main_arg0)) (m ((c : Thread nD τ).loc main_arg1)) n < ⊤)
include hb

/-- The greatest logits are finite. -/
theorem best_finite (n : Fin 2048) : ⊥ < best (m ((c : Thread nD τ).loc main_arg0)) (m ((c : Thread nD τ).loc main_arg1)) n ∧ best (m ((c : Thread nD τ).loc main_arg0)) (m ((c : Thread nD τ).loc main_arg1)) n < ⊤ :=
  ⟨bot_lt_threshold.trans (hb n).1, (hb n).2⟩

/-- The first result: the output. -/
theorem out_same : W7 m ρ c (Proc.devRef .tc main_v0_0) = val_main_v303 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  obtain ⟨z, n, d, rfl⟩ : ∃ z n d, i = ix3 z n d := ⟨_, _, _, eq_ix3 i⟩
  obtain rfl : z = 0 := Subsingleton.elim _ _
  refine (kout_at m ρ c (m ((c : Thread nD τ).loc main_arg0)) (m ((c : Thread nD τ).loc main_arg1)) (logits_eq m ρ c) (rows_at m ρ c) n d).trans ?_
  rw [out_at, wgt_at, v11_at _ _ _ (best_finite m c hb n), one_mul, keep_at _ _ _ fun n => (hb n).1, params_eq]
  have hg : (fun d => val_main_v95 (F := Ideal) (m ((c : Thread nD τ).loc main_arg0)) (m ((c : Thread nD τ).loc main_arg1)) (m ((c : Thread nD τ).loc main_arg2)) (m ((c : Thread nD τ).loc main_arg3)) (ix2 n d)) = given (m ((c : Thread nD τ).loc main_arg0)) (m ((c : Thread nD τ).loc main_arg1)) (m ((c : Thread nD τ).loc main_arg2)) (m ((c : Thread nD τ).loc main_arg3)) n :=
    funext fun d => back_at (m ((c : Thread nD τ).loc main_arg0)) (m ((c : Thread nD τ).loc main_arg1)) (m ((c : Thread nD τ).loc main_arg2)) (m ((c : Thread nD τ).loc main_arg3)) n d fun n => (hb n).1
  rw [hg]
  rfl

/-- The second result: the auxiliary loss. -/
theorem aux_same : W7 m ρ c (Proc.devRef .tc main_v0_1) = val_main_v114 (F := Ideal) (m ((c : Thread nD τ).loc main_arg0)) (m ((c : Thread nD τ).loc main_arg1)) :=
  (aux_keep m ρ c).trans (aux_eq m ρ c _ _ (logits_eq m ρ c) (best_finite m c hb))

omit hb

/-- The third result: the router's probabilities. -/
theorem probs_same : W7 m ρ c (Proc.devRef .tc main_v0_2) = val_main_v22 (F := Ideal) (m ((c : Thread nD τ).loc main_arg0)) (m ((c : Thread nD τ).loc main_arg1)) :=
  (probs_keep m ρ c).trans (probs_eq m ρ c _ _ (logits_eq m ρ c))

end Out

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_routable
public import proofs.«01_k».proof.Proof.KRun
public import proofs.«01_k».proof.Proof.Same
public import Idealize.ShloMosaic.Adequacy
public import Idealize.ShloMosaic.Init

@[expose] public section

noncomputable section

namespace Cert.Proof

open Idealize.ShloMosaic Idealize.SL.Sem

local instance : Cert.ReferenceIdeal.Facts := Cert.ReferenceIdeal.Gen.facts

/-- The reference's program runs, its arguments end unchanged; it declares no semaphore. -/
theorem frame_ri : Cert.quiescent_ReferenceIdeal := fun m ρ _ =>
  (θ_run (Cert.ReferenceIdeal.defs (F := Ideal)) _ _).mono
    (fun r h => ⟨fun c => (h c).2.2.2, sem_eq_zero_of_no_sems (by decide) r.2⟩)
    (Cert.ReferenceIdeal.Value.run (F := Ideal) m ρ)

/-- The two constants of the kernel that are read as real numbers: `1/√192` and `√2` round to the printed bits. -/
theorem preserved : Cert.preserves_Kernel_KernelIdeal :=
  ⟨IdealRules.named_const.statement Cert.KernelIdeal.κ "inv_sqrt_dh" .f32 0x3D93CD3A#32 _ rfl,
   IdealRules.named_const.statement Cert.KernelIdeal.κ "sqrt_two" .f32 0x3FB504F3#32 _ rfl⟩

local instance : Cert.KernelIdeal.Facts := Cert.KernelIdeal.Gen.facts

local instance : Cert.Pre_routable.Facts := Cert.Pre_routable.Gen.facts

/-- Where every token can be routed, the kernel and the reference end with the same three results. -/
theorem same : Cert.algebraic_KernelIdeal_ReferenceIdeal_pre_routable := by
  intro m g m' g' hp ha
  have hb := fun c n => Cert.Same.routable_best _ _ _ _ _ _ _ _ _ _ _ _ _ _ _ _ (hp c) n
  refine ⟨fun c => Cert.KernelIdeal.Gen.W7 m g c (Proc.devRef .tc Cert.KernelIdeal.main_v0_0),
    fun c => Cert.KernelIdeal.Gen.W7 m g c (Proc.devRef .tc Cert.KernelIdeal.main_v0_1),
    fun c => Cert.KernelIdeal.Gen.W7 m g c (Proc.devRef .tc Cert.KernelIdeal.main_v0_2), Cert.KernelIdeal.Val.run m g, ?_⟩
  refine (θ_run (Cert.ReferenceIdeal.defs (F := Ideal)) _ _).mono (fun r h c => ?_) (Cert.ReferenceIdeal.Value.run (F := Ideal) m' g')
  obtain ⟨r0, r1, r2, rs⟩ := h c
  obtain ⟨h0, h1, h2, h3, h4, h5, h6, h7, h8, h9, h10, h11, h12, h13, h14, h15⟩ := ha c
  refine ⟨(r0.trans (Cert.ReferenceIdeal.Read.val_main_v303_eq _)).trans ?_, (r1.trans (Cert.ReferenceIdeal.Read.val_main_v114_eq _)).trans ?_,
    (r2.trans (Cert.ReferenceIdeal.Read.val_main_v22_eq _)).trans ?_, rs⟩
  · refine Eq.trans ?_ (Cert.Same.out_same m g c (hb c)).symm
    rw [← h0, ← h1, ← h2, ← h3, ← h4, ← h5, ← h6, ← h7, ← h8, ← h9, ← h10, ← h11, ← h12, ← h13, ← h14, ← h15]
  · refine Eq.trans ?_ (Cert.Same.aux_same m g c (hb c)).symm
    rw [← h0, ← h1]
  · refine Eq.trans ?_ (Cert.Same.probs_same m g c).symm
    rw [← h0, ← h1]

/-- Everything the certificate claims. -/
theorem claim : Cert.Claim :=
  ⟨Cert.Kernel.Gen.facts, Cert.KernelIdeal.Gen.facts, Cert.ReferenceIdeal.Gen.facts, Cert.Pre_routable.Gen.facts,
   fun m ρ _ => Cert.Kernel.Gen.frame m ρ, fun m ρ _ => Cert.KernelIdeal.Gen.frame m ρ,
   fun m ρ _ => Cert.KernelIdeal.Gen.frame m ρ, frame_ri, fun m ρ _ => frame_ri m ρ trivial, preserved, same⟩

end Cert.Proof

end
